-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_ones_row_and_finite [hPre_ones_row_and_finite : Cert.Pre_ones_row_and_finite.Facts] (m : (ℓ : Loc Cert.KernelIdeal.nD Cert.KernelIdeal.τ Cert.KernelIdeal.sig) → Buf (Elt Ideal) ℓ) : Prop :=
  ∀ c : Dev Cert.KernelIdeal.nD,
    (Cert.Pre_ones_row_and_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_ones_row_and_finite [hPre_ones_row_and_finite : Cert.Pre_ones_row_and_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_ones_row_and_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_ones_row_and_finite [hKernelIdeal : Cert.KernelIdeal.Facts] [hPre_ones_row_and_finite : Cert.Pre_ones_row_and_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_ones_row_and_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_ones_row_and_finite [hReferenceIdeal : Cert.ReferenceIdeal.Facts] [hPre_ones_row_and_finite : Cert.Pre_ones_row_and_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_ones_row_and_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10)
      ∧ r.2.mem ((c.tc : Thread Cert.Kernel2.nD Cert.Kernel2.τ).loc Cert.Kernel2.main_arg11) = m ((c.tc : Thread Cert.Kernel2.nD Cert.Kernel2.τ).loc Cert.Kernel2.main_arg11)
      ∧ r.2.mem ((c.tc : Thread Cert.Kernel2.nD Cert.Kernel2.τ).loc Cert.Kernel2.main_arg12) = m ((c.tc : Thread Cert.Kernel2.nD Cert.Kernel2.τ).loc Cert.Kernel2.main_arg12))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
      ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11)
      ∧ r.2.mem ((c.tc : Thread Cert.Reference2Ideal.nD Cert.Reference2Ideal.τ).loc Cert.Reference2Ideal.main_arg12) = m ((c.tc : Thread Cert.Reference2Ideal.nD Cert.Reference2Ideal.τ).loc Cert.Reference2Ideal.main_arg12))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9)
      ∧ r.2.mem ((c.tc : Thread Cert.Kernel4.nD Cert.Kernel4.τ).loc Cert.Kernel4.main_arg10) = m ((c.tc : Thread Cert.Kernel4.nD Cert.Kernel4.τ).loc Cert.Kernel4.main_arg10)
      ∧ r.2.mem ((c.tc : Thread Cert.Kernel4.nD Cert.Kernel4.τ).loc Cert.Kernel4.main_arg11) = m ((c.tc : Thread Cert.Kernel4.nD Cert.Kernel4.τ).loc Cert.Kernel4.main_arg11))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
      ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10)
      ∧ r.2.mem ((c.tc : Thread Cert.Reference4Ideal.nD Cert.Reference4Ideal.τ).loc Cert.Reference4Ideal.main_arg11) = m ((c.tc : Thread Cert.Reference4Ideal.nD Cert.Reference4Ideal.τ).loc Cert.Reference4Ideal.main_arg11))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_ones_row_and_finite [hKernelIdeal : Cert.KernelIdeal.Facts] [hReferenceIdeal : Cert.ReferenceIdeal.Facts] [hPre_ones_row_and_finite : Cert.Pre_ones_row_and_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_ones_row_and_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)
      ∧ m' ((c.tc : Thread Cert.Reference2Ideal.nD Cert.Reference2Ideal.τ).loc Cert.Reference2Ideal.main_arg11) = m ((c.tc : Thread Cert.Kernel2Ideal.nD Cert.Kernel2Ideal.τ).loc Cert.Kernel2Ideal.main_arg11)
      ∧ m' ((c.tc : Thread Cert.Reference2Ideal.nD Cert.Reference2Ideal.τ).loc Cert.Reference2Ideal.main_arg12) = m ((c.tc : Thread Cert.Kernel2Ideal.nD Cert.Kernel2Ideal.τ).loc Cert.Kernel2Ideal.main_arg12)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
          ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
          ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v72) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10)
          ∧ r.2.mem ((c.tc : Thread Cert.Reference2Ideal.nD Cert.Reference2Ideal.τ).loc Cert.Reference2Ideal.main_arg11) = m' ((c.tc : Thread Cert.Reference2Ideal.nD Cert.Reference2Ideal.τ).loc Cert.Reference2Ideal.main_arg11)
          ∧ r.2.mem ((c.tc : Thread Cert.Reference2Ideal.nD Cert.Reference2Ideal.τ).loc Cert.Reference2Ideal.main_arg12) = m' ((c.tc : Thread Cert.Reference2Ideal.nD Cert.Reference2Ideal.τ).loc Cert.Reference2Ideal.main_arg12))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v40) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)
      ∧ m' ((c.tc : Thread Cert.Reference4Ideal.nD Cert.Reference4Ideal.τ).loc Cert.Reference4Ideal.main_arg10) = m ((c.tc : Thread Cert.Kernel4Ideal.nD Cert.Kernel4Ideal.τ).loc Cert.Kernel4Ideal.main_arg10)
      ∧ m' ((c.tc : Thread Cert.Reference4Ideal.nD Cert.Reference4Ideal.τ).loc Cert.Reference4Ideal.main_arg11) = m ((c.tc : Thread Cert.Kernel4Ideal.nD Cert.Kernel4Ideal.τ).loc Cert.Kernel4Ideal.main_arg11)) →
    ∃ (v0 : (c : Dev Cert.Kernel4Ideal.nD) → Buf (Elt Ideal) ((c.tc : Thread Cert.Kernel4Ideal.nD Cert.Kernel4Ideal.τ).loc Cert.Kernel4Ideal.main_v0_2)) (v1 : (c : Dev Cert.Kernel4Ideal.nD) → Buf (Elt Ideal) ((c.tc : Thread Cert.Kernel4Ideal.nD Cert.Kernel4Ideal.τ).loc Cert.Kernel4Ideal.main_v0_3)) (v2 : (c : Dev Cert.Kernel4Ideal.nD) → Buf (Elt Ideal) ((c.tc : Thread Cert.Kernel4Ideal.nD Cert.Kernel4Ideal.τ).loc Cert.Kernel4Ideal.main_v0_4)) (v3 : (c : Dev Cert.Kernel4Ideal.nD) → Buf (Elt Ideal) ((c.tc : Thread Cert.Kernel4Ideal.nD Cert.Kernel4Ideal.τ).loc Cert.Kernel4Ideal.main_v0_6)) (v4 : (c : Dev Cert.Kernel4Ideal.nD) → Buf (Elt Ideal) ((c.tc : Thread Cert.Kernel4Ideal.nD Cert.Kernel4Ideal.τ).loc Cert.Kernel4Ideal.main_v0_7)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0_2) = v0 c
          ∧ r.2.mem ((c.tc : Thread Cert.Kernel4Ideal.nD Cert.Kernel4Ideal.τ).loc Cert.Kernel4Ideal.main_v0_3) = v1 c
          ∧ r.2.mem ((c.tc : Thread Cert.Kernel4Ideal.nD Cert.Kernel4Ideal.τ).loc Cert.Kernel4Ideal.main_v0_4) = v2 c
          ∧ r.2.mem ((c.tc : Thread Cert.Kernel4Ideal.nD Cert.Kernel4Ideal.τ).loc Cert.Kernel4Ideal.main_v0_6) = v3 c
          ∧ r.2.mem ((c.tc : Thread Cert.Kernel4Ideal.nD Cert.Kernel4Ideal.τ).loc Cert.Kernel4Ideal.main_v0_7) = v4 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
          ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
          ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v68) = v0 c
          ∧ r.2.mem ((c.tc : Thread Cert.Reference4Ideal.nD Cert.Reference4Ideal.τ).loc Cert.Reference4Ideal.main_v69) = v1 c
          ∧ r.2.mem ((c.tc : Thread Cert.Reference4Ideal.nD Cert.Reference4Ideal.τ).loc Cert.Reference4Ideal.main_v70) = v2 c
          ∧ r.2.mem ((c.tc : Thread Cert.Reference4Ideal.nD Cert.Reference4Ideal.τ).loc Cert.Reference4Ideal.main_v71) = v3 c
          ∧ r.2.mem ((c.tc : Thread Cert.Reference4Ideal.nD Cert.Reference4Ideal.τ).loc Cert.Reference4Ideal.main_v72) = v4 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9)
          ∧ r.2.mem ((c.tc : Thread Cert.Reference4Ideal.nD Cert.Reference4Ideal.τ).loc Cert.Reference4Ideal.main_arg10) = m' ((c.tc : Thread Cert.Reference4Ideal.nD Cert.Reference4Ideal.τ).loc Cert.Reference4Ideal.main_arg10)
          ∧ r.2.mem ((c.tc : Thread Cert.Reference4Ideal.nD Cert.Reference4Ideal.τ).loc Cert.Reference4Ideal.main_arg11) = m' ((c.tc : Thread Cert.Reference4Ideal.nD Cert.Reference4Ideal.τ).loc Cert.Reference4Ideal.main_arg11))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_ones_row_and_finite : Cert.Pre_ones_row_and_finite.Facts),
    quiescent_Kernel (hKernel := hKernel)
    ∧ quiescent_KernelIdeal (hKernelIdeal := hKernelIdeal)
    ∧ quiescent_KernelIdeal_pre_ones_row_and_finite (hKernelIdeal := hKernelIdeal) (hPre_ones_row_and_finite := hPre_ones_row_and_finite)
    ∧ quiescent_ReferenceIdeal (hReferenceIdeal := hReferenceIdeal)
    ∧ quiescent_ReferenceIdeal_pre_ones_row_and_finite (hReferenceIdeal := hReferenceIdeal) (hPre_ones_row_and_finite := hPre_ones_row_and_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal_pre_ones_row_and_finite (hKernelIdeal := hKernelIdeal) (hReferenceIdeal := hReferenceIdeal) (hPre_ones_row_and_finite := hPre_ones_row_and_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
-- ==== Pre_ones_row_and_finite.lean ====
abbrev S8x4096x1024 : Shape := ⟨3, ![8, 4096, 1024]⟩
abbrev S8x1024x4096 : Shape := ⟨3, ![8, 1024, 4096]⟩
abbrev S8x8x128x4096 : Shape := ⟨4, ![8, 8, 128, 4096]⟩
abbrev S8x8x1x4096 : Shape := ⟨4, ![8, 8, 1, 4096]⟩
abbrev S8x8x4096 : Shape := ⟨3, ![8, 8, 4096]⟩
abbrev S_ : Shape := ⟨0, ![]⟩

class Facts : Prop where
  bitsLt_bf16_f32 : FTy.bits .bf16 < FTy.bits .f32
  shapeCasts_S8x1024x4096_S8x8x128x4096 : S8x1024x4096.ShapeCasts S8x8x128x4096
  slices_S8x8x128x4096_S8x8x1x4096_0_0_64_0 : S8x8x128x4096.Slices ![0, 0, 64, 0] S8x8x1x4096
  shapeCasts_S8x8x1x4096_S8x8x4096 : S8x8x1x4096.ShapeCasts S8x8x4096
  bcast_S_S8x8x4096 : S_.BroadcastsInDim S8x8x4096 (![] : Fin 0 → Fin S8x8x4096.rank)
  reducesTo_S8x8x4096_S_d0_1_2 : S8x8x4096.ReducesTo [0, 1, 2] S_
  h_S_ : 0 < S_.numel
  bcast_S_S8x4096x1024 : S_.BroadcastsInDim S8x4096x1024 (![] : Fin 0 → Fin S8x4096x1024.rank)
  reducesTo_S8x4096x1024_S_d0_1_2 : S8x4096x1024.ReducesTo [0, 1, 2] S_

variable [Facts]

def fn_part1 {F : FTy → Type} [FloatOps F] (main_v12 : IVec S_ 1) (main_v17 : IVec S_ 1) : IVec S_ 1 :=
  let main_v18 : IVec S_ 1 := andi main_v12 main_v17
  main_v18

def fn {F : FTy → Type} [FloatOps F] (main_arg0 : FVec F S8x4096x1024 .bf16) (main_arg1 : FVec F S8x4096x1024 .bf16) (main_arg2 : FVec F S8x1024x4096 .bf16) : IVec S_ 1 :=
  let main_v0 : FVec F S8x1024x4096 .f32 := (extf .f32 · bitsLt_bf16_f32) main_arg2
  let main_v1 : FVec F S8x8x128x4096 .f32 := shapeCast S8x8x128x4096 main_v0 shapeCasts_S8x1024x4096_S8x8x128x4096
  let main_v2 : FVec F S8x8x1x4096 .f32 := (extractStridedSlice S8x8x1x4096 ![0, 0, 64, 0] · slices_S8x8x128x4096_S8x8x1x4096_0_0_64_0) main_v1
  let main_v3 : FVec F S8x8x4096 .f32 := shapeCast S8x8x4096 main_v2 shapeCasts_S8x8x1x4096_S8x8x4096
  let main_cst : FVec F S_ .f32 := constant S_ .f32 0x3F800000#32
  let main_v4 : FVec F S8x8x4096 .f32 := broadcastInDim S8x8x4096 ![] bcast_S_S8x8x4096 main_cst
  let main_v5 : IVec S8x8x4096 1 := cmpf .oeq main_v3 main_v4
  let main_c : IVec S_ 1 := constantI S_ 1 1#1
  let main_v6 : IVec S_ 1 := (fun x v => Host.reduce IntOp.andi x v reducesTo_S8x8x4096_S_d0_1_2 h_S_) main_v5 main_c
  let main_v7 : FVec F S8x4096x1024 .f32 := (extf .f32 · bitsLt_bf16_f32) main_arg0
  let main_v8 : FVec F S8x4096x1024 .f32 := Host.absf main_v7
  let main_cst_0 : FVec F S_ .f32 := constant S_ .f32 0x7F800000#32
  let main_v9 : FVec F S8x4096x1024 .f32 := broadcastInDim S8x4096x1024 ![] bcast_S_S8x4096x1024 main_cst_0
  let main_v10 : IVec S8x4096x1024 1 := cmpf .olt main_v8 main_v9
  let main_c_1 : IVec S_ 1 := constantI S_ 1 1#1
  let main_v11 : IVec S_ 1 := (fun x v => Host.reduce IntOp.andi x v reducesTo_S8x4096x1024_S_d0_1_2 h_S_) main_v10 main_c_1
  let main_v12 : IVec S_ 1 := andi main_v6 main_v11
  let main_v13 : FVec F S8x4096x1024 .f32 := (extf .f32 · bitsLt_bf16_f32) main_arg1
  let main_v14 : FVec F S8x4096x1024 .f32 := Host.absf main_v13
  let main_cst_2 : FVec F S_ .f32 := constant S_ .f32 0x7F800000#32
  let main_v15 : FVec F S8x4096x1024 .f32 := broadcastInDim S8x4096x1024 ![] bcast_S_S8x4096x1024 main_cst_2
  let main_v16 : IVec S8x4096x1024 1 := cmpf .olt main_v14 main_v15
  let main_c_3 : IVec S_ 1 := constantI S_ 1 1#1
  let main_v17 : IVec S_ 1 := (fun x v => Host.reduce IntOp.andi x v reducesTo_S8x4096x1024_S_d0_1_2 h_S_) main_v16 main_c_3
  fn_part1 (F := F) main_v12 main_v17
-- ==== Kernel.lean ====
abbrev S8x4096x1024 : Shape := ⟨3, ![8, 4096, 1024]⟩
abbrev S8x1024x4096 : Shape := ⟨3, ![8, 1024, 4096]⟩
abbrev S8x4096x512 : Shape := ⟨3, ![8, 4096, 512]⟩
abbrev S1x512x1024 : Shape := ⟨3, ![1, 512, 1024]⟩
abbrev S1x4096x1024 : Shape := ⟨3, ![1, 4096, 1024]⟩
abbrev S1x1024x4096 : Shape := ⟨3, ![1, 1024, 4096]⟩
abbrev S1x512x512 : Shape := ⟨3, ![1, 512, 512]⟩
abbrev S8x1x512 : Shape := ⟨3, ![8, 1, 512]⟩
abbrev S8x128x512 : Shape := ⟨3, ![8, 128, 512]⟩
abbrev S512x256 : Shape := ⟨2, ![512, 256]⟩
abbrev S1x512x128 : Shape := ⟨3, ![1, 512, 128]⟩
abbrev S512x128 : Shape := ⟨2, ![512, 128]⟩
abbrev S1x256x128 : Shape := ⟨3, ![1, 256, 128]⟩
abbrev S256x128 : Shape := ⟨2, ![256, 128]⟩
abbrev S256 : Shape := ⟨1, ![256]⟩
abbrev S1x256 : Shape := ⟨2, ![1, 256]⟩
abbrev S1x1x256 : Shape := ⟨3, ![1, 1, 256]⟩
abbrev S1x128x512 : Shape := ⟨3, ![1, 128, 512]⟩
abbrev S128x512 : Shape := ⟨2, ![128, 512]⟩
abbrev S1x128x256 : Shape := ⟨3, ![1, 128, 256]⟩
abbrev S128x256 : Shape := ⟨2, ![128, 256]⟩
abbrev S512x512 : Shape := ⟨2, ![512, 512]⟩
abbrev S256x256 : Shape := ⟨2, ![256, 256]⟩
abbrev S64x512 : Shape := ⟨2, ![64, 512]⟩
abbrev S1x512 : Shape := ⟨2, ![1, 512]⟩

abbrev nBuf : Space → Nat
  | .hbm => 4
  | .vmem => 14
  | .smem => 0
  | _ => 0

abbrev bufTy : (tb : Table) → Fin (tcTables nBuf tb) → BufTy
  | .hbm, ⟨0, _⟩ => ⟨S8x4096x1024, .bf16⟩
  | .hbm, ⟨1, _⟩ => ⟨S8x4096x1024, .bf16⟩
  | .hbm, ⟨2, _⟩ => ⟨S8x1024x4096, .bf16⟩
  | .hbm, ⟨3, _⟩ => ⟨S8x4096x512, .bf16⟩
  | .local _ .vmem, ⟨0, _⟩ => ⟨S1x512x1024, .bf16⟩
  | .local _ .vmem, ⟨1, _⟩ => ⟨S1x512x1024, .bf16⟩
  | .local _ .vmem, ⟨2, _⟩ => ⟨S1x4096x1024, .bf16⟩
  | .local _ .vmem, ⟨3, _⟩ => ⟨S1x4096x1024, .bf16⟩
  | .local _ .vmem, ⟨4, _⟩ => ⟨S1x1024x4096, .bf16⟩
  | .local _ .vmem, ⟨5, _⟩ => ⟨S1x1024x4096, .bf16⟩
  | .local _ .vmem, ⟨6, _⟩ => ⟨S1x512x512, .bf16⟩
  | .local _ .vmem, ⟨7, _⟩ => ⟨S1x512x512, .bf16⟩
  | .local _ .vmem, ⟨8, _⟩ => ⟨S8x1x512, .f32⟩
  | .local _ .vmem, ⟨9, _⟩ => ⟨S8x128x512, .f32⟩
  | .local _ .vmem, ⟨10, _⟩ => ⟨S512x256, .f32⟩
  | .local _ .vmem, ⟨11, _⟩ => ⟨S512x256, .f32⟩
  | .local _ .vmem, ⟨12, _⟩ => ⟨S512x256, .f32⟩
  | .local _ .vmem, ⟨13, _⟩ => ⟨S512x256, .f32⟩
  | _, _ => ⟨S8x4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_scratch4 : Ref sig .tc := ⟨.vmem, 12, rfl⟩
abbrev cc0_scratch5 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 1, 8], ![false, false, false]⟩

@[reducible] def k0_t1_loop (i : grid0.Coords) : Scf.Loop 32 :=
  let c0_i32_6 : BitVec 32 := 0#32
  let arg2 : BitVec 32 := BitVec.ofNat 32 (i 2).val
  let v8 : BitVec 32 := Scalar.subi arg2 c0_i32_6
  let c1_i32 : BitVec 32 := 1#32
  let v10 : BitVec 32 := Scalar.divsi v8 c1_i32
  let v11 : BitVec 32 := Scalar.muli v10 c1_i32
  let v12 : BitVec 32 := Scalar.addi c0_i32_6 v11
  let c1_i32_7 : BitVec 32 := 1#32
  ⟨c0_i32_6, v12, c1_i32_7⟩
def k0_mult1 (i : grid0.Coords) (k0_t1 : Fin (k0_t1_loop i).trips) : BitVec 32 :=
  let c0_i32_6 : BitVec 32 := 0#32
  let c1_i32_7 : BitVec 32 := 1#32
  let arg13 : BitVec 32 := Scf.iv c0_i32_6 c1_i32_7 k0_t1
  let c512_i32_484 : BitVec 32 := 512#32
  let v778 : BitVec 32 := Scalar.muli arg13 c512_i32_484
  v778
def k0_off1 (i : grid0.Coords) (k0_t1 : Fin (k0_t1_loop i).trips) : Fin 3 → Nat :=
  let c0_485 : Index := 0#32
  let c0_i32_6 : BitVec 32 := 0#32
  let c1_i32_7 : BitVec 32 := 1#32
  let arg13 : BitVec 32 := Scf.iv c0_i32_6 c1_i32_7 k0_t1
  let c512_i32_484 : BitVec 32 := 512#32
  let v778 : BitVec 32 := Scalar.muli arg13 c512_i32_484
  let v779 : BitVec 32 := v778
  let v780 : Index := Scalar.indexCast v779
  let c0_486 : Index := 0#32
  ![0, v780.toNat, 0]
def k0_off2 (i : grid0.Coords) (k0_t1 : Fin (k0_t1_loop i).trips) : Fin 3 → Nat :=
  let c0_503 : Index := 0#32
  let c0_i32_6 : BitVec 32 := 0#32
  let c1_i32_7 : BitVec 32 := 1#32
  let arg13 : BitVec 32 := Scf.iv c0_i32_6 c1_i32_7 k0_t1
  let c512_i32_484 : BitVec 32 := 512#32
  let v778 : BitVec 32 := Scalar.muli arg13 c512_i32_484
  let v779 : BitVec 32 := v778
  let v802 : Index := Scalar.indexCast v779
  let c128_504 : Index := 128#32
  ![0, v802.toNat, 128]
def k0_off3 (i : grid0.Coords) (k0_t1 : Fin (k0_t1_loop i).trips) : Fin 3 → Nat :=
  let c0_529 : Index := 0#32
  let c0_530 : Index := 0#32
  let c0_i32_6 : BitVec 32 := 0#32
  let c1_i32_7 : BitVec 32 := 1#32
  let arg13 : BitVec 32 := Scf.iv c0_i32_6 c1_i32_7 k0_t1
  let c512_i32_484 : BitVec 32 := 512#32
  let v778 : BitVec 32 := Scalar.muli arg13 c512_i32_484
  let v779 : BitVec 32 := v778
  let v837 : Index := Scalar.indexCast v779
  ![0, 0, v837.toNat]
def k0_off4 (i : grid0.Coords) (k0_t1 : Fin (k0_t1_loop i).trips) : Fin 3 → Nat :=
  let c0_538 : Index := 0#32
  let c0_i32_6 : BitVec 32 := 0#32
  let c1_i32_7 : BitVec 32 := 1#32
  let arg13 : BitVec 32 := Scf.iv c0_i32_6 c1_i32_7 k0_t1
  let c512_i32_484 : BitVec 32 := 512#32
  let v778 : BitVec 32 := Scalar.muli arg13 c512_i32_484
  let v779 : BitVec 32 := v778
  let v849 : Index := Scalar.indexCast v779
  let c256_539 : Index := 256#32
  ![0, v849.toNat, 256]
def k0_off5 (i : grid0.Coords) (k0_t1 : Fin (k0_t1_loop i).trips) : Fin 3 → Nat :=
  let c0_581 : Index := 0#32
  let c128_582 : Index := 128#32
  let c0_i32_6 : BitVec 32 := 0#32
  let c1_i32_7 : BitVec 32 := 1#32
  let arg13 : BitVec 32 := Scf.iv c0_i32_6 c1_i32_7 k0_t1
  let c512_i32_484 : BitVec 32 := 512#32
  let v778 : BitVec 32 := Scalar.muli arg13 c512_i32_484
  let v779 : BitVec 32 := v778
  let v909 : Index := Scalar.indexCast v779
  ![0, 128, v909.toNat]
def k0_off6 (i : grid0.Coords) (k0_t1 : Fin (k0_t1_loop i).trips) : Fin 3 → Nat :=
  let c0_590 : Index := 0#32
  let c0_i32_6 : BitVec 32 := 0#32
  let c1_i32_7 : BitVec 32 := 1#32
  let arg13 : BitVec 32 := Scf.iv c0_i32_6 c1_i32_7 k0_t1
  let c512_i32_484 : BitVec 32 := 512#32
  let v778 : BitVec 32 := Scalar.muli arg13 c512_i32_484
  let v779 : BitVec 32 := v778
  let v921 : Index := Scalar.indexCast v779
  let c384_591 : Index := 384#32
  ![0, v921.toNat, 384]
def k0_off7 (i : grid0.Coords) (k0_t1 : Fin (k0_t1_loop i).trips) : Fin 3 → Nat :=
  let c0_633 : Index := 0#32
  let c256_634 : Index := 256#32
  let c0_i32_6 : BitVec 32 := 0#32
  let c1_i32_7 : BitVec 32 := 1#32
  let arg13 : BitVec 32 := Scf.iv c0_i32_6 c1_i32_7 k0_t1
  let c512_i32_484 : BitVec 32 := 512#32
  let v778 : BitVec 32 := Scalar.muli arg13 c512_i32_484
  let v779 : BitVec 32 := v778
  let v981 : Index := Scalar.indexCast v779
  ![0, 256, v981.toNat]
def k0_off8 (i : grid0.Coords) (k0_t1 : Fin (k0_t1_loop i).trips) : Fin 3 → Nat :=
  let c0_642 : Index := 0#32
  let c0_i32_6 : BitVec 32 := 0#32
  let c1_i32_7 : BitVec 32 := 1#32
  let arg13 : BitVec 32 := Scf.iv c0_i32_6 c1_i32_7 k0_t1
  let c512_i32_484 : BitVec 32 := 512#32
  let v778 : BitVec 32 := Scalar.muli arg13 c512_i32_484
  let v779 : BitVec 32 := v778
  let v993 : Index := Scalar.indexCast v779
  let c512_643 : Index := 512#32
  ![0, v993.toNat, 512]
def k0_off9 (i : grid0.Coords) (k0_t1 : Fin (k0_t1_loop i).trips) : Fin 3 → Nat :=
  let c0_685 : Index := 0#32
  let c384_686 : Index := 384#32
  let c0_i32_6 : BitVec 32 := 0#32
  let c1_i32_7 : BitVec 32 := 1#32
  let arg13 : BitVec 32 := Scf.iv c0_i32_6 c1_i32_7 k0_t1
  let c512_i32_484 : BitVec 32 := 512#32
  let v778 : BitVec 32 := Scalar.muli arg13 c512_i32_484
  let v779 : BitVec 32 := v778
  let v1053 : Index := Scalar.indexCast v779
  ![0, 384, v1053.toNat]
def k0_off10 (i : grid0.Coords) (k0_t1 : Fin (k0_t1_loop i).trips) : Fin 3 → Nat :=
  let c0_694 : Index := 0#32
  let c0_i32_6 : BitVec 32 := 0#32
  let c1_i32_7 : BitVec 32 := 1#32
  let arg13 : BitVec 32 := Scf.iv c0_i32_6 c1_i32_7 k0_t1
  let c512_i32_484 : BitVec 32 := 512#32
  let v778 : BitVec 32 := Scalar.muli arg13 c512_i32_484
  let v779 : BitVec 32 := v778
  let v1065 : Index := Scalar.indexCast v779
  let c640_695 : Index := 640#32
  ![0, v1065.toNat, 640]
def k0_off11 (i : grid0.Coords) (k0_t1 : Fin (k0_t1_loop i).trips) : Fin 3 → Nat :=
  let c0_737 : Index := 0#32
  let c512_738 : Index := 512#32
  let c0_i32_6 : BitVec 32 := 0#32
  let c1_i32_7 : BitVec 32 := 1#32
  let arg13 : BitVec 32 := Scf.iv c0_i32_6 c1_i32_7 k0_t1
  let c512_i32_484 : BitVec 32 := 512#32
  let v778 : BitVec 32 := Scalar.muli arg13 c512_i32_484
  let v779 : BitVec 32 := v778
  let v1125 : Index := Scalar.indexCast v779
  ![0, 512, v1125.toNat]
def k0_off12 (i : grid0.Coords) (k0_t1 : Fin (k0_t1_loop i).trips) : Fin 3 → Nat :=
  let c0_746 : Index := 0#32
  let c0_i32_6 : BitVec 32 := 0#32
  let c1_i32_7 : BitVec 32 := 1#32
  let arg13 : BitVec 32 := Scf.iv c0_i32_6 c1_i32_7 k0_t1
  let c512_i32_484 : BitVec 32 := 512#32
  let v778 : BitVec 32 := Scalar.muli arg13 c512_i32_484
  let v779 : BitVec 32 := v778
  let v1137 : Index := Scalar.indexCast v779
  let c768_747 : Index := 768#32
  ![0, v1137.toNat, 768]
def k0_off13 (i : grid0.Coords) (k0_t1 : Fin (k0_t1_loop i).trips) : Fin 3 → Nat :=
  let c0_789 : Index := 0#32
  let c640_790 : Index := 640#32
  let c0_i32_6 : BitVec 32 := 0#32
  let c1_i32_7 : BitVec 32 := 1#32
  let arg13 : BitVec 32 := Scf.iv c0_i32_6 c1_i32_7 k0_t1
  let c512_i32_484 : BitVec 32 := 512#32
  let v778 : BitVec 32 := Scalar.muli arg13 c512_i32_484
  let v779 : BitVec 32 := v778
  let v1197 : Index := Scalar.indexCast v779
  ![0, 640, v1197.toNat]
def k0_off14 (i : grid0.Coords) (k0_t1 : Fin (k0_t1_loop i).trips) : Fin 3 → Nat :=
  let c0_798 : Index := 0#32
  let c0_i32_6 : BitVec 32 := 0#32
  let c1_i32_7 : BitVec 32 := 1#32
  let arg13 : BitVec 32 := Scf.iv c0_i32_6 c1_i32_7 k0_t1
  let c512_i32_484 : BitVec 32 := 512#32
  let v778 : BitVec 32 := Scalar.muli arg13 c512_i32_484
  let v779 : BitVec 32 := v778
  let v1209 : Index := Scalar.indexCast v779
  let c896_799 : Index := 896#32
  ![0, v1209.toNat, 896]
def k0_off15 (i : grid0.Coords) (k0_t1 : Fin (k0_t1_loop i).trips) : Fin 3 → Nat :=
  let c0_841 : Index := 0#32
  let c768_842 : Index := 768#32
  let c0_i32_6 : BitVec 32 := 0#32
  let c1_i32_7 : BitVec 32 := 1#32
  let arg13 : BitVec 32 := Scf.iv c0_i32_6 c1_i32_7 k0_t1
  let c512_i32_484 : BitVec 32 := 512#32
  let v778 : BitVec 32 := Scalar.muli arg13 c512_i32_484
  let v779 : BitVec 32 := v778
  let v1269 : Index := Scalar.indexCast v779
  ![0, 768, v1269.toNat]
def k0_off16 (i : grid0.Coords) (k0_t1 : Fin (k0_t1_loop i).trips) : Fin 3 → Nat :=
  let c0_875 : Index := 0#32
  let c896_876 : Index := 896#32
  let c0_i32_6 : BitVec 32 := 0#32
  let c1_i32_7 : BitVec 32 := 1#32
  let arg13 : BitVec 32 := Scf.iv c0_i32_6 c1_i32_7 k0_t1
  let c512_i32_484 : BitVec 32 := 512#32
  let v778 : BitVec 32 := Scalar.muli arg13 c512_i32_484
  let v779 : BitVec 32 := v778
  let v1319 : Index := Scalar.indexCast v779
  ![0, 896, v1319.toNat]
@[reducible] def k0_t2_loop (i : grid0.Coords) : Scf.Loop 32 :=
  let c0_i32_6 : BitVec 32 := 0#32
  let arg2 : BitVec 32 := BitVec.ofNat 32 (i 2).val
  let v8 : BitVec 32 := Scalar.subi arg2 c0_i32_6
  let c1_i32 : BitVec 32 := 1#32
  let v10 : BitVec 32 := Scalar.divsi v8 c1_i32
  let v11 : BitVec 32 := Scalar.muli v10 c1_i32
  let v12 : BitVec 32 := Scalar.addi c0_i32_6 v11
  let v9 : BitVec 32 := Scalar.addi c0_i32_6 v8
  let c1_i32_8 : BitVec 32 := 1#32
  ⟨v12, v9, c1_i32_8⟩
def k0_mult2 (i : grid0.Coords) (k0_t2 : Fin (k0_t2_loop i).trips) : BitVec 32 :=
  let c0_i32_6 : BitVec 32 := 0#32
  let arg2 : BitVec 32 := BitVec.ofNat 32 (i 2).val
  let v8 : BitVec 32 := Scalar.subi arg2 c0_i32_6
  let c1_i32 : BitVec 32 := 1#32
  let v10 : BitVec 32 := Scalar.divsi v8 c1_i32
  let v11 : BitVec 32 := Scalar.muli v10 c1_i32
  let v12 : BitVec 32 := Scalar.addi c0_i32_6 v11
  let c1_i32_8 : BitVec 32 := 1#32
  let arg13 : BitVec 32 := Scf.iv v12 c1_i32_8 k0_t2
  let c512_i32_484 : BitVec 32 := 512#32
  let v778 : BitVec 32 := Scalar.muli arg13 c512_i32_484
  v778
def k0_off17 (i : grid0.Coords) (k0_t2 : Fin (k0_t2_loop i).trips) : Fin 3 → Nat :=
  let c0_485 : Index := 0#32
  let c0_i32_6 : BitVec 32 := 0#32
  let arg2 : BitVec 32 := BitVec.ofNat 32 (i 2).val
  let v8 : BitVec 32 := Scalar.subi arg2 c0_i32_6
  let c1_i32 : BitVec 32 := 1#32
  let v10 : BitVec 32 := Scalar.divsi v8 c1_i32
  let v11 : BitVec 32 := Scalar.muli v10 c1_i32
  let v12 : BitVec 32 := Scalar.addi c0_i32_6 v11
  let c1_i32_8 : BitVec 32 := 1#32
  let arg13 : BitVec 32 := Scf.iv v12 c1_i32_8 k0_t2
  let c512_i32_484 : BitVec 32 := 512#32
  let v778 : BitVec 32 := Scalar.muli arg13 c512_i32_484
  let v779 : BitVec 32 := v778
  let v780 : Index := Scalar.indexCast v779
  let c0_486 : Index := 0#32
  ![0, v780.toNat, 0]
def k0_off18 (i : grid0.Coords) (k0_t2 : Fin (k0_t2_loop i).trips) : Fin 3 → Nat :=
  let c0_503 : Index := 0#32
  let c0_i32_6 : BitVec 32 := 0#32
  let arg2 : BitVec 32 := BitVec.ofNat 32 (i 2).val
  let v8 : BitVec 32 := Scalar.subi arg2 c0_i32_6
  let c1_i32 : BitVec 32 := 1#32
  let v10 : BitVec 32 := Scalar.divsi v8 c1_i32
  let v11 : BitVec 32 := Scalar.muli v10 c1_i32
  let v12 : BitVec 32 := Scalar.addi c0_i32_6 v11
  let c1_i32_8 : BitVec 32 := 1#32
  let arg13 : BitVec 32 := Scf.iv v12 c1_i32_8 k0_t2
  let c512_i32_484 : BitVec 32 := 512#32
  let v778 : BitVec 32 := Scalar.muli arg13 c512_i32_484
  let v779 : BitVec 32 := v778
  let v802 : Index := Scalar.indexCast v779
  let c128_504 : Index := 128#32
  ![0, v802.toNat, 128]
def k0_off19 (i : grid0.Coords) (k0_t2 : Fin (k0_t2_loop i).trips) : Fin 3 → Nat :=
  let c0_529 : Index := 0#32
  let c0_530 : Index := 0#32
  let c0_i32_6 : BitVec 32 := 0#32
  let arg2 : BitVec 32 := BitVec.ofNat 32 (i 2).val
  let v8 : BitVec 32 := Scalar.subi arg2 c0_i32_6
  let c1_i32 : BitVec 32 := 1#32
  let v10 : BitVec 32 := Scalar.divsi v8 c1_i32
  let v11 : BitVec 32 := Scalar.muli v10 c1_i32
  let v12 : BitVec 32 := Scalar.addi c0_i32_6 v11
  let c1_i32_8 : BitVec 32 := 1#32
  let arg13 : BitVec 32 := Scf.iv v12 c1_i32_8 k0_t2
  let c512_i32_484 : BitVec 32 := 512#32
  let v778 : BitVec 32 := Scalar.muli arg13 c512_i32_484
  let v779 : BitVec 32 := v778
  let v837 : Index := Scalar.indexCast v779
  ![0, 0, v837.toNat]
def k0_off20 (i : grid0.Coords) (k0_t2 : Fin (k0_t2_loop i).trips) : Fin 3 → Nat :=
  let c0_538 : Index := 0#32
  let c0_i32_6 : BitVec 32 := 0#32
  let arg2 : BitVec 32 := BitVec.ofNat 32 (i 2).val
  let v8 : BitVec 32 := Scalar.subi arg2 c0_i32_6
  let c1_i32 : BitVec 32 := 1#32
  let v10 : BitVec 32 := Scalar.divsi v8 c1_i32
  let v11 : BitVec 32 := Scalar.muli v10 c1_i32
  let v12 : BitVec 32 := Scalar.addi c0_i32_6 v11
  let c1_i32_8 : BitVec 32 := 1#32
  let arg13 : BitVec 32 := Scf.iv v12 c1_i32_8 k0_t2
  let c512_i32_484 : BitVec 32 := 512#32
  let v778 : BitVec 32 := Scalar.muli arg13 c512_i32_484
  let v779 : BitVec 32 := v778
  let v849 : Index := Scalar.indexCast v779
  let c256_539 : Index := 256#32
  ![0, v849.toNat, 256]
def k0_off21 (i : grid0.Coords) (k0_t2 : Fin (k0_t2_loop i).trips) : Fin 3 → Nat :=
  let c0_581 : Index := 0#32
  let c128_582 : Index := 128#32
  let c0_i32_6 : BitVec 32 := 0#32
  let arg2 : BitVec 32 := BitVec.ofNat 32 (i 2).val
  let v8 : BitVec 32 := Scalar.subi arg2 c0_i32_6
  let c1_i32 : BitVec 32 := 1#32
  let v10 : BitVec 32 := Scalar.divsi v8 c1_i32
  let v11 : BitVec 32 := Scalar.muli v10 c1_i32
  let v12 : BitVec 32 := Scalar.addi c0_i32_6 v11
  let c1_i32_8 : BitVec 32 := 1#32
  let arg13 : BitVec 32 := Scf.iv v12 c1_i32_8 k0_t2
  let c512_i32_484 : BitVec 32 := 512#32
  let v778 : BitVec 32 := Scalar.muli arg13 c512_i32_484
  let v779 : BitVec 32 := v778
  let v909 : Index := Scalar.indexCast v779
  ![0, 128, v909.toNat]
def k0_off22 (i : grid0.Coords) (k0_t2 : Fin (k0_t2_loop i).trips) : Fin 3 → Nat :=
  let c0_590 : Index := 0#32
  let c0_i32_6 : BitVec 32 := 0#32
  let arg2 : BitVec 32 := BitVec.ofNat 32 (i 2).val
  let v8 : BitVec 32 := Scalar.subi arg2 c0_i32_6
  let c1_i32 : BitVec 32 := 1#32
  let v10 : BitVec 32 := Scalar.divsi v8 c1_i32
  let v11 : BitVec 32 := Scalar.muli v10 c1_i32
  let v12 : BitVec 32 := Scalar.addi c0_i32_6 v11
  let c1_i32_8 : BitVec 32 := 1#32
  let arg13 : BitVec 32 := Scf.iv v12 c1_i32_8 k0_t2
  let c512_i32_484 : BitVec 32 := 512#32
  let v778 : BitVec 32 := Scalar.muli arg13 c512_i32_484
  let v779 : BitVec 32 := v778
  let v921 : Index := Scalar.indexCast v779
  let c384_591 : Index := 384#32
  ![0, v921.toNat, 384]
def k0_off23 (i : grid0.Coords) (k0_t2 : Fin (k0_t2_loop i).trips) : Fin 3 → Nat :=
  let c0_633 : Index := 0#32
  let c256_634 : Index := 256#32
  let c0_i32_6 : BitVec 32 := 0#32
  let arg2 : BitVec 32 := BitVec.ofNat 32 (i 2).val
  let v8 : BitVec 32 := Scalar.subi arg2 c0_i32_6
  let c1_i32 : BitVec 32 := 1#32
  let v10 : BitVec 32 := Scalar.divsi v8 c1_i32
  let v11 : BitVec 32 := Scalar.muli v10 c1_i32
  let v12 : BitVec 32 := Scalar.addi c0_i32_6 v11
  let c1_i32_8 : BitVec 32 := 1#32
  let arg13 : BitVec 32 := Scf.iv v12 c1_i32_8 k0_t2
  let c512_i32_484 : BitVec 32 := 512#32
  let v778 : BitVec 32 := Scalar.muli arg13 c512_i32_484
  let v779 : BitVec 32 := v778
  let v981 : Index := Scalar.indexCast v779
  ![0, 256, v981.toNat]
def k0_off24 (i : grid0.Coords) (k0_t2 : Fin (k0_t2_loop i).trips) : Fin 3 → Nat :=
  let c0_642 : Index := 0#32
  let c0_i32_6 : BitVec 32 := 0#32
  let arg2 : BitVec 32 := BitVec.ofNat 32 (i 2).val
  let v8 : BitVec 32 := Scalar.subi arg2 c0_i32_6
  let c1_i32 : BitVec 32 := 1#32
  let v10 : BitVec 32 := Scalar.divsi v8 c1_i32
  let v11 : BitVec 32 := Scalar.muli v10 c1_i32
  let v12 : BitVec 32 := Scalar.addi c0_i32_6 v11
  let c1_i32_8 : BitVec 32 := 1#32
  let arg13 : BitVec 32 := Scf.iv v12 c1_i32_8 k0_t2
  let c512_i32_484 : BitVec 32 := 512#32
  let v778 : BitVec 32 := Scalar.muli arg13 c512_i32_484
  let v779 : BitVec 32 := v778
  let v993 : Index := Scalar.indexCast v779
  let c512_643 : Index := 512#32
  ![0, v993.toNat, 512]
def k0_off25 (i : grid0.Coords) (k0_t2 : Fin (k0_t2_loop i).trips) : Fin 3 → Nat :=
  let c0_685 : Index := 0#32
  let c384_686 : Index := 384#32
  let c0_i32_6 : BitVec 32 := 0#32
  let arg2 : BitVec 32 := BitVec.ofNat 32 (i 2).val
  let v8 : BitVec 32 := Scalar.subi arg2 c0_i32_6
  let c1_i32 : BitVec 32 := 1#32
  let v10 : BitVec 32 := Scalar.divsi v8 c1_i32
  let v11 : BitVec 32 := Scalar.muli v10 c1_i32
  let v12 : BitVec 32 := Scalar.addi c0_i32_6 v11
  let c1_i32_8 : BitVec 32 := 1#32
  let arg13 : BitVec 32 := Scf.iv v12 c1_i32_8 k0_t2
  let c512_i32_484 : BitVec 32 := 512#32
  let v778 : BitVec 32 := Scalar.muli arg13 c512_i32_484
  let v779 : BitVec 32 := v778
  let v1053 : Index := Scalar.indexCast v779
  ![0, 384, v1053.toNat]
def k0_off26 (i : grid0.Coords) (k0_t2 : Fin (k0_t2_loop i).trips) : Fin 3 → Nat :=
  let c0_694 : Index := 0#32
  let c0_i32_6 : BitVec 32 := 0#32
  let arg2 : BitVec 32 := BitVec.ofNat 32 (i 2).val
  let v8 : BitVec 32 := Scalar.subi arg2 c0_i32_6
  let c1_i32 : BitVec 32 := 1#32
  let v10 : BitVec 32 := Scalar.divsi v8 c1_i32
  let v11 : BitVec 32 := Scalar.muli v10 c1_i32
  let v12 : BitVec 32 := Scalar.addi c0_i32_6 v11
  let c1_i32_8 : BitVec 32 := 1#32
  let arg13 : BitVec 32 := Scf.iv v12 c1_i32_8 k0_t2
  let c512_i32_484 : BitVec 32 := 512#32
  let v778 : BitVec 32 := Scalar.muli arg13 c512_i32_484
  let v779 : BitVec 32 := v778
  let v1065 : Index := Scalar.indexCast v779
  let c640_695 : Index := 640#32
  ![0, v1065.toNat, 640]
def k0_off27 (i : grid0.Coords) (k0_t2 : Fin (k0_t2_loop i).trips) : Fin 3 → Nat :=
  let c0_737 : Index := 0#32
  let c512_738 : Index := 512#32
  let c0_i32_6 : BitVec 32 := 0#32
  let arg2 : BitVec 32 := BitVec.ofNat 32 (i 2).val
  let v8 : BitVec 32 := Scalar.subi arg2 c0_i32_6
  let c1_i32 : BitVec 32 := 1#32
  let v10 : BitVec 32 := Scalar.divsi v8 c1_i32
  let v11 : BitVec 32 := Scalar.muli v10 c1_i32
  let v12 : BitVec 32 := Scalar.addi c0_i32_6 v11
  let c1_i32_8 : BitVec 32 := 1#32
  let arg13 : BitVec 32 := Scf.iv v12 c1_i32_8 k0_t2
  let c512_i32_484 : BitVec 32 := 512#32
  let v778 : BitVec 32 := Scalar.muli arg13 c512_i32_484
  let v779 : BitVec 32 := v778
  let v1125 : Index := Scalar.indexCast v779
  ![0, 512, v1125.toNat]
def k0_off28 (i : grid0.Coords) (k0_t2 : Fin (k0_t2_loop i).trips) : Fin 3 → Nat :=
  let c0_746 : Index := 0#32
  let c0_i32_6 : BitVec 32 := 0#32
  let arg2 : BitVec 32 := BitVec.ofNat 32 (i 2).val
  let v8 : BitVec 32 := Scalar.subi arg2 c0_i32_6
  let c1_i32 : BitVec 32 := 1#32
  let v10 : BitVec 32 := Scalar.divsi v8 c1_i32
  let v11 : BitVec 32 := Scalar.muli v10 c1_i32
  let v12 : BitVec 32 := Scalar.addi c0_i32_6 v11
  let c1_i32_8 : BitVec 32 := 1#32
  let arg13 : BitVec 32 := Scf.iv v12 c1_i32_8 k0_t2
  let c512_i32_484 : BitVec 32 := 512#32
  let v778 : BitVec 32 := Scalar.muli arg13 c512_i32_484
  let v779 : BitVec 32 := v778
  let v1137 : Index := Scalar.indexCast v779
  let c768_747 : Index := 768#32
  ![0, v1137.toNat, 768]
def k0_off29 (i : grid0.Coords) (k0_t2 : Fin (k0_t2_loop i).trips) : Fin 3 → Nat :=
  let c0_789 : Index := 0#32
  let c640_790 : Index := 640#32
  let c0_i32_6 : BitVec 32 := 0#32
  let arg2 : BitVec 32 := BitVec.ofNat 32 (i 2).val
  let v8 : BitVec 32 := Scalar.subi arg2 c0_i32_6
  let c1_i32 : BitVec 32 := 1#32
  let v10 : BitVec 32 := Scalar.divsi v8 c1_i32
  let v11 : BitVec 32 := Scalar.muli v10 c1_i32
  let v12 : BitVec 32 := Scalar.addi c0_i32_6 v11
  let c1_i32_8 : BitVec 32 := 1#32
  let arg13 : BitVec 32 := Scf.iv v12 c1_i32_8 k0_t2
  let c512_i32_484 : BitVec 32 := 512#32
  let v778 : BitVec 32 := Scalar.muli arg13 c512_i32_484
  let v779 : BitVec 32 := v778
  let v1197 : Index := Scalar.indexCast v779
  ![0, 640, v1197.toNat]
def k0_off30 (i : grid0.Coords) (k0_t2 : Fin (k0_t2_loop i).trips) : Fin 3 → Nat :=
  let c0_798 : Index := 0#32
  let c0_i32_6 : BitVec 32 := 0#32
  let arg2 : BitVec 32 := BitVec.ofNat 32 (i 2).val
  let v8 : BitVec 32 := Scalar.subi arg2 c0_i32_6
  let c1_i32 : BitVec 32 := 1#32
  let v10 : BitVec 32 := Scalar.divsi v8 c1_i32
  let v11 : BitVec 32 := Scalar.muli v10 c1_i32
  let v12 : BitVec 32 := Scalar.addi c0_i32_6 v11
  let c1_i32_8 : BitVec 32 := 1#32
  let arg13 : BitVec 32 := Scf.iv v12 c1_i32_8 k0_t2
  let c512_i32_484 : BitVec 32 := 512#32
  let v778 : BitVec 32 := Scalar.muli arg13 c512_i32_484
  let v779 : BitVec 32 := v778
  let v1209 : Index := Scalar.indexCast v779
  let c896_799 : Index := 896#32
  ![0, v1209.toNat, 896]
def k0_off31 (i : grid0.Coords) (k0_t2 : Fin (k0_t2_loop i).trips) : Fin 3 → Nat :=
  let c0_841 : Index := 0#32
  let c768_842 : Index := 768#32
  let c0_i32_6 : BitVec 32 := 0#32
  let arg2 : BitVec 32 := BitVec.ofNat 32 (i 2).val
  let v8 : BitVec 32 := Scalar.subi arg2 c0_i32_6
  let c1_i32 : BitVec 32 := 1#32
  let v10 : BitVec 32 := Scalar.divsi v8 c1_i32
  let v11 : BitVec 32 := Scalar.muli v10 c1_i32
  let v12 : BitVec 32 := Scalar.addi c0_i32_6 v11
  let c1_i32_8 : BitVec 32 := 1#32
  let arg13 : BitVec 32 := Scf.iv v12 c1_i32_8 k0_t2
  let c512_i32_484 : BitVec 32 := 512#32
  let v778 : BitVec 32 := Scalar.muli arg13 c512_i32_484
  let v779 : BitVec 32 := v778
  let v1269 : Index := Scalar.indexCast v779
  ![0, 768, v1269.toNat]
def k0_off32 (i : grid0.Coords) (k0_t2 : Fin (k0_t2_loop i).trips) : Fin 3 → Nat :=
  let c0_875 : Index := 0#32
  let c896_876 : Index := 896#32
  let c0_i32_6 : BitVec 32 := 0#32
  let arg2 : BitVec 32 := BitVec.ofNat 32 (i 2).val
  let v8 : BitVec 32 := Scalar.subi arg2 c0_i32_6
  let c1_i32 : BitVec 32 := 1#32
  let v10 : BitVec 32 := Scalar.divsi v8 c1_i32
  let v11 : BitVec 32 := Scalar.muli v10 c1_i32
  let v12 : BitVec 32 := Scalar.addi c0_i32_6 v11
  let c1_i32_8 : BitVec 32 := 1#32
  let arg13 : BitVec 32 := Scf.iv v12 c1_i32_8 k0_t2
  let c512_i32_484 : BitVec 32 := 512#32
  let v778 : BitVec 32 := Scalar.muli arg13 c512_i32_484
  let v779 : BitVec 32 := v778
  let v1319 : Index := Scalar.indexCast v779
  ![0, 896, v1319.toNat]
def k0_mult3 (i : grid0.Coords) : BitVec 32 :=
  let arg2 : BitVec 32 := BitVec.ofNat 32 (i 2).val
  let c512_i32 : BitVec 32 := 512#32
  let v64 : BitVec 32 := Scalar.muli arg2 c512_i32
  v64
def k0_off33 (i : grid0.Coords) : Fin 3 → Nat :=
  let c0_22 : Index := 0#32
  let arg2 : BitVec 32 := BitVec.ofNat 32 (i 2).val
  let c512_i32 : BitVec 32 := 512#32
  let v64 : BitVec 32 := Scalar.muli arg2 c512_i32
  let v65 : BitVec 32 := v64
  let v66 : Index := Scalar.indexCast v65
  let c0_23 : Index := 0#32
  ![0, v66.toNat, 0]
def k0_off34 (i : grid0.Coords) : Fin 3 → Nat :=
  let c0_32 : Index := 0#32
  let arg2 : BitVec 32 := BitVec.ofNat 32 (i 2).val
  let c512_i32 : BitVec 32 := 512#32
  let v64 : BitVec 32 := Scalar.muli arg2 c512_i32
  let v65 : BitVec 32 := v64
  let v80 : Index := Scalar.indexCast v65
  let c0_33 : Index := 0#32
  ![0, v80.toNat, 0]
def k0_off35 (i : grid0.Coords) : Fin 3 → Nat :=
  let c0_41 : Index := 0#32
  let arg2 : BitVec 32 := BitVec.ofNat 32 (i 2).val
  let c512_i32 : BitVec 32 := 512#32
  let v64 : BitVec 32 := Scalar.muli arg2 c512_i32
  let v65 : BitVec 32 := v64
  let v94 : Index := Scalar.indexCast v65
  let c128 : Index := 128#32
  ![0, v94.toNat, 128]
def k0_off36 (i : grid0.Coords) : Fin 3 → Nat :=
  let c0_50 : Index := 0#32
  let arg2 : BitVec 32 := BitVec.ofNat 32 (i 2).val
  let c512_i32 : BitVec 32 := 512#32
  let v64 : BitVec 32 := Scalar.muli arg2 c512_i32
  let v65 : BitVec 32 := v64
  let v108 : Index := Scalar.indexCast v65
  let c128_51 : Index := 128#32
  ![0, v108.toNat, 128]
def k0_off37 (i : grid0.Coords) : Fin 3 → Nat :=
  let c0_68 : Index := 0#32
  let c0_69 : Index := 0#32
  let arg2 : BitVec 32 := BitVec.ofNat 32 (i 2).val
  let c512_i32 : BitVec 32 := 512#32
  let v64 : BitVec 32 := Scalar.muli arg2 c512_i32
  let v65 : BitVec 32 := v64
  let v135 : Index := Scalar.indexCast v65
  ![0, 0, v135.toNat]
def k0_off38 (i : grid0.Coords) : Fin 3 → Nat :=
  let c0_77 : Index := 0#32
  let arg2 : BitVec 32 := BitVec.ofNat 32 (i 2).val
  let c512_i32 : BitVec 32 := 512#32
  let v64 : BitVec 32 := Scalar.muli arg2 c512_i32
  let v65 : BitVec 32 := v64
  let v147 : Index := Scalar.indexCast v65
  let c256_78 : Index := 256#32
  ![0, v147.toNat, 256]
def k0_off39 (i : grid0.Coords) : Fin 3 → Nat :=
  let c0_95 : Index := 0#32
  let c0_96 : Index := 0#32
  let arg2 : BitVec 32 := BitVec.ofNat 32 (i 2).val
  let c512_i32 : BitVec 32 := 512#32
  let v64 : BitVec 32 := Scalar.muli arg2 c512_i32
  let v65 : BitVec 32 := v64
  let v174 : Index := Scalar.indexCast v65
  ![0, 0, v174.toNat]
def k0_off40 (i : grid0.Coords) : Fin 3 → Nat :=
  let c0_104 : Index := 0#32
  let arg2 : BitVec 32 := BitVec.ofNat 32 (i 2).val
  let c512_i32 : BitVec 32 := 512#32
  let v64 : BitVec 32 := Scalar.muli arg2 c512_i32
  let v65 : BitVec 32 := v64
  let v186 : Index := Scalar.indexCast v65
  let c256_105 : Index := 256#32
  ![0, v186.toNat, 256]
def k0_off41 (i : grid0.Coords) : Fin 3 → Nat :=
  let c0_121 : Index := 0#32
  let c128_122 : Index := 128#32
  let arg2 : BitVec 32 := BitVec.ofNat 32 (i 2).val
  let c512_i32 : BitVec 32 := 512#32
  let v64 : BitVec 32 := Scalar.muli arg2 c512_i32
  let v65 : BitVec 32 := v64
  let v213 : Index := Scalar.indexCast v65
  ![0, 128, v213.toNat]
def k0_off42 (i : grid0.Coords) : Fin 3 → Nat :=
  let c0_130 : Index := 0#32
  let arg2 : BitVec 32 := BitVec.ofNat 32 (i 2).val
  let c512_i32 : BitVec 32 := 512#32
  let v64 : BitVec 32 := Scalar.muli arg2 c512_i32
  let v65 : BitVec 32 := v64
  let v225 : Index := Scalar.indexCast v65
  let c384 : Index := 384#32
  ![0, v225.toNat, 384]
def k0_off43 (i : grid0.Coords) : Fin 3 → Nat :=
  let c0_147 : Index := 0#32
  let c128_148 : Index := 128#32
  let arg2 : BitVec 32 := BitVec.ofNat 32 (i 2).val
  let c512_i32 : BitVec 32 := 512#32
  let v64 : BitVec 32 := Scalar.muli arg2 c512_i32
  let v65 : BitVec 32 := v64
  let v252 : Index := Scalar.indexCast v65
  ![0, 128, v252.toNat]
def k0_off44 (i : grid0.Coords) : Fin 3 → Nat :=
  let c0_156 : Index := 0#32
  let arg2 : BitVec 32 := BitVec.ofNat 32 (i 2).val
  let c512_i32 : BitVec 32 := 512#32
  let v64 : BitVec 32 := Scalar.muli arg2 c512_i32
  let v65 : BitVec 32 := v64
  let v264 : Index := Scalar.indexCast v65
  let c384_157 : Index := 384#32
  ![0, v264.toNat, 384]
def k0_off45 (i : grid0.Coords) : Fin 3 → Nat :=
  let c0_173 : Index := 0#32
  let c256_174 : Index := 256#32
  let arg2 : BitVec 32 := BitVec.ofNat 32 (i 2).val
  let c512_i32 : BitVec 32 := 512#32
  let v64 : BitVec 32 := Scalar.muli arg2 c512_i32
  let v65 : BitVec 32 := v64
  let v291 : Index := Scalar.indexCast v65
  ![0, 256, v291.toNat]
def k0_off46 (i : grid0.Coords) : Fin 3 → Nat :=
  let c0_182 : Index := 0#32
  let arg2 : BitVec 32 := BitVec.ofNat 32 (i 2).val
  let c512_i32 : BitVec 32 := 512#32
  let v64 : BitVec 32 := Scalar.muli arg2 c512_i32
  let v65 : BitVec 32 := v64
  let v303 : Index := Scalar.indexCast v65
  let c512 : Index := 512#32
  ![0, v303.toNat, 512]
def k0_off47 (i : grid0.Coords) : Fin 3 → Nat :=
  let c0_199 : Index := 0#32
  let c256_200 : Index := 256#32
  let arg2 : BitVec 32 := BitVec.ofNat 32 (i 2).val
  let c512_i32 : BitVec 32 := 512#32
  let v64 : BitVec 32 := Scalar.muli arg2 c512_i32
  let v65 : BitVec 32 := v64
  let v330 : Index := Scalar.indexCast v65
  ![0, 256, v330.toNat]
def k0_off48 (i : grid0.Coords) : Fin 3 → Nat :=
  let c0_208 : Index := 0#32
  let arg2 : BitVec 32 := BitVec.ofNat 32 (i 2).val
  let c512_i32 : BitVec 32 := 512#32
  let v64 : BitVec 32 := Scalar.muli arg2 c512_i32
  let v65 : BitVec 32 := v64
  let v342 : Index := Scalar.indexCast v65
  let c512_209 : Index := 512#32
  ![0, v342.toNat, 512]
def k0_off49 (i : grid0.Coords) : Fin 3 → Nat :=
  let c0_225 : Index := 0#32
  let c384_226 : Index := 384#32
  let arg2 : BitVec 32 := BitVec.ofNat 32 (i 2).val
  let c512_i32 : BitVec 32 := 512#32
  let v64 : BitVec 32 := Scalar.muli arg2 c512_i32
  let v65 : BitVec 32 := v64
  let v369 : Index := Scalar.indexCast v65
  ![0, 384, v369.toNat]
def k0_off50 (i : grid0.Coords) : Fin 3 → Nat :=
  let c0_234 : Index := 0#32
  let arg2 : BitVec 32 := BitVec.ofNat 32 (i 2).val
  let c512_i32 : BitVec 32 := 512#32
  let v64 : BitVec 32 := Scalar.muli arg2 c512_i32
  let v65 : BitVec 32 := v64
  let v381 : Index := Scalar.indexCast v65
  let c640 : Index := 640#32
  ![0, v381.toNat, 640]
def k0_off51 (i : grid0.Coords) : Fin 3 → Nat :=
  let c0_251 : Index := 0#32
  let c384_252 : Index := 384#32
  let arg2 : BitVec 32 := BitVec.ofNat 32 (i 2).val
  let c512_i32 : BitVec 32 := 512#32
  let v64 : BitVec 32 := Scalar.muli arg2 c512_i32
  let v65 : BitVec 32 := v64
  let v408 : Index := Scalar.indexCast v65
  ![0, 384, v408.toNat]
def k0_off52 (i : grid0.Coords) : Fin 3 → Nat :=
  let c0_260 : Index := 0#32
  let arg2 : BitVec 32 := BitVec.ofNat 32 (i 2).val
  let c512_i32 : BitVec 32 := 512#32
  let v64 : BitVec 32 := Scalar.muli arg2 c512_i32
  let v65 : BitVec 32 := v64
  let v420 : Index := Scalar.indexCast v65
  let c640_261 : Index := 640#32
  ![0, v420.toNat, 640]
def k0_off53 (i : grid0.Coords) : Fin 3 → Nat :=
  let c0_277 : Index := 0#32
  let c512_278 : Index := 512#32
  let arg2 : BitVec 32 := BitVec.ofNat 32 (i 2).val
  let c512_i32 : BitVec 32 := 512#32
  let v64 : BitVec 32 := Scalar.muli arg2 c512_i32
  let v65 : BitVec 32 := v64
  let v447 : Index := Scalar.indexCast v65
  ![0, 512, v447.toNat]
def k0_off54 (i : grid0.Coords) : Fin 3 → Nat :=
  let c0_286 : Index := 0#32
  let arg2 : BitVec 32 := BitVec.ofNat 32 (i 2).val
  let c512_i32 : BitVec 32 := 512#32
  let v64 : BitVec 32 := Scalar.muli arg2 c512_i32
  let v65 : BitVec 32 := v64
  let v459 : Index := Scalar.indexCast v65
  let c768 : Index := 768#32
  ![0, v459.toNat, 768]
def k0_off55 (i : grid0.Coords) : Fin 3 → Nat :=
  let c0_303 : Index := 0#32
  let c512_304 : Index := 512#32
  let arg2 : BitVec 32 := BitVec.ofNat 32 (i 2).val
  let c512_i32 : BitVec 32 := 512#32
  let v64 : BitVec 32 := Scalar.muli arg2 c512_i32
  let v65 : BitVec 32 := v64
  let v486 : Index := Scalar.indexCast v65
  ![0, 512, v486.toNat]
def k0_off56 (i : grid0.Coords) : Fin 3 → Nat :=
  let c0_312 : Index := 0#32
  let arg2 : BitVec 32 := BitVec.ofNat 32 (i 2).val
  let c512_i32 : BitVec 32 := 512#32
  let v64 : BitVec 32 := Scalar.muli arg2 c512_i32
  let v65 : BitVec 32 := v64
  let v498 : Index := Scalar.indexCast v65
  let c768_313 : Index := 768#32
  ![0, v498.toNat, 768]
def k0_off57 (i : grid0.Coords) : Fin 3 → Nat :=
  let c0_329 : Index := 0#32
  let c640_330 : Index := 640#32
  let arg2 : BitVec 32 := BitVec.ofNat 32 (i 2).val
  let c512_i32 : BitVec 32 := 512#32
  let v64 : BitVec 32 := Scalar.muli arg2 c512_i32
  let v65 : BitVec 32 := v64
  let v525 : Index := Scalar.indexCast v65
  ![0, 640, v525.toNat]
def k0_off58 (i : grid0.Coords) : Fin 3 → Nat :=
  let c0_338 : Index := 0#32
  let arg2 : BitVec 32 := BitVec.ofNat 32 (i 2).val
  let c512_i32 : BitVec 32 := 512#32
  let v64 : BitVec 32 := Scalar.muli arg2 c512_i32
  let v65 : BitVec 32 := v64
  let v537 : Index := Scalar.indexCast v65
  let c896 : Index := 896#32
  ![0, v537.toNat, 896]
def k0_off59 (i : grid0.Coords) : Fin 3 → Nat :=
  let c0_355 : Index := 0#32
  let c640_356 : Index := 640#32
  let arg2 : BitVec 32 := BitVec.ofNat 32 (i 2).val
  let c512_i32 : BitVec 32 := 512#32
  let v64 : BitVec 32 := Scalar.muli arg2 c512_i32
  let v65 : BitVec 32 := v64
  let v564 : Index := Scalar.indexCast v65
  ![0, 640, v564.toNat]
def k0_off60 (i : grid0.Coords) : Fin 3 → Nat :=
  let c0_364 : Index := 0#32
  let arg2 : BitVec 32 := BitVec.ofNat 32 (i 2).val
  let c512_i32 : BitVec 32 := 512#32
  let v64 : BitVec 32 := Scalar.muli arg2 c512_i32
  let v65 : BitVec 32 := v64
  let v576 : Index := Scalar.indexCast v65
  let c896_365 : Index := 896#32
  ![0, v576.toNat, 896]
def k0_off61 (i : grid0.Coords) : Fin 3 → Nat :=
  let c0_381 : Index := 0#32
  let c768_382 : Index := 768#32
  let arg2 : BitVec 32 := BitVec.ofNat 32 (i 2).val
  let c512_i32 : BitVec 32 := 512#32
  let v64 : BitVec 32 := Scalar.muli arg2 c512_i32
  let v65 : BitVec 32 := v64
  let v603 : Index := Scalar.indexCast v65
  ![0, 768, v603.toNat]
def k0_off62 (i : grid0.Coords) : Fin 3 → Nat :=
  let c0_398 : Index := 0#32
  let c768_399 : Index := 768#32
  let arg2 : BitVec 32 := BitVec.ofNat 32 (i 2).val
  let c512_i32 : BitVec 32 := 512#32
  let v64 : BitVec 32 := Scalar.muli arg2 c512_i32
  let v65 : BitVec 32 := v64
  let v628 : Index := Scalar.indexCast v65
  ![0, 768, v628.toNat]
def k0_off63 (i : grid0.Coords) : Fin 3 → Nat :=
  let c0_414 : Index := 0#32
  let c896_415 : Index := 896#32
  let arg2 : BitVec 32 := BitVec.ofNat 32 (i 2).val
  let c512_i32 : BitVec 32 := 512#32
  let v64 : BitVec 32 := Scalar.muli arg2 c512_i32
  let v65 : BitVec 32 := v64
  let v653 : Index := Scalar.indexCast v65
  ![0, 896, v653.toNat]
def k0_off64 (i : grid0.Coords) : Fin 3 → Nat :=
  let c0_431 : Index := 0#32
  let c896_432 : Index := 896#32
  let arg2 : BitVec 32 := BitVec.ofNat 32 (i 2).val
  let c512_i32 : BitVec 32 := 512#32
  let v64 : BitVec 32 := Scalar.muli arg2 c512_i32
  let v65 : BitVec 32 := v64
  let v678 : Index := Scalar.indexCast v65
  ![0, 896, v678.toNat]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1024x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== KernelIdeal.lean ====
variable {F : FTy → Type} [FloatOps F] [Named F]
def κ : String → Option EReal := fun
  | "mask" => some ⊥
  | _ => none
-- ==== ReferenceIdeal.lean ====
abbrev S8x4096x1024 : Shape := ⟨3, ![8, 4096, 1024]⟩
abbrev S8x1024x4096 : Shape := ⟨3, ![8, 1024, 4096]⟩
abbrev S8x4096x8x128 : Shape := ⟨4, ![8, 4096, 8, 128]⟩
abbrev S8x8x128x4096 : Shape := ⟨4, ![8, 8, 128, 4096]⟩
abbrev S8x8x64x4096 : Shape := ⟨4, ![8, 8, 64, 4096]⟩
abbrev S8x8x4096x4096 : Shape := ⟨4, ![8, 8, 4096, 4096]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S1x1x4096x4096 : Shape := ⟨4, ![1, 1, 4096, 4096]⟩
abbrev S8x8x4096 : Shape := ⟨3, ![8, 8, 4096]⟩
abbrev S8x8x4096x1 : Shape := ⟨4, ![8, 8, 4096, 1]⟩
abbrev S8x4096x8x64 : Shape := ⟨4, ![8, 4096, 8, 64]⟩
abbrev S8x4096x512 : Shape := ⟨3, ![8, 4096, 512]⟩

abbrev nBuf : Space → Nat
  | .hbm => 63
  | .vmem => 0
  | .smem => 0
  | _ => 0

abbrev bufTy : (tb : Table) → Fin (tcTables nBuf tb) → BufTy
  | .hbm, ⟨0, _⟩ => ⟨S8x4096x1024, .bf16⟩
  | .hbm, ⟨1, _⟩ => ⟨S8x4096x1024, .bf16⟩
  | .hbm, ⟨2, _⟩ => ⟨S8x1024x4096, .bf16⟩
  | .hbm, ⟨3, _⟩ => ⟨S8x4096x8x128, .bf16⟩
  | .hbm, ⟨4, _⟩ => ⟨S8x4096x8x128, .bf16⟩
  | .hbm, ⟨5, _⟩ => ⟨S8x8x128x4096, .bf16⟩
  | .hbm, ⟨6, _⟩ => ⟨S8x8x64x4096, .bf16⟩
  | .hbm, ⟨7, _⟩ => ⟨S8x8x4096x4096, .f32⟩
  | .hbm, ⟨8, _⟩ => ⟨S8x8x4096x4096, .bf16⟩
  | .hbm, ⟨9, _⟩ => ⟨S8x8x4096x4096, .f32⟩
  | .hbm, ⟨10, _⟩ => ⟨S_, .f32⟩
  | .hbm, ⟨11, _⟩ => ⟨S_, .f32⟩
  | .hbm, ⟨12, _⟩ => ⟨S8x8x4096x4096, .f32⟩
  | .hbm, ⟨13, _⟩ => ⟨S8x8x4096x4096, .f32⟩
  | .hbm, ⟨14, _⟩ => ⟨S4096, .i32⟩
  | .hbm, ⟨15, _⟩ => ⟨S_, .i32⟩
  | .hbm, ⟨16, _⟩ => ⟨S_, .i32⟩
  | .hbm, ⟨17, _⟩ => ⟨S4096, .i32⟩
  | .hbm, ⟨18, _⟩ => ⟨S4096, .i32⟩
  | .hbm, ⟨19, _⟩ => ⟨S4096, .i32⟩
  | .hbm, ⟨20, _⟩ => ⟨S_, .i32⟩
  | .hbm, ⟨21, _⟩ => ⟨S4096, .i32⟩
  | .hbm, ⟨22, _⟩ => ⟨S4096, .i1⟩
  | .hbm, ⟨23, _⟩ => ⟨S4096, .i32⟩
  | .hbm, ⟨24, _⟩ => ⟨S4096, .i32⟩
  | .hbm, ⟨25, _⟩ => ⟨S_, .i32⟩
  | .hbm, ⟨26, _⟩ => ⟨S4096, .i32⟩
  | .hbm, ⟨27, _⟩ => ⟨S4096, .i1⟩
  | .hbm, ⟨28, _⟩ => ⟨S4096, .i1⟩
  | .hbm, ⟨29, _⟩ => ⟨S_, .i32⟩
  | .hbm, ⟨30, _⟩ => ⟨S4096, .i32⟩
  | .hbm, ⟨31, _⟩ => ⟨S4096, .i32⟩
  | .hbm, ⟨32, _⟩ => ⟨S4096, .i32⟩
  | .hbm, ⟨33, _⟩ => ⟨S1x4096, .i32⟩
  | .hbm, ⟨34, _⟩ => ⟨S4096x1, .i32⟩
  | .hbm, ⟨35, _⟩ => ⟨S4096x4096, .i32⟩
  | .hbm, ⟨36, _⟩ => ⟨S4096x4096, .i32⟩
  | .hbm, ⟨37, _⟩ => ⟨S4096x4096, .i1⟩
  | .hbm, ⟨38, _⟩ => ⟨S1x1x4096x4096, .i1⟩
  | .hbm, ⟨39, _⟩ => ⟨S_, .f32⟩
  | .hbm, ⟨40, _⟩ => ⟨S_, .f32⟩
  | .hbm, ⟨41, _⟩ => ⟨S8x8x4096x4096, .i1⟩
  | .hbm, ⟨42, _⟩ => ⟨S8x8x4096x4096, .f32⟩
  | .hbm, ⟨43, _⟩ => ⟨S8x8x4096x4096, .f32⟩
  | .hbm, ⟨44, _⟩ => ⟨S_, .f32⟩
  | .hbm, ⟨45, _⟩ => ⟨S8x8x4096, .f32⟩
  | .hbm, ⟨46, _⟩ => ⟨S_, .f32⟩
  | .hbm, ⟨47, _⟩ => ⟨S8x8x4096, .f32⟩
  | .hbm, ⟨48, _⟩ => ⟨S8x8x4096, .f32⟩
  | .hbm, ⟨49, _⟩ => ⟨S8x8x4096x1, .f32⟩
  | .hbm, ⟨50, _⟩ => ⟨S8x8x4096x4096, .f32⟩
  | .hbm, ⟨51, _⟩ => ⟨S8x8x4096x4096, .f32⟩
  | .hbm, ⟨52, _⟩ => ⟨S8x8x4096x4096, .f32⟩
  | .hbm, ⟨53, _⟩ => ⟨S_, .f32⟩
  | .hbm, ⟨54, _⟩ => ⟨S8x8x4096, .f32⟩
  | .hbm, ⟨55, _⟩ => ⟨S8x8x4096x1, .f32⟩
  | .hbm, ⟨56, _⟩ => ⟨S8x8x4096x4096, .f32⟩
  | .hbm, ⟨57, _⟩ => ⟨S8x8x4096x4096, .f32⟩
  | .hbm, ⟨58, _⟩ => ⟨S8x8x4096x4096, .bf16⟩
  | .hbm, ⟨59, _⟩ => ⟨S8x8x64x4096, .f32⟩
  | .hbm, ⟨60, _⟩ => ⟨S8x4096x8x64, .f32⟩
  | .hbm, ⟨61, _⟩ => ⟨S8x4096x8x64, .bf16⟩
  | .hbm, ⟨62, _⟩ => ⟨S8x4096x512, .bf16⟩
  | _, _ => ⟨S8x4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_c : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_v6 : Ref sig .tc := ⟨.hbm, 22, rfl⟩
abbrev main_call0_v7 : Ref sig .tc := ⟨.hbm, 23, rfl⟩
abbrev main_call0_v8 : Ref sig .tc := ⟨.hbm, 24, rfl⟩
abbrev main_call0_c : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_c_0 : Ref sig .tc := ⟨.hbm, 29, rfl⟩
abbrev main_call0_v12 : Ref sig .tc := ⟨.hbm, 30, rfl⟩
abbrev main_call0_v13 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_cst_0 : Ref sig .tc := ⟨.hbm, 39, rfl⟩
abbrev main_call1_v0 : Ref sig .tc := ⟨.hbm, 40, rfl⟩
abbrev main_call1_v1 : Ref sig .tc := ⟨.hbm, 41, rfl⟩
abbrev main_call1_v2 : Ref sig .tc := ⟨.hbm, 42, rfl⟩
abbrev main_v18 : Ref sig .tc := ⟨.hbm, 43, rfl⟩
abbrev main_cst_1 : Ref sig .tc := ⟨.hbm, 44, rfl⟩
abbrev main_v19 : Ref sig .tc := ⟨.hbm, 45, rfl⟩
abbrev main_cst_2 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_cst_3 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩

abbrev nD : Nat := 1
abbrev τ : Topo := Topo.v7x

variable {F : FTy → Type} [FloatOps F]
-- ==== Kernel2.lean ====
abbrev S8x4096x1024 : Shape := ⟨3, ![8, 4096, 1024]⟩
abbrev S8x9x1024 : Shape := ⟨3, ![8, 9, 1024]⟩
abbrev S8x4096x512 : Shape := ⟨3, ![8, 4096, 512]⟩
abbrev S512x1024 : Shape := ⟨2, ![512, 1024]⟩
abbrev S1024x1024 : Shape := ⟨2, ![1024, 1024]⟩
abbrev S1x1024 : Shape := ⟨2, ![1, 1024]⟩
abbrev S1024x5632 : Shape := ⟨2, ![1024, 5632]⟩
abbrev S2816x1024 : Shape := ⟨2, ![2816, 1024]⟩
abbrev S1x512x1024 : Shape := ⟨3, ![1, 512, 1024]⟩
abbrev S1x9x1024 : Shape := ⟨3, ![1, 9, 1024]⟩
abbrev S1x512x512 : Shape := ⟨3, ![1, 512, 512]⟩
abbrev S512x512 : Shape := ⟨2, ![512, 512]⟩
abbrev S1x1x1024 : Shape := ⟨3, ![1, 1, 1024]⟩
abbrev S512 : Shape := ⟨1, ![512]⟩
abbrev S512x1 : Shape := ⟨2, ![512, 1]⟩
abbrev S1024x512 : Shape := ⟨2, ![1024, 512]⟩
abbrev S1024x256 : Shape := ⟨2, ![1024, 256]⟩
abbrev S512x256 : Shape := ⟨2, ![512, 256]⟩
abbrev S256x1024 : Shape := ⟨2, ![256, 1024]⟩

abbrev nBuf : Space → Nat
  | .hbm => 14
  | .vmem => 21
  | .smem => 0
  | _ => 0

abbrev bufTy : (tb : Table) → Fin (tcTables nBuf tb) → BufTy
  | .hbm, ⟨0, _⟩ => ⟨S8x4096x1024, .f32⟩
  | .hbm, ⟨1, _⟩ => ⟨S8x9x1024, .f32⟩
  | .hbm, ⟨2, _⟩ => ⟨S8x4096x512, .bf16⟩
  | .hbm, ⟨3, _⟩ => ⟨S8x4096x512, .bf16⟩
  | .hbm, ⟨4, _⟩ => ⟨S8x4096x1024, .bf16⟩
  | .hbm, ⟨5, _⟩ => ⟨S8x4096x1024, .bf16⟩
  | .hbm, ⟨6, _⟩ => ⟨S512x1024, .bf16⟩
  | .hbm, ⟨7, _⟩ => ⟨S512x1024, .bf16⟩
  | .hbm, ⟨8, _⟩ => ⟨S1024x1024, .bf16⟩
  | .hbm, ⟨9, _⟩ => ⟨S1x1024, .f32⟩
  | .hbm, ⟨10, _⟩ => ⟨S1024x5632, .bf16⟩
  | .hbm, ⟨11, _⟩ => ⟨S2816x1024, .bf16⟩
  | .hbm, ⟨12, _⟩ => ⟨S1x1024, .f32⟩
  | .hbm, ⟨13, _⟩ => ⟨S8x4096x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x9x1024, .f32⟩
  | .local _ .vmem, ⟨3, _⟩ => ⟨S1x9x1024, .f32⟩
  | .local _ .vmem, ⟨4, _⟩ => ⟨S1x512x512, .bf16⟩
  | .local _ .vmem, ⟨5, _⟩ => ⟨S1x512x512, .bf16⟩
  | .local _ .vmem, ⟨6, _⟩ => ⟨S1x512x512, .bf16⟩
  | .local _ .vmem, ⟨7, _⟩ => ⟨S1x512x512, .bf16⟩
  | .local _ .vmem, ⟨8, _⟩ => ⟨S1x512x1024, .bf16⟩
  | .local _ .vmem, ⟨9, _⟩ => ⟨S1x512x1024, .bf16⟩
  | .local _ .vmem, ⟨10, _⟩ => ⟨S1x512x1024, .bf16⟩
  | .local _ .vmem, ⟨11, _⟩ => ⟨S1x512x1024, .bf16⟩
  | .local _ .vmem, ⟨12, _⟩ => ⟨S512x1024, .bf16⟩
  | .local _ .vmem, ⟨13, _⟩ => ⟨S512x1024, .bf16⟩
  | .local _ .vmem, ⟨14, _⟩ => ⟨S1024x1024, .bf16⟩
  | .local _ .vmem, ⟨15, _⟩ => ⟨S1x1024, .f32⟩
  | .local _ .vmem, ⟨16, _⟩ => ⟨S1024x5632, .bf16⟩
  | .local _ .vmem, ⟨17, _⟩ => ⟨S2816x1024, .bf16⟩
  | .local _ .vmem, ⟨18, _⟩ => ⟨S1x1024, .f32⟩
  | .local _ .vmem, ⟨19, _⟩ => ⟨S1x512x1024, .f32⟩
  | .local _ .vmem, ⟨20, _⟩ => ⟨S1x512x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg13_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem13_0 : DmaSem sig := 19
abbrev cc0_sem13_1 : DmaSem sig := 20

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x9x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1024x5632 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S2816x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 2 → Memref sig .tc .vmem S1x512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== Reference2Ideal.lean ====
abbrev S8x4096x1024 : Shape := ⟨3, ![8, 4096, 1024]⟩
abbrev S8x9x1024 : Shape := ⟨3, ![8, 9, 1024]⟩
abbrev S8x4096x512 : Shape := ⟨3, ![8, 4096, 512]⟩
abbrev S512x1024 : Shape := ⟨2, ![512, 1024]⟩
abbrev S1024x1024 : Shape := ⟨2, ![1024, 1024]⟩
abbrev S1x1024 : Shape := ⟨2, ![1, 1024]⟩
abbrev S1024x5632 : Shape := ⟨2, ![1024, 5632]⟩
abbrev S2816x1024 : Shape := ⟨2, ![2816, 1024]⟩
abbrev S8x1x1024 : Shape := ⟨3, ![8, 1, 1024]⟩
abbrev S8x1024 : Shape := ⟨2, ![8, 1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x4096x5632 : Shape := ⟨3, ![8, 4096, 5632]⟩
abbrev S8x4096x2816 : Shape := ⟨3, ![8, 4096, 2816]⟩

abbrev nBuf : Space → Nat
  | .hbm => 102
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x9x1024, .f32⟩
  | .hbm, ⟨2, _⟩ => ⟨S8x4096x512, .bf16⟩
  | .hbm, ⟨3, _⟩ => ⟨S8x4096x512, .bf16⟩
  | .hbm, ⟨4, _⟩ => ⟨S8x4096x1024, .bf16⟩
  | .hbm, ⟨5, _⟩ => ⟨S8x4096x1024, .bf16⟩
  | .hbm, ⟨6, _⟩ => ⟨S512x1024, .bf16⟩
  | .hbm, ⟨7, _⟩ => ⟨S512x1024, .bf16⟩
  | .hbm, ⟨8, _⟩ => ⟨S1024x1024, .bf16⟩
  | .hbm, ⟨9, _⟩ => ⟨S1x1024, .f32⟩
  | .hbm, ⟨10, _⟩ => ⟨S1024x5632, .bf16⟩
  | .hbm, ⟨11, _⟩ => ⟨S2816x1024, .bf16⟩
  | .hbm, ⟨12, _⟩ => ⟨S1x1024, .f32⟩
  | .hbm, ⟨13, _⟩ => ⟨S8x1x1024, .f32⟩
  | .hbm, ⟨14, _⟩ => ⟨S8x1024, .f32⟩
  | .hbm, ⟨15, _⟩ => ⟨S8x1x1024, .f32⟩
  | .hbm, ⟨16, _⟩ => ⟨S8x1024, .f32⟩
  | .hbm, ⟨17, _⟩ => ⟨S8x1x1024, .f32⟩
  | .hbm, ⟨18, _⟩ => ⟨S8x1024, .f32⟩
  | .hbm, ⟨19, _⟩ => ⟨S8x1x1024, .f32⟩
  | .hbm, ⟨20, _⟩ => ⟨S8x1024, .f32⟩
  | .hbm, ⟨21, _⟩ => ⟨S8x4096x512, .f32⟩
  | .hbm, ⟨22, _⟩ => ⟨S512x1024, .f32⟩
  | .hbm, ⟨23, _⟩ => ⟨S8x4096x1024, .f32⟩
  | .hbm, ⟨24, _⟩ => ⟨S8x4096x512, .f32⟩
  | .hbm, ⟨25, _⟩ => ⟨S512x1024, .f32⟩
  | .hbm, ⟨26, _⟩ => ⟨S8x4096x1024, .f32⟩
  | .hbm, ⟨27, _⟩ => ⟨S8x4096x1024, .f32⟩
  | .hbm, ⟨28, _⟩ => ⟨S8x4096x1024, .f32⟩
  | .hbm, ⟨29, _⟩ => ⟨S8x4096x1024, .f32⟩
  | .hbm, ⟨30, _⟩ => ⟨S8x4096x1024, .f32⟩
  | .hbm, ⟨31, _⟩ => ⟨S8x4096x1024, .f32⟩
  | .hbm, ⟨32, _⟩ => ⟨S8x1x1024, .f32⟩
  | .hbm, ⟨33, _⟩ => ⟨S1024x1024, .f32⟩
  | .hbm, ⟨34, _⟩ => ⟨S8x4096x1024, .f32⟩
  | .hbm, ⟨35, _⟩ => ⟨S8x4096x1024, .f32⟩
  | .hbm, ⟨36, _⟩ => ⟨S8x4096x1024, .f32⟩
  | .hbm, ⟨37, _⟩ => ⟨S8x4096x1024, .f32⟩
  | .hbm, ⟨38, _⟩ => ⟨S8x4096x1024, .f32⟩
  | .hbm, ⟨39, _⟩ => ⟨S_, .f32⟩
  | .hbm, ⟨40, _⟩ => ⟨S8x4096, .f32⟩
  | .hbm, ⟨41, _⟩ => ⟨S8x4096x1, .f32⟩
  | .hbm, ⟨42, _⟩ => ⟨S_, .f32⟩
  | .hbm, ⟨43, _⟩ => ⟨S8x4096x1, .f32⟩
  | .hbm, ⟨44, _⟩ => ⟨S8x4096x1, .f32⟩
  | .hbm, ⟨45, _⟩ => ⟨S_, .f32⟩
  | .hbm, ⟨46, _⟩ => ⟨S8x4096x1, .f32⟩
  | .hbm, ⟨47, _⟩ => ⟨S8x4096x1, .f32⟩
  | .hbm, ⟨48, _⟩ => ⟨S8x4096x1, .f32⟩
  | .hbm, ⟨49, _⟩ => ⟨S8x4096x1024, .f32⟩
  | .hbm, ⟨50, _⟩ => ⟨S8x4096x1024, .f32⟩
  | .hbm, ⟨51, _⟩ => ⟨S1x1x1024, .f32⟩
  | .hbm, ⟨52, _⟩ => ⟨S8x4096x1024, .f32⟩
  | .hbm, ⟨53, _⟩ => ⟨S8x4096x1024, .f32⟩
  | .hbm, ⟨54, _⟩ => ⟨S8x1x1024, .f32⟩
  | .hbm, ⟨55, _⟩ => ⟨S_, .f32⟩
  | .hbm, ⟨56, _⟩ => ⟨S8x1x1024, .f32⟩
  | .hbm, ⟨57, _⟩ => ⟨S8x1x1024, .f32⟩
  | .hbm, ⟨58, _⟩ => ⟨S8x4096x1024, .f32⟩
  | .hbm, ⟨59, _⟩ => ⟨S8x4096x1024, .f32⟩
  | .hbm, ⟨60, _⟩ => ⟨S8x1x1024, .f32⟩
  | .hbm, ⟨61, _⟩ => ⟨S8x4096x1024, .f32⟩
  | .hbm, ⟨62, _⟩ => ⟨S8x4096x1024, .f32⟩
  | .hbm, ⟨63, _⟩ => ⟨S1024x5632, .f32⟩
  | .hbm, ⟨64, _⟩ => ⟨S8x4096x5632, .f32⟩
  | .hbm, ⟨65, _⟩ => ⟨S8x4096x2816, .f32⟩
  | .hbm, ⟨66, _⟩ => ⟨S8x4096x2816, .f32⟩
  | .hbm, ⟨67, _⟩ => ⟨S8x1x1024, .f32⟩
  | .hbm, ⟨68, _⟩ => ⟨S_, .f32⟩
  | .hbm, ⟨69, _⟩ => ⟨S8x1x1024, .f32⟩
  | .hbm, ⟨70, _⟩ => ⟨S8x1x1024, .f32⟩
  | .hbm, ⟨71, _⟩ => ⟨S8x4096x2816, .f32⟩
  | .hbm, ⟨72, _⟩ => ⟨S8x4096x2816, .f32⟩
  | .hbm, ⟨73, _⟩ => ⟨S_, .f32⟩
  | .hbm, ⟨74, _⟩ => ⟨S8x4096x2816, .f32⟩
  | .hbm, ⟨75, _⟩ => ⟨S8x4096x2816, .f32⟩
  | .hbm, ⟨76, _⟩ => ⟨S_, .f32⟩
  | .hbm, ⟨77, _⟩ => ⟨S8x4096x2816, .f32⟩
  | .hbm, ⟨78, _⟩ => ⟨S8x4096x2816, .f32⟩
  | .hbm, ⟨79, _⟩ => ⟨S8x4096x2816, .f32⟩
  | .hbm, ⟨80, _⟩ => ⟨S8x4096x2816, .f32⟩
  | .hbm, ⟨81, _⟩ => ⟨S2816x1024, .f32⟩
  | .hbm, ⟨82, _⟩ => ⟨S8x4096x1024, .f32⟩
  | .hbm, ⟨83, _⟩ => ⟨S8x4096x1024, .f32⟩
  | .hbm, ⟨84, _⟩ => ⟨S8x4096x1024, .f32⟩
  | .hbm, ⟨85, _⟩ => ⟨S8x4096x1024, .f32⟩
  | .hbm, ⟨86, _⟩ => ⟨S8x4096x1024, .f32⟩
  | .hbm, ⟨87, _⟩ => ⟨S_, .f32⟩
  | .hbm, ⟨88, _⟩ => ⟨S8x4096, .f32⟩
  | .hbm, ⟨89, _⟩ => ⟨S8x4096x1, .f32⟩
  | .hbm, ⟨90, _⟩ => ⟨S_, .f32⟩
  | .hbm, ⟨91, _⟩ => ⟨S8x4096x1, .f32⟩
  | .hbm, ⟨92, _⟩ => ⟨S8x4096x1, .f32⟩
  | .hbm, ⟨93, _⟩ => ⟨S_, .f32⟩
  | .hbm, ⟨94, _⟩ => ⟨S8x4096x1, .f32⟩
  | .hbm, ⟨95, _⟩ => ⟨S8x4096x1, .f32⟩
  | .hbm, ⟨96, _⟩ => ⟨S8x4096x1, .f32⟩
  | .hbm, ⟨97, _⟩ => ⟨S8x4096x1024, .f32⟩
  | .hbm, ⟨98, _⟩ => ⟨S8x4096x1024, .f32⟩
  | .hbm, ⟨99, _⟩ => ⟨S1x1x1024, .f32⟩
  | .hbm, ⟨100, _⟩ => ⟨S8x4096x1024, .f32⟩
  | .hbm, ⟨101, _⟩ => ⟨S8x4096x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst : Ref sig .tc := ⟨.hbm, 39, rfl⟩
abbrev main_v26 : Ref sig .tc := ⟨.hbm, 40, rfl⟩
abbrev main_v27 : Ref sig .tc := ⟨.hbm, 41, rfl⟩
abbrev main_cst_0 : Ref sig .tc := ⟨.hbm, 42, rfl⟩
abbrev main_v28 : Ref sig .tc := ⟨.hbm, 43, rfl⟩
abbrev main_v29 : Ref sig .tc := ⟨.hbm, 44, rfl⟩
abbrev main_cst_1 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_cst_2 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_cst_3 : Ref sig .tc := ⟨.hbm, 68, rfl⟩
abbrev main_v51 : Ref sig .tc := ⟨.hbm, 69, rfl⟩
abbrev main_v52 : Ref sig .tc := ⟨.hbm, 70, rfl⟩
abbrev main_call0_v0 : Ref sig .tc := ⟨.hbm, 71, rfl⟩
abbrev main_call0_v1 : Ref sig .tc := ⟨.hbm, 72, rfl⟩
abbrev main_call0_cst : Ref sig .tc := ⟨.hbm, 73, rfl⟩
abbrev main_call0_v2 : Ref sig .tc := ⟨.hbm, 74, rfl⟩
abbrev main_call0_v3 : Ref sig .tc := ⟨.hbm, 75, rfl⟩
abbrev main_call0_cst_0 : Ref sig .tc := ⟨.hbm, 76, rfl⟩
abbrev main_call0_v4 : Ref sig .tc := ⟨.hbm, 77, rfl⟩
abbrev main_call0_v5 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_cst_4 : Ref sig .tc := ⟨.hbm, 87, rfl⟩
abbrev main_v61 : Ref sig .tc := ⟨.hbm, 88, rfl⟩
abbrev main_v62 : Ref sig .tc := ⟨.hbm, 89, rfl⟩
abbrev main_cst_5 : Ref sig .tc := ⟨.hbm, 90, rfl⟩
abbrev main_v63 : Ref sig .tc := ⟨.hbm, 91, rfl⟩
abbrev main_v64 : Ref sig .tc := ⟨.hbm, 92, rfl⟩
abbrev main_cst_6 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩

abbrev nD : Nat := 1
abbrev τ : Topo := Topo.v7x

variable {F : FTy → Type} [FloatOps F]
-- ==== Kernel3.lean ====
abbrev S8x4096x1024 : Shape := ⟨3, ![8, 4096, 1024]⟩
abbrev S8x9x1024 : Shape := ⟨3, ![8, 9, 1024]⟩
abbrev S1x1024 : Shape := ⟨2, ![1, 1024]⟩
abbrev S1024x5632 : Shape := ⟨2, ![1024, 5632]⟩
abbrev S2816x1024 : Shape := ⟨2, ![2816, 1024]⟩
abbrev S1x512x1024 : Shape := ⟨3, ![1, 512, 1024]⟩
abbrev S1x9x1024 : Shape := ⟨3, ![1, 9, 1024]⟩
abbrev S512x1024 : Shape := ⟨2, ![512, 1024]⟩
abbrev S1x1x1024 : Shape := ⟨3, ![1, 1, 1024]⟩
abbrev S512 : Shape := ⟨1, ![512]⟩
abbrev S512x1 : Shape := ⟨2, ![512, 1]⟩
abbrev S1024x512 : Shape := ⟨2, ![1024, 512]⟩
abbrev S512x512 : Shape := ⟨2, ![512, 512]⟩
abbrev S1024x256 : Shape := ⟨2, ![1024, 256]⟩
abbrev S512x256 : Shape := ⟨2, ![512, 256]⟩
abbrev S256x1024 : Shape := ⟨2, ![256, 1024]⟩

abbrev nBuf : Space → Nat
  | .hbm => 6
  | .vmem => 9
  | .smem => 0
  | _ => 0

abbrev bufTy : (tb : Table) → Fin (tcTables nBuf tb) → BufTy
  | .hbm, ⟨0, _⟩ => ⟨S8x4096x1024, .f32⟩
  | .hbm, ⟨1, _⟩ => ⟨S8x9x1024, .f32⟩
  | .hbm, ⟨2, _⟩ => ⟨S1x1024, .f32⟩
  | .hbm, ⟨3, _⟩ => ⟨S1024x5632, .bf16⟩
  | .hbm, ⟨4, _⟩ => ⟨S2816x1024, .bf16⟩
  | .hbm, ⟨5, _⟩ => ⟨S8x4096x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x9x1024, .f32⟩
  | .local _ .vmem, ⟨3, _⟩ => ⟨S1x9x1024, .f32⟩
  | .local _ .vmem, ⟨4, _⟩ => ⟨S1x1024, .f32⟩
  | .local _ .vmem, ⟨5, _⟩ => ⟨S1024x5632, .bf16⟩
  | .local _ .vmem, ⟨6, _⟩ => ⟨S2816x1024, .bf16⟩
  | .local _ .vmem, ⟨7, _⟩ => ⟨S1x512x1024, .f32⟩
  | .local _ .vmem, ⟨8, _⟩ => ⟨S1x512x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x9x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x5632 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference3Ideal.lean ====
abbrev S8x4096x1024 : Shape := ⟨3, ![8, 4096, 1024]⟩
abbrev S8x9x1024 : Shape := ⟨3, ![8, 9, 1024]⟩
abbrev S1x1024 : Shape := ⟨2, ![1, 1024]⟩
abbrev S1024x5632 : Shape := ⟨2, ![1024, 5632]⟩
abbrev S2816x1024 : Shape := ⟨2, ![2816, 1024]⟩
abbrev S8x1x1024 : Shape := ⟨3, ![8, 1, 1024]⟩
abbrev S8x1024 : Shape := ⟨2, ![8, 1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x4096x5632 : Shape := ⟨3, ![8, 4096, 5632]⟩
abbrev S8x4096x2816 : Shape := ⟨3, ![8, 4096, 2816]⟩

abbrev nBuf : Space → Nat
  | .hbm => 59
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x9x1024, .f32⟩
  | .hbm, ⟨2, _⟩ => ⟨S1x1024, .f32⟩
  | .hbm, ⟨3, _⟩ => ⟨S1024x5632, .bf16⟩
  | .hbm, ⟨4, _⟩ => ⟨S2816x1024, .bf16⟩
  | .hbm, ⟨5, _⟩ => ⟨S8x1x1024, .f32⟩
  | .hbm, ⟨6, _⟩ => ⟨S8x1024, .f32⟩
  | .hbm, ⟨7, _⟩ => ⟨S8x1x1024, .f32⟩
  | .hbm, ⟨8, _⟩ => ⟨S8x1024, .f32⟩
  | .hbm, ⟨9, _⟩ => ⟨S8x1x1024, .f32⟩
  | .hbm, ⟨10, _⟩ => ⟨S8x1024, .f32⟩
  | .hbm, ⟨11, _⟩ => ⟨S8x4096x1024, .f32⟩
  | .hbm, ⟨12, _⟩ => ⟨S_, .f32⟩
  | .hbm, ⟨13, _⟩ => ⟨S8x4096, .f32⟩
  | .hbm, ⟨14, _⟩ => ⟨S8x4096x1, .f32⟩
  | .hbm, ⟨15, _⟩ => ⟨S_, .f32⟩
  | .hbm, ⟨16, _⟩ => ⟨S8x4096x1, .f32⟩
  | .hbm, ⟨17, _⟩ => ⟨S8x4096x1, .f32⟩
  | .hbm, ⟨18, _⟩ => ⟨S_, .f32⟩
  | .hbm, ⟨19, _⟩ => ⟨S8x4096x1, .f32⟩
  | .hbm, ⟨20, _⟩ => ⟨S8x4096x1, .f32⟩
  | .hbm, ⟨21, _⟩ => ⟨S8x4096x1, .f32⟩
  | .hbm, ⟨22, _⟩ => ⟨S8x4096x1024, .f32⟩
  | .hbm, ⟨23, _⟩ => ⟨S8x4096x1024, .f32⟩
  | .hbm, ⟨24, _⟩ => ⟨S1x1x1024, .f32⟩
  | .hbm, ⟨25, _⟩ => ⟨S8x4096x1024, .f32⟩
  | .hbm, ⟨26, _⟩ => ⟨S8x4096x1024, .f32⟩
  | .hbm, ⟨27, _⟩ => ⟨S8x1x1024, .f32⟩
  | .hbm, ⟨28, _⟩ => ⟨S_, .f32⟩
  | .hbm, ⟨29, _⟩ => ⟨S8x1x1024, .f32⟩
  | .hbm, ⟨30, _⟩ => ⟨S8x1x1024, .f32⟩
  | .hbm, ⟨31, _⟩ => ⟨S8x4096x1024, .f32⟩
  | .hbm, ⟨32, _⟩ => ⟨S8x4096x1024, .f32⟩
  | .hbm, ⟨33, _⟩ => ⟨S8x1x1024, .f32⟩
  | .hbm, ⟨34, _⟩ => ⟨S8x4096x1024, .f32⟩
  | .hbm, ⟨35, _⟩ => ⟨S8x4096x1024, .f32⟩
  | .hbm, ⟨36, _⟩ => ⟨S1024x5632, .f32⟩
  | .hbm, ⟨37, _⟩ => ⟨S8x4096x5632, .f32⟩
  | .hbm, ⟨38, _⟩ => ⟨S8x4096x2816, .f32⟩
  | .hbm, ⟨39, _⟩ => ⟨S8x4096x2816, .f32⟩
  | .hbm, ⟨40, _⟩ => ⟨S8x1x1024, .f32⟩
  | .hbm, ⟨41, _⟩ => ⟨S_, .f32⟩
  | .hbm, ⟨42, _⟩ => ⟨S8x1x1024, .f32⟩
  | .hbm, ⟨43, _⟩ => ⟨S8x1x1024, .f32⟩
  | .hbm, ⟨44, _⟩ => ⟨S8x4096x2816, .f32⟩
  | .hbm, ⟨45, _⟩ => ⟨S8x4096x2816, .f32⟩
  | .hbm, ⟨46, _⟩ => ⟨S_, .f32⟩
  | .hbm, ⟨47, _⟩ => ⟨S8x4096x2816, .f32⟩
  | .hbm, ⟨48, _⟩ => ⟨S8x4096x2816, .f32⟩
  | .hbm, ⟨49, _⟩ => ⟨S_, .f32⟩
  | .hbm, ⟨50, _⟩ => ⟨S8x4096x2816, .f32⟩
  | .hbm, ⟨51, _⟩ => ⟨S8x4096x2816, .f32⟩
  | .hbm, ⟨52, _⟩ => ⟨S8x4096x2816, .f32⟩
  | .hbm, ⟨53, _⟩ => ⟨S8x4096x2816, .f32⟩
  | .hbm, ⟨54, _⟩ => ⟨S2816x1024, .f32⟩
  | .hbm, ⟨55, _⟩ => ⟨S8x4096x1024, .f32⟩
  | .hbm, ⟨56, _⟩ => ⟨S8x4096x1024, .f32⟩
  | .hbm, ⟨57, _⟩ => ⟨S8x4096x1024, .f32⟩
  | .hbm, ⟨58, _⟩ => ⟨S8x4096x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_2 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_cst_3 : Ref sig .tc := ⟨.hbm, 41, rfl⟩
abbrev main_v32 : Ref sig .tc := ⟨.hbm, 42, rfl⟩
abbrev main_v33 : Ref sig .tc := ⟨.hbm, 43, rfl⟩
abbrev main_call0_v0 : Ref sig .tc := ⟨.hbm, 44, rfl⟩
abbrev main_call0_v1 : Ref sig .tc := ⟨.hbm, 45, rfl⟩
abbrev main_call0_cst : Ref sig .tc := ⟨.hbm, 46, rfl⟩
abbrev main_call0_v2 : Ref sig .tc := ⟨.hbm, 47, rfl⟩
abbrev main_call0_v3 : Ref sig .tc := ⟨.hbm, 48, rfl⟩
abbrev main_call0_cst_0 : Ref sig .tc := ⟨.hbm, 49, rfl⟩
abbrev main_call0_v4 : Ref sig .tc := ⟨.hbm, 50, rfl⟩
abbrev main_call0_v5 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩

abbrev nD : Nat := 1
abbrev τ : Topo := Topo.v7x

variable {F : FTy → Type} [FloatOps F]
-- ==== Kernel4.lean ====
abbrev S8x4096x1024 : Shape := ⟨3, ![8, 4096, 1024]⟩
abbrev S8x9x1024 : Shape := ⟨3, ![8, 9, 1024]⟩
abbrev S1x1024 : Shape := ⟨2, ![1, 1024]⟩
abbrev S8x8x1x512 : Shape := ⟨4, ![8, 8, 1, 512]⟩
abbrev S16x1 : Shape := ⟨2, ![16, 1]⟩
abbrev S4096x1024 : Shape := ⟨2, ![4096, 1024]⟩
abbrev S1x256 : Shape := ⟨2, ![1, 256]⟩
abbrev S1x128 : Shape := ⟨2, ![1, 128]⟩
abbrev S256x1024 : Shape := ⟨2, ![256, 1024]⟩
abbrev S128x1024 : Shape := ⟨2, ![128, 1024]⟩
abbrev S1024x128 : Shape := ⟨2, ![1024, 128]⟩
abbrev S1024x1 : Shape := ⟨2, ![1024, 1]⟩
abbrev S8x1024x4096 : Shape := ⟨3, ![8, 1024, 4096]⟩
abbrev S8x4096x512 : Shape := ⟨3, ![8, 4096, 512]⟩
abbrev S8x640x4096 : Shape := ⟨3, ![8, 640, 4096]⟩
abbrev S1x512x1024 : Shape := ⟨3, ![1, 512, 1024]⟩
abbrev S1x9x1024 : Shape := ⟨3, ![1, 9, 1024]⟩
abbrev S1x1x1x512 : Shape := ⟨4, ![1, 1, 1, 512]⟩
abbrev S1x1024x512 : Shape := ⟨3, ![1, 1024, 512]⟩
abbrev S1x512x512 : Shape := ⟨3, ![1, 512, 512]⟩
abbrev S1x640x512 : Shape := ⟨3, ![1, 640, 512]⟩
abbrev S1x1x1024 : Shape := ⟨3, ![1, 1, 1024]⟩
abbrev S64x256 : Shape := ⟨2, ![64, 256]⟩
abbrev S32x256 : Shape := ⟨2, ![32, 256]⟩
abbrev S16x256 : Shape := ⟨2, ![16, 256]⟩
abbrev S1x256x1024 : Shape := ⟨3, ![1, 256, 1024]⟩
abbrev S256 : Shape := ⟨1, ![256]⟩
abbrev S256x1 : Shape := ⟨2, ![256, 1]⟩
abbrev S256x4096 : Shape := ⟨2, ![256, 4096]⟩
abbrev S1x1x1x256 : Shape := ⟨4, ![1, 1, 1, 256]⟩
abbrev S128x256 : Shape := ⟨2, ![128, 256]⟩
abbrev S256x128 : Shape := ⟨2, ![256, 128]⟩
abbrev S256x256 : Shape := ⟨2, ![256, 256]⟩
abbrev S1x256x128 : Shape := ⟨3, ![1, 256, 128]⟩
abbrev S1024x256 : Shape := ⟨2, ![1024, 256]⟩
abbrev S1x1024x256 : Shape := ⟨3, ![1, 1024, 256]⟩
abbrev S256x512 : Shape := ⟨2, ![256, 512]⟩
abbrev S1x256x512 : Shape := ⟨3, ![1, 256, 512]⟩
abbrev S512x256 : Shape := ⟨2, ![512, 256]⟩
abbrev S80x256 : Shape := ⟨2, ![80, 256]⟩
abbrev S1x80x256 : Shape := ⟨3, ![1, 80, 256]⟩

abbrev nBuf : Space → Nat
  | .hbm => 20
  | .vmem => 31
  | .smem => 0
  | _ => 0

abbrev bufTy : (tb : Table) → Fin (tcTables nBuf tb) → BufTy
  | .hbm, ⟨0, _⟩ => ⟨S8x4096x1024, .f32⟩
  | .hbm, ⟨1, _⟩ => ⟨S8x9x1024, .f32⟩
  | .hbm, ⟨2, _⟩ => ⟨S1x1024, .f32⟩
  | .hbm, ⟨3, _⟩ => ⟨S8x8x1x512, .i32⟩
  | .hbm, ⟨4, _⟩ => ⟨S16x1, .f32⟩
  | .hbm, ⟨5, _⟩ => ⟨S4096x1024, .bf16⟩
  | .hbm, ⟨6, _⟩ => ⟨S1x256, .f32⟩
  | .hbm, ⟨7, _⟩ => ⟨S1x128, .f32⟩
  | .hbm, ⟨8, _⟩ => ⟨S256x1024, .bf16⟩
  | .hbm, ⟨9, _⟩ => ⟨S128x1024, .bf16⟩
  | .hbm, ⟨10, _⟩ => ⟨S1024x128, .bf16⟩
  | .hbm, ⟨11, _⟩ => ⟨S1024x1, .f32⟩
  | .hbm, ⟨12, _⟩ => ⟨S8x4096x1024, .bf16⟩
  | .hbm, ⟨13, _⟩ => ⟨S8x4096x1024, .bf16⟩
  | .hbm, ⟨14, _⟩ => ⟨S8x1024x4096, .bf16⟩
  | .hbm, ⟨15, _⟩ => ⟨S8x4096x512, .bf16⟩
  | .hbm, ⟨16, _⟩ => ⟨S8x4096x512, .bf16⟩
  | .hbm, ⟨17, _⟩ => ⟨S8x640x4096, .bf16⟩
  | .hbm, ⟨18, _⟩ => ⟨S8x4096x1024, .bf16⟩
  | .hbm, ⟨19, _⟩ => ⟨S8x4096x1024, .bf16⟩
  | .local _ .vmem, ⟨0, _⟩ => ⟨S1x512x1024, .f32⟩
  | .local _ .vmem, ⟨1, _⟩ => ⟨S1x512x1024, .f32⟩
  | .local _ .vmem, ⟨2, _⟩ => ⟨S1x9x1024, .f32⟩
  | .local _ .vmem, ⟨3, _⟩ => ⟨S1x9x1024, .f32⟩
  | .local _ .vmem, ⟨4, _⟩ => ⟨S1x1024, .f32⟩
  | .local _ .vmem, ⟨5, _⟩ => ⟨S1x1x1x512, .i32⟩
  | .local _ .vmem, ⟨6, _⟩ => ⟨S1x1x1x512, .i32⟩
  | .local _ .vmem, ⟨7, _⟩ => ⟨S16x1, .f32⟩
  | .local _ .vmem, ⟨8, _⟩ => ⟨S4096x1024, .bf16⟩
  | .local _ .vmem, ⟨9, _⟩ => ⟨S1x256, .f32⟩
  | .local _ .vmem, ⟨10, _⟩ => ⟨S1x128, .f32⟩
  | .local _ .vmem, ⟨11, _⟩ => ⟨S256x1024, .bf16⟩
  | .local _ .vmem, ⟨12, _⟩ => ⟨S128x1024, .bf16⟩
  | .local _ .vmem, ⟨13, _⟩ => ⟨S1024x128, .bf16⟩
  | .local _ .vmem, ⟨14, _⟩ => ⟨S1024x1, .f32⟩
  | .local _ .vmem, ⟨15, _⟩ => ⟨S1x512x1024, .bf16⟩
  | .local _ .vmem, ⟨16, _⟩ => ⟨S1x512x1024, .bf16⟩
  | .local _ .vmem, ⟨17, _⟩ => ⟨S1x512x1024, .bf16⟩
  | .local _ .vmem, ⟨18, _⟩ => ⟨S1x512x1024, .bf16⟩
  | .local _ .vmem, ⟨19, _⟩ => ⟨S1x1024x512, .bf16⟩
  | .local _ .vmem, ⟨20, _⟩ => ⟨S1x1024x512, .bf16⟩
  | .local _ .vmem, ⟨21, _⟩ => ⟨S1x512x512, .bf16⟩
  | .local _ .vmem, ⟨22, _⟩ => ⟨S1x512x512, .bf16⟩
  | .local _ .vmem, ⟨23, _⟩ => ⟨S1x512x512, .bf16⟩
  | .local _ .vmem, ⟨24, _⟩ => ⟨S1x512x512, .bf16⟩
  | .local _ .vmem, ⟨25, _⟩ => ⟨S1x640x512, .bf16⟩
  | .local _ .vmem, ⟨26, _⟩ => ⟨S1x640x512, .bf16⟩
  | .local _ .vmem, ⟨27, _⟩ => ⟨S1x512x1024, .bf16⟩
  | .local _ .vmem, ⟨28, _⟩ => ⟨S1x512x1024, .bf16⟩
  | .local _ .vmem, ⟨29, _⟩ => ⟨S1x512x1024, .bf16⟩
  | .local _ .vmem, ⟨30, _⟩ => ⟨S1x512x1024, .bf16⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0_0 : Ref sig .tc := ⟨.hbm, 12, rfl⟩
abbrev main_v0_1 : Ref sig .tc := ⟨.hbm, 13, rfl⟩
abbrev main_v0_2 : Ref sig .tc := ⟨.hbm, 14, rfl⟩
abbrev main_v0_3 : Ref sig .tc := ⟨.hbm, 15, rfl⟩
abbrev main_v0_4 : Ref sig .tc := ⟨.hbm, 16, rfl⟩
abbrev main_v0_5 : Ref sig .tc := ⟨.hbm, 17, rfl⟩
abbrev main_v0_6 : Ref sig .tc := ⟨.hbm, 18, rfl⟩
abbrev main_v0_7 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg12_1 : Ref sig .tc := ⟨.vmem, 16, rfl⟩
abbrev cc0_stg13_0 : Ref sig .tc := ⟨.vmem, 17, rfl⟩
abbrev cc0_stg13_1 : Ref sig .tc := ⟨.vmem, 18, rfl⟩
abbrev cc0_stg14_0 : Ref sig .tc := ⟨.vmem, 19, rfl⟩
abbrev cc0_stg14_1 : Ref sig .tc := ⟨.vmem, 20, rfl⟩
abbrev cc0_stg15_0 : Ref sig .tc := ⟨.vmem, 21, rfl⟩
abbrev cc0_stg15_1 : Ref sig .tc := ⟨.vmem, 22, rfl⟩
abbrev cc0_stg16_0 : Ref sig .tc := ⟨.vmem, 23, rfl⟩
abbrev cc0_stg16_1 : Ref sig .tc := ⟨.vmem, 24, rfl⟩
abbrev cc0_stg17_0 : Ref sig .tc := ⟨.vmem, 25, rfl⟩
abbrev cc0_stg17_1 : Ref sig .tc := ⟨.vmem, 26, rfl⟩
abbrev cc0_stg18_0 : Ref sig .tc := ⟨.vmem, 27, rfl⟩
abbrev cc0_stg18_1 : Ref sig .tc := ⟨.vmem, 28, rfl⟩
abbrev cc0_stg19_0 : Ref sig .tc := ⟨.vmem, 29, rfl⟩
abbrev cc0_stg19_1 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem12_1 : DmaSem sig := 16
abbrev cc0_sem13_0 : DmaSem sig := 17
abbrev cc0_sem13_1 : DmaSem sig := 18
abbrev cc0_sem14_0 : DmaSem sig := 19
abbrev cc0_sem14_1 : DmaSem sig := 20
abbrev cc0_sem15_0 : DmaSem sig := 21
abbrev cc0_sem15_1 : DmaSem sig := 22
abbrev cc0_sem16_0 : DmaSem sig := 23
abbrev cc0_sem16_1 : DmaSem sig := 24
abbrev cc0_sem17_0 : DmaSem sig := 25
abbrev cc0_sem17_1 : DmaSem sig := 26
abbrev cc0_sem18_0 : DmaSem sig := 27
abbrev cc0_sem18_1 : DmaSem sig := 28
abbrev cc0_sem19_0 : DmaSem sig := 29
abbrev cc0_sem19_1 : DmaSem sig := 30

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_19 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x9x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x1x1x512 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S16x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S4096x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S256x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S128x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1024x128 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1024x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S1x512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x512x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x1024x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x512x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x512x512 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x640x512 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S1x512x1024 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S1x512x1024 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]
-- ==== Reference4Ideal.lean ====
abbrev S8x4096x1024 : Shape := ⟨3, ![8, 4096, 1024]⟩
abbrev S8x9x1024 : Shape := ⟨3, ![8, 9, 1024]⟩
abbrev S1x1024 : Shape := ⟨2, ![1, 1024]⟩
abbrev S8x8x1x512 : Shape := ⟨4, ![8, 8, 1, 512]⟩
abbrev S16x1 : Shape := ⟨2, ![16, 1]⟩
abbrev S4096x1024 : Shape := ⟨2, ![4096, 1024]⟩
abbrev S1x256 : Shape := ⟨2, ![1, 256]⟩
abbrev S1x128 : Shape := ⟨2, ![1, 128]⟩
abbrev S256x1024 : Shape := ⟨2, ![256, 1024]⟩
abbrev S128x1024 : Shape := ⟨2, ![128, 1024]⟩
abbrev S1024x128 : Shape := ⟨2, ![1024, 128]⟩
abbrev S1024x1 : Shape := ⟨2, ![1024, 1]⟩
abbrev S8x1x1024 : Shape := ⟨3, ![8, 1, 1024]⟩
abbrev S8x1024 : Shape := ⟨2, ![8, 1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x4096x4096 : Shape := ⟨3, ![8, 4096, 4096]⟩
abbrev S8x4096x256 : Shape := ⟨3, ![8, 4096, 256]⟩
abbrev S8x4096x128 : Shape := ⟨3, ![8, 4096, 128]⟩
abbrev S8x4096x512 : Shape := ⟨3, ![8, 4096, 512]⟩
abbrev S1x1x128 : Shape := ⟨3, ![1, 1, 128]⟩
abbrev S1024x8x4096 : Shape := ⟨3, ![1024, 8, 4096]⟩
abbrev S8x1024x4096 : Shape := ⟨3, ![8, 1024, 4096]⟩
abbrev S1x1024x1 : Shape := ⟨3, ![1, 1024, 1]⟩

abbrev nBuf : Space → Nat
  | .hbm => 97
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x9x1024, .f32⟩
  | .hbm, ⟨2, _⟩ => ⟨S1x1024, .f32⟩
  | .hbm, ⟨3, _⟩ => ⟨S8x8x1x512, .i32⟩
  | .hbm, ⟨4, _⟩ => ⟨S16x1, .f32⟩
  | .hbm, ⟨5, _⟩ => ⟨S4096x1024, .bf16⟩
  | .hbm, ⟨6, _⟩ => ⟨S1x256, .f32⟩
  | .hbm, ⟨7, _⟩ => ⟨S1x128, .f32⟩
  | .hbm, ⟨8, _⟩ => ⟨S256x1024, .bf16⟩
  | .hbm, ⟨9, _⟩ => ⟨S128x1024, .bf16⟩
  | .hbm, ⟨10, _⟩ => ⟨S1024x128, .bf16⟩
  | .hbm, ⟨11, _⟩ => ⟨S1024x1, .f32⟩
  | .hbm, ⟨12, _⟩ => ⟨S8x1x1024, .f32⟩
  | .hbm, ⟨13, _⟩ => ⟨S8x1024, .f32⟩
  | .hbm, ⟨14, _⟩ => ⟨S8x1x1024, .f32⟩
  | .hbm, ⟨15, _⟩ => ⟨S8x1024, .f32⟩
  | .hbm, ⟨16, _⟩ => ⟨S8x4096x1024, .f32⟩
  | .hbm, ⟨17, _⟩ => ⟨S_, .f32⟩
  | .hbm, ⟨18, _⟩ => ⟨S8x4096, .f32⟩
  | .hbm, ⟨19, _⟩ => ⟨S8x4096x1, .f32⟩
  | .hbm, ⟨20, _⟩ => ⟨S_, .f32⟩
  | .hbm, ⟨21, _⟩ => ⟨S8x4096x1, .f32⟩
  | .hbm, ⟨22, _⟩ => ⟨S8x4096x1, .f32⟩
  | .hbm, ⟨23, _⟩ => ⟨S_, .f32⟩
  | .hbm, ⟨24, _⟩ => ⟨S8x4096x1, .f32⟩
  | .hbm, ⟨25, _⟩ => ⟨S8x4096x1, .f32⟩
  | .hbm, ⟨26, _⟩ => ⟨S8x4096x1, .f32⟩
  | .hbm, ⟨27, _⟩ => ⟨S8x4096x1024, .f32⟩
  | .hbm, ⟨28, _⟩ => ⟨S8x4096x1024, .f32⟩
  | .hbm, ⟨29, _⟩ => ⟨S1x1x1024, .f32⟩
  | .hbm, ⟨30, _⟩ => ⟨S8x4096x1024, .f32⟩
  | .hbm, ⟨31, _⟩ => ⟨S8x4096x1024, .f32⟩
  | .hbm, ⟨32, _⟩ => ⟨S8x1x1024, .f32⟩
  | .hbm, ⟨33, _⟩ => ⟨S_, .f32⟩
  | .hbm, ⟨34, _⟩ => ⟨S8x1x1024, .f32⟩
  | .hbm, ⟨35, _⟩ => ⟨S8x1x1024, .f32⟩
  | .hbm, ⟨36, _⟩ => ⟨S8x4096x1024, .f32⟩
  | .hbm, ⟨37, _⟩ => ⟨S8x4096x1024, .f32⟩
  | .hbm, ⟨38, _⟩ => ⟨S8x1x1024, .f32⟩
  | .hbm, ⟨39, _⟩ => ⟨S8x4096x1024, .f32⟩
  | .hbm, ⟨40, _⟩ => ⟨S8x4096x1024, .f32⟩
  | .hbm, ⟨41, _⟩ => ⟨S4096x1024, .f32⟩
  | .hbm, ⟨42, _⟩ => ⟨S8x4096x4096, .f32⟩
  | .hbm, ⟨43, _⟩ => ⟨S8x4096x256, .f32⟩
  | .hbm, ⟨44, _⟩ => ⟨S8x4096x128, .f32⟩
  | .hbm, ⟨45, _⟩ => ⟨S8x4096x128, .f32⟩
  | .hbm, ⟨46, _⟩ => ⟨S8x4096x512, .f32⟩
  | .hbm, ⟨47, _⟩ => ⟨S8x4096x512, .f32⟩
  | .hbm, ⟨48, _⟩ => ⟨S8x4096x512, .f32⟩
  | .hbm, ⟨49, _⟩ => ⟨S8x4096x1024, .f32⟩
  | .hbm, ⟨50, _⟩ => ⟨S8x4096x1024, .f32⟩
  | .hbm, ⟨51, _⟩ => ⟨S8x4096x128, .f32⟩
  | .hbm, ⟨52, _⟩ => ⟨S_, .f32⟩
  | .hbm, ⟨53, _⟩ => ⟨S8x4096, .f32⟩
  | .hbm, ⟨54, _⟩ => ⟨S8x4096x1, .f32⟩
  | .hbm, ⟨55, _⟩ => ⟨S_, .f32⟩
  | .hbm, ⟨56, _⟩ => ⟨S8x4096x1, .f32⟩
  | .hbm, ⟨57, _⟩ => ⟨S8x4096x1, .f32⟩
  | .hbm, ⟨58, _⟩ => ⟨S_, .f32⟩
  | .hbm, ⟨59, _⟩ => ⟨S8x4096x1, .f32⟩
  | .hbm, ⟨60, _⟩ => ⟨S8x4096x1, .f32⟩
  | .hbm, ⟨61, _⟩ => ⟨S8x4096x1, .f32⟩
  | .hbm, ⟨62, _⟩ => ⟨S8x4096x128, .f32⟩
  | .hbm, ⟨63, _⟩ => ⟨S8x4096x128, .f32⟩
  | .hbm, ⟨64, _⟩ => ⟨S1x1x128, .f32⟩
  | .hbm, ⟨65, _⟩ => ⟨S8x4096x128, .f32⟩
  | .hbm, ⟨66, _⟩ => ⟨S8x4096x128, .f32⟩
  | .hbm, ⟨67, _⟩ => ⟨S1024x128, .f32⟩
  | .hbm, ⟨68, _⟩ => ⟨S1024x8x4096, .f32⟩
  | .hbm, ⟨69, _⟩ => ⟨S8x1024x4096, .f32⟩
  | .hbm, ⟨70, _⟩ => ⟨S1x1024x1, .f32⟩
  | .hbm, ⟨71, _⟩ => ⟨S8x1024x4096, .f32⟩
  | .hbm, ⟨72, _⟩ => ⟨S8x1024x4096, .f32⟩
  | .hbm, ⟨73, _⟩ => ⟨S_, .f32⟩
  | .hbm, ⟨74, _⟩ => ⟨S8x4096x512, .f32⟩
  | .hbm, ⟨75, _⟩ => ⟨S8x4096x512, .f32⟩
  | .hbm, ⟨76, _⟩ => ⟨S8x4096x1024, .f32⟩
  | .hbm, ⟨77, _⟩ => ⟨S8x4096x1024, .f32⟩
  | .hbm, ⟨78, _⟩ => ⟨S_, .f32⟩
  | .hbm, ⟨79, _⟩ => ⟨S8x4096x1024, .f32⟩
  | .hbm, ⟨80, _⟩ => ⟨S8x4096x1024, .f32⟩
  | .hbm, ⟨81, _⟩ => ⟨S_, .f32⟩
  | .hbm, ⟨82, _⟩ => ⟨S8x4096x1024, .f32⟩
  | .hbm, ⟨83, _⟩ => ⟨S8x4096x1024, .f32⟩
  | .hbm, ⟨84, _⟩ => ⟨S8x4096x1024, .f32⟩
  | .hbm, ⟨85, _⟩ => ⟨S8x4096x1024, .f32⟩
  | .hbm, ⟨86, _⟩ => ⟨S_, .f32⟩
  | .hbm, ⟨87, _⟩ => ⟨S8x4096x1024, .f32⟩
  | .hbm, ⟨88, _⟩ => ⟨S8x4096x1024, .f32⟩
  | .hbm, ⟨89, _⟩ => ⟨S_, .f32⟩
  | .hbm, ⟨90, _⟩ => ⟨S8x4096x1024, .f32⟩
  | .hbm, ⟨91, _⟩ => ⟨S8x4096x1024, .f32⟩
  | .hbm, ⟨92, _⟩ => ⟨S8x1024x4096, .bf16⟩
  | .hbm, ⟨93, _⟩ => ⟨S8x4096x512, .bf16⟩
  | .hbm, ⟨94, _⟩ => ⟨S8x4096x512, .bf16⟩
  | .hbm, ⟨95, _⟩ => ⟨S8x4096x1024, .bf16⟩
  | .hbm, ⟨96, _⟩ => ⟨S8x4096x1024, .bf16⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_cst : Ref sig .tc := ⟨.hbm, 17, rfl⟩
abbrev main_v5 : Ref sig .tc := ⟨.hbm, 18, rfl⟩
abbrev main_v6 : Ref sig .tc := ⟨.hbm, 19, rfl⟩
abbrev main_cst_0 : Ref sig .tc := ⟨.hbm, 20, rfl⟩
abbrev main_v7 : Ref sig .tc := ⟨.hbm, 21, rfl⟩
abbrev main_v8 : Ref sig .tc := ⟨.hbm, 22, rfl⟩
abbrev main_cst_1 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_2 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_3 : Ref sig .tc := ⟨.hbm, 52, rfl⟩
abbrev main_v36 : Ref sig .tc := ⟨.hbm, 53, rfl⟩
abbrev main_v37 : Ref sig .tc := ⟨.hbm, 54, rfl⟩
abbrev main_cst_4 : Ref sig .tc := ⟨.hbm, 55, rfl⟩
abbrev main_v38 : Ref sig .tc := ⟨.hbm, 56, rfl⟩
abbrev main_v39 : Ref sig .tc := ⟨.hbm, 57, rfl⟩
abbrev main_cst_5 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_cst_6 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_cst_7 : Ref sig .tc := ⟨.hbm, 78, rfl⟩
abbrev main_v58 : Ref sig .tc := ⟨.hbm, 79, rfl⟩
abbrev main_v59 : Ref sig .tc := ⟨.hbm, 80, rfl⟩
abbrev main_cst_8 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_cst_9 : Ref sig .tc := ⟨.hbm, 86, rfl⟩
abbrev main_v64 : Ref sig .tc := ⟨.hbm, 87, rfl⟩
abbrev main_v65 : Ref sig .tc := ⟨.hbm, 88, rfl⟩
abbrev main_cst_10 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩

abbrev nD : Nat := 1
abbrev τ : Topo := Topo.v7x

variable {F : FTy → Type} [FloatOps F]
-- ==== Proof.Mla.Trip.lean ====
/-
  One trip of the attention's loop over the blocks of keys that every query of the block sees: the
  sixteen units (a head and half of the block's queries), run once at a symbolic trip. What the trip
  writes into the running maxima, the accumulators and the four score buffers is found by the run.
-/
module

public import proofs.«01_k».proof.Proof.Gen.KernelIdeal.Frame
public import proofs.«01_k».proof.Proof.Gen.KernelIdeal.Points
public import proofs.«01_k».proof.Proof.Gen.KernelIdeal.Loops
public import Idealize.ShloMosaic.Lib.Tactic

@[expose] public section

set_option maxRecDepth 16384

noncomputable section

namespace Cert.KernelIdeal.Mla

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

abbrev 𝒱₀ : Variants := Variants.none

section Trip

variable (c : Dev nD) (i : grid0.Coords) (arg3 : Memref sig .tc .vmem S1x512x1024 .bf16) (harg3 : arg3.IsWhole) (arg4 : Memref sig .tc .vmem S1x4096x1024 .bf16) (harg4 : arg4.IsWhole) (arg5 : Memref sig .tc .vmem S1x1024x4096 .bf16) (harg5 : arg5.IsWhole) (arg6 : Memref sig .tc .vmem S1x512x512 .bf16) (harg6 : arg6.IsWhole) (arg7 : Memref sig .tc .vmem S8x1x512 .f32) (harg7 : arg7.IsWhole) (arg8 : Memref sig .tc .vmem S8x128x512 .f32) (harg8 : arg8.IsWhole) (arg9 : Memref sig .tc .vmem S512x256 .f32) (harg9 : arg9.IsWhole) (arg10 : Memref sig .tc .vmem S512x256 .f32) (harg10 : arg10.IsWhole) (arg11 : Memref sig .tc .vmem S512x256 .f32) (harg11 : arg11.IsWhole) (arg12 : Memref sig .tc .vmem S512x256 .f32) (harg12 : arg12.IsWhole)
  (X3 : Buf (Elt F) (arg3.view.loc (c : Thread nD τ))) (X4 : Buf (Elt F) (arg4.view.loc (c : Thread nD τ))) (X5 : Buf (Elt F) (arg5.view.loc (c : Thread nD τ)))

/-- A buffer held whole at contents `f`. -/
abbrev held {c : Dev nD} {S : Shape} {e : EltTy} (M : Memref sig .tc .vmem S e) (f : Buf (Elt F) (M.view.loc (c : Thread nD τ))) : sProp 𝕄 :=
  M.view.loc (c : Thread nD τ) ↦[M.view.set]{fullShare} f

/-- One trip's resources: queries, keys and values at their contents, the maxima, the accumulators and
    the four score buffers at given contents. -/
abbrev Trip (f7 : Buf (Elt F) (arg7.view.loc (c : Thread nD τ))) (f8 : Buf (Elt F) (arg8.view.loc (c : Thread nD τ)))
    (f9 : Buf (Elt F) (arg9.view.loc (c : Thread nD τ))) (f10 : Buf (Elt F) (arg10.view.loc (c : Thread nD τ)))
    (f11 : Buf (Elt F) (arg11.view.loc (c : Thread nD τ))) (f12 : Buf (Elt F) (arg12.view.loc (c : Thread nD τ))) : sProp 𝕄 :=
  iprop(held arg3 X3 ∗ held arg4 X4 ∗ held arg5 X5 ∗ held arg7 f7 ∗ held arg8 f8 ∗ held arg9 f9 ∗ held arg10 f10 ∗ held arg11 f11 ∗ held arg12 f12)

set_option backward.proofsInPublic true in
set_option maxHeartbeats 0 in
/-- One trip at a symbolic `k`: the pieces written are found by the run, the maxima's and the
    accumulators' as functions of the contents that the trip finds there. -/
def trip (k : Fin (k0_t1_loop i).trips)
    (f7 : Buf (Elt F) (arg7.view.loc (c : Thread nD τ))) (f8 : Buf (Elt F) (arg8.view.loc (c : Thread nD τ))) :
    Σ' (L7 : _) (L8 : _) (L9 : _) (L10 : _) (L11 : _), { L12 //
      ∀ (f9 : Buf (Elt F) (arg9.view.loc (c : Thread nD τ))) (f10 : Buf (Elt F) (arg10.view.loc (c : Thread nD τ)))
        (f11 : Buf (Elt F) (arg11.view.loc (c : Thread nD τ))) (f12 : Buf (Elt F) (arg12.view.loc (c : Thread nD τ))),
      Trip c arg3 arg4 arg5 arg7 arg8 arg9 arg10 arg11 arg12 X3 X4 X5 f7 f8 f9 f10 f11 f12
        ⊢ wp Idealize.ShloMosaic.frame (wpE (defs₀ (F := F)) 𝒱₀ (c : Thread nD τ) none) Set.univ
          (k0_t1_body (F := F) i arg3 harg3 arg4 harg4 arg5 harg5 arg6 harg6 arg7 harg7 arg8 harg8 arg9 harg9 arg10 harg10 arg11 harg11 arg12 harg12 k ())
          (fun _ => Trip c arg3 arg4 arg5 arg7 arg8 arg9 arg10 arg11 arg12 X3 X4 X5
            (arg7.view.writes (Elt F) f7 L7) (arg8.view.writes (Elt F) f8 L8) (arg9.view.writes (Elt F) f9 L9)
            (arg10.view.writes (Elt F) f10 L10) (arg11.view.writes (Elt F) f11 L11) (arg12.view.writes (Elt F) f12 L12)) } := by
  refine ⟨?_, ?_, ?_, ?_, ?_, ?_, fun f9 f10 f11 f12 => ?run⟩
  case run =>
    unfold k0_t1_body
    iintro ⟨H3, H4, H5, H7, H8, H9, H10, H11, H12⟩
    sl_exec_parts
    sl_step
    sl_close

/-- The maxima and the accumulators before trip `k`, from their contents `g7`, `g8` at the loop's entry. -/
def stat (g7 : Buf (Elt F) (arg7.view.loc (c : Thread nD τ))) (g8 : Buf (Elt F) (arg8.view.loc (c : Thread nD τ))) :
    ℕ → Buf (Elt F) (arg7.view.loc (c : Thread nD τ)) × Buf (Elt F) (arg8.view.loc (c : Thread nD τ))
  | 0 => (g7, g8)
  | k + 1 =>
    if h : k < (k0_t1_loop i).trips then
      (arg7.view.writes (Elt F) (stat g7 g8 k).1 (trip c i arg3 harg3 arg4 harg4 arg5 harg5 arg6 harg6 arg7 harg7 arg8 harg8 arg9 harg9 arg10 harg10 arg11 harg11 arg12 harg12 X3 X4 X5 ⟨k, h⟩ (stat g7 g8 k).1 (stat g7 g8 k).2).1,
       arg8.view.writes (Elt F) (stat g7 g8 k).2 (trip c i arg3 harg3 arg4 harg4 arg5 harg5 arg6 harg6 arg7 harg7 arg8 harg8 arg9 harg9 arg10 harg10 arg11 harg11 arg12 harg12 X3 X4 X5 ⟨k, h⟩ (stat g7 g8 k).1 (stat g7 g8 k).2).2.1)
    else stat g7 g8 k

theorem stat_succ (g7 : Buf (Elt F) (arg7.view.loc (c : Thread nD τ))) (g8 : Buf (Elt F) (arg8.view.loc (c : Thread nD τ)))
    (k : Fin (k0_t1_loop i).trips) :
    stat c i arg3 harg3 arg4 harg4 arg5 harg5 arg6 harg6 arg7 harg7 arg8 harg8 arg9 harg9 arg10 harg10 arg11 harg11 arg12 harg12 X3 X4 X5 g7 g8 (k.val + 1)
      = (arg7.view.writes (Elt F) (stat c i arg3 harg3 arg4 harg4 arg5 harg5 arg6 harg6 arg7 harg7 arg8 harg8 arg9 harg9 arg10 harg10 arg11 harg11 arg12 harg12 X3 X4 X5 g7 g8 k.val).1 (trip c i arg3 harg3 arg4 harg4 arg5 harg5 arg6 harg6 arg7 harg7 arg8 harg8 arg9 harg9 arg10 harg10 arg11 harg11 arg12 harg12 X3 X4 X5 k (stat c i arg3 harg3 arg4 harg4 arg5 harg5 arg6 harg6 arg7 harg7 arg8 harg8 arg9 harg9 arg10 harg10 arg11 harg11 arg12 harg12 X3 X4 X5 g7 g8 k.val).1 (stat c i arg3 harg3 arg4 harg4 arg5 harg5 arg6 harg6 arg7 harg7 arg8 harg8 arg9 harg9 arg10 harg10 arg11 harg11 arg12 harg12 X3 X4 X5 g7 g8 k.val).2).1,
         arg8.view.writes (Elt F) (stat c i arg3 harg3 arg4 harg4 arg5 harg5 arg6 harg6 arg7 harg7 arg8 harg8 arg9 harg9 arg10 harg10 arg11 harg11 arg12 harg12 X3 X4 X5 g7 g8 k.val).2 (trip c i arg3 harg3 arg4 harg4 arg5 harg5 arg6 harg6 arg7 harg7 arg8 harg8 arg9 harg9 arg10 harg10 arg11 harg11 arg12 harg12 X3 X4 X5 k (stat c i arg3 harg3 arg4 harg4 arg5 harg5 arg6 harg6 arg7 harg7 arg8 harg8 arg9 harg9 arg10 harg10 arg11 harg11 arg12 harg12 X3 X4 X5 g7 g8 k.val).1 (stat c i arg3 harg3 arg4 harg4 arg5 harg5 arg6 harg6 arg7 harg7 arg8 harg8 arg9 harg9 arg10 harg10 arg11 harg11 arg12 harg12 X3 X4 X5 g7 g8 k.val).2).2.1) := by
  rw [stat, dif_pos k.isLt]

/-- What the loop holds before trip `k`: the maxima and the accumulators at `stat`, the score buffers at anything. -/
abbrev At (g : Buf (Elt F) (arg7.view.loc (c : Thread nD τ)) × Buf (Elt F) (arg8.view.loc (c : Thread nD τ))) : sProp 𝕄 :=
  iprop(held arg3 X3 ∗ held arg4 X4 ∗ held arg5 X5 ∗ (∃ f, held (c := c) arg7 f ∗ ⌜f = g.1⌝) ∗ (∃ f, held (c := c) arg8 f ∗ ⌜f = g.2⌝)
    ∗ (∃ f, held (c := c) arg9 f) ∗ (∃ f, held (c := c) arg10 f) ∗ (∃ f, held (c := c) arg11 f) ∗ (∃ f, held (c := c) arg12 f))

/-- A trip that turns the contents `g` into `g` with pieces written takes `At g` to `At` of those. -/
theorem at_step (g : Buf (Elt F) (arg7.view.loc (c : Thread nD τ)) × Buf (Elt F) (arg8.view.loc (c : Thread nD τ)))
    (L7 : List (View.Piece (Elt F) S8x1x512 .f32)) (L8 : List (View.Piece (Elt F) S8x128x512 .f32))
    (L9 L10 L11 L12 : List (View.Piece (Elt F) S512x256 .f32)) (p : Prog (TpuEff nD τ sig (Elt F) Λ₀ .tc) Unit)
    (h : ∀ (f9 : Buf (Elt F) (arg9.view.loc (c : Thread nD τ))) (f10 : Buf (Elt F) (arg10.view.loc (c : Thread nD τ)))
        (f11 : Buf (Elt F) (arg11.view.loc (c : Thread nD τ))) (f12 : Buf (Elt F) (arg12.view.loc (c : Thread nD τ))),
      Trip c arg3 arg4 arg5 arg7 arg8 arg9 arg10 arg11 arg12 X3 X4 X5 g.1 g.2 f9 f10 f11 f12
        ⊢ wp Idealize.ShloMosaic.frame (wpE (defs₀ (F := F)) 𝒱₀ (c : Thread nD τ) none) Set.univ p
          (fun _ => Trip c arg3 arg4 arg5 arg7 arg8 arg9 arg10 arg11 arg12 X3 X4 X5
            (arg7.view.writes (Elt F) g.1 L7) (arg8.view.writes (Elt F) g.2 L8) (arg9.view.writes (Elt F) f9 L9)
            (arg10.view.writes (Elt F) f10 L10) (arg11.view.writes (Elt F) f11 L11) (arg12.view.writes (Elt F) f12 L12))) :
    At c arg3 arg4 arg5 arg7 arg8 arg9 arg10 arg11 arg12 X3 X4 X5 g
      ⊢ wp Idealize.ShloMosaic.frame (wpE (defs₀ (F := F)) 𝒱₀ (c : Thread nD τ) none) Set.univ p
          (fun _ => At c arg3 arg4 arg5 arg7 arg8 arg9 arg10 arg11 arg12 X3 X4 X5
            (arg7.view.writes (Elt F) g.1 L7, arg8.view.writes (Elt F) g.2 L8)) := by
  iintro ⟨H3, H4, H5, ⟨%f7, H7, %h7⟩, ⟨%f8, H8, %h8⟩, ⟨%f9, H9⟩, ⟨%f10, H10⟩, ⟨%f11, H11⟩, ⟨%f12, H12⟩⟩
  subst h7; subst h8
  iapply (wp_wand_r Idealize.ShloMosaic.frame (wpE (defs₀ (F := F)) 𝒱₀ (c : Thread nD τ) none) Set.univ)
  isplitl [H3 H4 H5 H7 H8 H9 H10 H11 H12]
  · iapply h f9 f10 f11 f12
    isplitl [H3]; · iexact H3
    isplitl [H4]; · iexact H4
    isplitl [H5]; · iexact H5
    isplitl [H7]; · iexact H7
    isplitl [H8]; · iexact H8
    isplitl [H9]; · iexact H9
    isplitl [H10]; · iexact H10
    isplitl [H11]; · iexact H11
    iexact H12
  · iintro %_ ⟨H3, H4, H5, H7, H8, H9, H10, H11, H12⟩
    isplitl [H3]; · iexact H3
    isplitl [H4]; · iexact H4
    isplitl [H5]; · iexact H5
    isplitl [H7]
    · iexists _; isplitl [H7]; · iexact H7
      ipureintro; rfl
    isplitl [H8]
    · iexists _; isplitl [H8]; · iexact H8
      ipureintro; rfl
    isplitl [H9]; · iexists _; iexact H9
    isplitl [H10]; · iexists _; iexact H10
    isplitl [H11]; · iexists _; iexact H11
    iexists _; iexact H12

/-- The maxima at the loop's entry: every one at the mask's constant. -/
abbrev init7 : Buf (Elt F) (arg7.view.loc (c : Thread nD τ)) :=
  arg7.view.writes (Elt F) arg7.view.junk [⟨Rect.unit (s := S8x1x512) ![0, 0, 0] S8x1x512.size inb_S8x1x512_S8x1x512_0_0_0, k0_pay262⟩]

/-- The accumulators at the loop's entry: zero. -/
abbrev init8 : Buf (Elt F) (arg8.view.loc (c : Thread nD τ)) :=
  arg8.view.writes (Elt F) arg8.view.junk [⟨Rect.unit (s := S8x128x512) ![0, 0, 0] S8x128x512.size inb_S8x128x512_S8x128x512_0_0_0, k0_pay263⟩]

set_option warn.classDefReducibility false in
/-- The loop over the whole blocks of keys by its invariant `At (stat k)`. -/
@[sl_loop] def loopInv1 :
    LoopInvTy_k0_t1 (F := F) Unit ℕ (UR sig nD τ) ℕ 𝒱₀ c none Set.univ i arg3 harg3 arg4 harg4 arg5 harg5 arg6 harg6 arg7 harg7 arg8 harg8 arg9 harg9 arg10 harg10 arg11 harg11 arg12 harg12 where
  inv k _ := At c arg3 arg4 arg5 arg7 arg8 arg9 arg10 arg11 arg12 X3 X4 X5 (stat c i arg3 harg3 arg4 harg4 arg5 harg5 arg6 harg6 arg7 harg7 arg8 harg8 arg9 harg9 arg10 harg10 arg11 harg11 arg12 harg12 X3 X4 X5 (init7 c arg7) (init8 c arg8) k)
  step k acc := by
    rw [stat_succ]
    exact at_step c arg3 arg4 arg5 arg7 arg8 arg9 arg10 arg11 arg12 X3 X4 X5 _ _ _ _ _ _ _ _
      (trip c i arg3 harg3 arg4 harg4 arg5 harg5 arg6 harg6 arg7 harg7 arg8 harg8 arg9 harg9 arg10 harg10 arg11 harg11 arg12 harg12 X3 X4 X5 k _ _).2.2.2.2.2.2

/-- The remainder loop makes no trip. -/
theorem trips2 (i : grid0.Coords) : (k0_t2_loop i).trips = 0 := Nat.le_zero.mp (k0_t2_abs i).2.1

set_option warn.classDefReducibility false in
/-- The remainder loop's invariant: the same resources, whatever the trip. -/
@[sl_loop] def loopInv2 (v12 : BitVec 32) :
    LoopInvTy_k0_t2 (F := F) Unit ℕ (UR sig nD τ) ℕ 𝒱₀ c none Set.univ i arg3 harg3 arg4 harg4 arg5 harg5 arg6 harg6 arg7 harg7 arg8 harg8 arg9 harg9 arg10 harg10 arg11 harg11 arg12 harg12 v12 where
  inv _ _ := At c arg3 arg4 arg5 arg7 arg8 arg9 arg10 arg11 arg12 X3 X4 X5
    (stat c i arg3 harg3 arg4 harg4 arg5 harg5 arg6 harg6 arg7 harg7 arg8 harg8 arg9 harg9 arg10 harg10 arg11 harg11 arg12 harg12 X3 X4 X5 (init7 c arg7) (init8 c arg8) (k0_t1_loop i).trips)
  step k acc := (Nat.not_lt_zero _ (Nat.lt_of_lt_of_eq k.isLt (trips2 i))).elim

end Trip

end Cert.KernelIdeal.Mla

end
-- ==== Proof.Mla.Body.lean ====
/-
  The attention's body on whole buffers, run once: the loop over the seen blocks by its invariant, the
  block that holds the mask's edge, the division by the ones' row, and the one store of the output.
-/
module

public import proofs.«01_k».proof.Proof.Mla.Trip
public import proofs.«01_k».proof.Proof.Gen.KernelIdeal.Skeleton
public import Idealize.ShloMosaic.Lib.Pipeline.FrameBody
public import Idealize.ShloMosaic.Lib.Claim
public import Idealize.ShloMosaic.Lib.Tactic

@[expose] public section

set_option maxRecDepth 16384

noncomputable section

namespace Cert.KernelIdeal.Mla

open Cert.KernelIdeal Cert.KernelIdeal.Gen
open Idealize.ShloMosaic.Rounds
open Idealize.ShloMosaic.Pipeline (Dat Cfg Window BodyObligation cellOf)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

variable (c : Dev nD) (i : grid0.Coords) (arg3 : Memref sig .tc .vmem S1x512x1024 .bf16) (harg3 : arg3.IsWhole) (arg4 : Memref sig .tc .vmem S1x4096x1024 .bf16) (harg4 : arg4.IsWhole) (arg5 : Memref sig .tc .vmem S1x1024x4096 .bf16) (harg5 : arg5.IsWhole) (arg6 : Memref sig .tc .vmem S1x512x512 .bf16) (harg6 : arg6.IsWhole) (arg7 : Memref sig .tc .vmem S8x1x512 .f32) (harg7 : arg7.IsWhole) (arg8 : Memref sig .tc .vmem S8x128x512 .f32) (harg8 : arg8.IsWhole) (arg9 : Memref sig .tc .vmem S512x256 .f32) (harg9 : arg9.IsWhole) (arg10 : Memref sig .tc .vmem S512x256 .f32) (harg10 : arg10.IsWhole) (arg11 : Memref sig .tc .vmem S512x256 .f32) (harg11 : arg11.IsWhole) (arg12 : Memref sig .tc .vmem S512x256 .f32) (harg12 : arg12.IsWhole)
  (x0 : Vec F S1x512x1024 .bf16) (x1 : Vec F S1x4096x1024 .bf16) (x2 : Vec F S1x1024x4096 .bf16)

set_option maxHeartbeats 0 in
/-- The body on whole buffers: the queries, keys and values stay, the output's buffer ends with the pieces
    that the run finds, the scratch buffers end at anything. -/
def bodyRun :
    { L6 : List (View.Piece (Elt F) S1x512x512 .bf16) //
      ∀ (K : PUnit → sProp 𝕄),
        iprop(owns (c : Thread nD τ) arg3 fullShare x0
            ∗ owns (c : Thread nD τ) arg4 fullShare x1
            ∗ owns (c : Thread nD τ) arg5 fullShare x2
            ∗ (∃ d, owns (c : Thread nD τ) arg6 fullShare d)
            ∗ (∃ d, owns (c : Thread nD τ) arg7 fullShare d)
            ∗ (∃ d, owns (c : Thread nD τ) arg8 fullShare d)
            ∗ (∃ d, owns (c : Thread nD τ) arg9 fullShare d)
            ∗ (∃ d, owns (c : Thread nD τ) arg10 fullShare d)
            ∗ (∃ d, owns (c : Thread nD τ) arg11 fullShare d)
            ∗ (∃ d, owns (c : Thread nD τ) arg12 fullShare d)
            ∗ (iprop(owns (c : Thread nD τ) arg3 fullShare x0
              ∗ owns (c : Thread nD τ) arg4 fullShare x1
              ∗ owns (c : Thread nD τ) arg5 fullShare x2
              ∗ (∃ f, arg6.view.loc (c : Thread nD τ) ↦[arg6.view.set]{fullShare} arg6.view.writes (Elt F) f L6)
              ∗ (∃ f, arg7.view.loc (c : Thread nD τ) ↦[arg7.view.set]{fullShare} f)
              ∗ (∃ f, arg8.view.loc (c : Thread nD τ) ↦[arg8.view.set]{fullShare} f)
              ∗ (∃ f, arg9.view.loc (c : Thread nD τ) ↦[arg9.view.set]{fullShare} f)
              ∗ (∃ f, arg10.view.loc (c : Thread nD τ) ↦[arg10.view.set]{fullShare} f)
              ∗ (∃ f, arg11.view.loc (c : Thread nD τ) ↦[arg11.view.set]{fullShare} f)
              ∗ (∃ f, arg12.view.loc (c : Thread nD τ) ↦[arg12.view.set]{fullShare} f)) -∗ K ⟨⟩))
          ⊢ wp Idealize.ShloMosaic.frame (wpE (defs₀ (F := F)) 𝒱₀ (c : Thread nD τ) none) Set.univ (cc0_mla i arg3 harg3 arg4 harg4 arg5 harg5 arg6 harg6 arg7 harg7 arg8 harg8 arg9 harg9 arg10 harg10 arg11 harg11 arg12 harg12) K } := by
  refine ⟨?_, fun K => ?run⟩
  case run =>
    simp only [cc0_mla_eq_skeleton]; unfold cc0_mla_skel
    unfold owns
    iintro ⟨⟨%f0, %hf0, H3⟩, ⟨%f1, %hf1, H4⟩, ⟨%f2, %hf2, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, Hk⟩
    obtain rfl := harg3.eq_unread hf0
    obtain rfl := harg4.eq_unread hf1
    obtain rfl := harg5.eq_unread hf2
    sl_exec_parts
    sl_step
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]; · iexists _; iexact H6
    isplitl [H7]; · iexists _; iexact H7
    isplitl [H8]; · iexists _; iexact H8
    isplitl [H9]; · iexists _; iexact H9
    isplitl [H10]; · iexists _; iexact H10
    isplitl [H11]; · iexists _; iexact H11
    iexists _; iexact H12

/-- The output's pieces cover its block. -/
theorem cover (y : S1x512x512.Idx) : ∃ pc ∈ (bodyRun c i arg3 harg3 arg4 harg4 arg5 harg5 arg6 harg6 arg7 harg7 arg8 harg8 arg9 harg9 arg10 harg10 arg11 harg11 arg12 harg12 x0 x1 x2).1, y ∈ pc.1.set :=
  View.cover_of_tiledL (bodyRun c i arg3 harg3 arg4 harg4 arg5 harg5 arg6 harg6 arg7 harg7 arg8 harg8 arg9 harg9 arg10 harg10 arg11 harg11 arg12 harg12 x0 x1 x2).1 S1x512x128.size (by sl_kernel_rfl) y

end Cert.KernelIdeal.Mla

end
-- ==== Proof.Mla.Launch.lean ====
/-
  The attention's launch: what each grid point's body leaves in the output's block, the body's obligation
  at every point, the run of the whole launch, and that the arguments end unchanged with every counter at zero.
-/
module

public import proofs.«01_k».proof.Proof.Mla.Body
public import proofs.«01_k».proof.Proof.Gen.KernelIdeal.Skeleton
public import Idealize.ShloMosaic.Lib.Pipeline.FrameBody
public import Idealize.ShloMosaic.Lib.Claim
public import Idealize.ShloMosaic.Lib.Tactic

@[expose] public section

set_option maxRecDepth 16384

noncomputable section

namespace Cert.KernelIdeal.Mla

open Cert.KernelIdeal Cert.KernelIdeal.Gen
open Idealize.ShloMosaic.Rounds
open Idealize.ShloMosaic.Pipeline (Dat Cfg Window BodyObligation cellOf)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- One staging buffer of the output, through which its contents are stated. -/
abbrev VO : View sig .tc .vmem S1x512x512 .bf16 := (Memref.whole cc0_stg3_0 : Memref sig .tc .vmem S1x512x512 .bf16).view
abbrev ms0_0 (t : Fin cfg0.N) : Memref sig .tc .vmem S1x512x1024 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x4096x1024 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1024x4096 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x512x512 .bf16 := win0_3.stage (cfg0.slots t 3)
abbrev hs0_3 (t : Fin cfg0.N) : (ms0_3 t).IsWhole := hstage0_3 ((cfg0.slots t 3).cast nbuf0_3)
abbrev scM0_0 : Memref sig .tc .vmem S8x1x512 .f32 := Memref.whole cc0_scratch0
abbrev scM0_1 : Memref sig .tc .vmem S8x128x512 .f32 := Memref.whole cc0_scratch1
abbrev scM0_2 : Memref sig .tc .vmem S512x256 .f32 := Memref.whole cc0_scratch2
abbrev scM0_3 : Memref sig .tc .vmem S512x256 .f32 := Memref.whole cc0_scratch3
abbrev scM0_4 : Memref sig .tc .vmem S512x256 .f32 := Memref.whole cc0_scratch4
abbrev scM0_5 : Memref sig .tc .vmem S512x256 .f32 := Memref.whole cc0_scratch5

/-- The launch's invariant: the six scratch buffers at some contents, and the generator's register. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d)) ∗ (∃ r, prngReg c r)) := by
  unfold Pipeline.ΦA; rw [scopedRest0_eq]; simp only [scM0_0, scM0_1, scM0_2, scM0_3, scM0_4, scM0_5, owns_whole]; try rfl

/-- What the output's buffer holds after the body at point `t`. -/
def outsAt (c : Dev nD) (t : Fin cfg0.N) : Vec F S1x512x512 .bf16 :=
  VO.read (Elt F) (VO.writes (Elt F) VO.junk (bodyRun c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) scM0_4 (Memref.isWhole_whole _) scM0_5 (Memref.isWhole_whole _) (iblk m c 0 t) (iblk m c 1 t) (iblk m c 2 t)).1)

/-- The launch's data: the arrays as found, each input's buffer at its block and the output's at `outsAt`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outsAt m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = outsAt m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t))

/-- The body at any point. -/
theorem sound_body (c : Dev nD) (t : Fin cfg0.N) :
    bodyPre m c t ⊢ wp Idealize.ShloMosaic.frame (wpE (defs₀ (F := F)) Variants.none (c : Thread nD τ) none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3]
  rw [show (dats m 0 c).Φ t.castSucc = Pipeline.ΦA spec0 c from rfl, PhiA0_eq]
  unfold outsAt
  iintro ⟨⟨⟨HS0, HS1, HS2, HS3, HS4, HS5⟩, Hg⟩, Ho, ⟨%d0, H0⟩, ⟨%d1, H1⟩, ⟨%d2, H2⟩, ⟨%d3, H3⟩⟩
  iapply (bodyRun c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) scM0_4 (Memref.isWhole_whole _) scM0_5 (Memref.isWhole_whole _) (iblk m c 0 t) (iblk m c 1 t) (iblk m c 2 t)).2
  isplitl [H0]; · iexact H0
  isplitl [H1]; · iexact H1
  isplitl [H2]; · iexact H2
  isplitl [H3]; · iexists _; iexact H3
  isplitl [HS0]; · iexact HS0
  isplitl [HS1]; · iexact HS1
  isplitl [HS2]; · iexact HS2
  isplitl [HS3]; · iexact HS3
  isplitl [HS4]; · iexact HS4
  isplitl [HS5]; · iexact HS5
  iintro ⟨H0, H1, H2, ⟨%e3, H3⟩, ⟨%e4, HS0⟩, ⟨%e5, HS1⟩, ⟨%e6, HS2⟩, ⟨%e7, HS3⟩, ⟨%e8, HS4⟩, ⟨%e9, HS5⟩⟩
  isplitl [HS0 HS1 HS2 HS3 HS4 HS5 Hg]
  · isplitl [HS0 HS1 HS2 HS3 HS4 HS5]
    · unfold owns
      isplitl [HS0]
      · iexists _; iexists _; isplitr
        swap; · iexact HS0
        ipureintro; rfl
      isplitl [HS1]
      · iexists _; iexists _; isplitr
        swap; · iexact HS1
        ipureintro; rfl
      isplitl [HS2]
      · iexists _; iexists _; isplitr
        swap; · iexact HS2
        ipureintro; rfl
      isplitl [HS3]
      · iexists _; iexists _; isplitr
        swap; · iexact HS3
        ipureintro; rfl
      isplitl [HS4]
      · iexists _; iexists _; isplitr
        swap; · iexact HS4
        ipureintro; rfl
      iexists _; iexists _; isplitr
      swap; · iexact HS5
      ipureintro; rfl
    iexact Hg
  isplitl [Ho]; · iexact Ho
  isplitl [H0]; · iexact H0
  isplitl [H1]; · iexact H1
  isplitl [H2]; · iexact H2
  unfold owns; iexists _; isplitr
  swap; · iexact H3
  ipureintro; exact View.read_writes_of_cover _ _ _ _ _ (cover c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) scM0_4 (Memref.isWhole_whole _) scM0_5 (Memref.isWhole_whole _) _ _ _)

theorem defs₀_row (t : Fin cfg0.N) :
    defs₀ (F := F) .tc cfg0.body (cfg0.bodyArgs t (cfg0.slots t)) = bodyAt0 t := by
  unfold defs₀; rw [Defs.onTc_tc]

/-- The body's obligation at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The launch: every array ends at what the data says, every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

/-- The arguments end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_main m ρ)) ((θ_run defs _ _).mono (fun _ h => h.2) (run_main_quiescent m ρ))

end Cert.KernelIdeal.Mla

end
-- ==== Proof.Mla.Online.lean ====
/-
  The running maximum and the rescaled sum over the extended reals: what a softmax kept block by block
  computes is what one pass over all keys computes.
-/
module

public import Idealize.ShloMosaic.PureOps.Ideal.Laws

@[expose] public section

noncomputable section

namespace Cert.Online

open Idealize.ShloMosaic

/-- The maximum of the first `n` scores. -/
def top (s : ℕ → EReal) (n : ℕ) : EReal := (Finset.range n).sup s

/-- The sum of the first `n` values, each weighted by two to its score less the maximum. -/
def acc (s v : ℕ → EReal) (n : ℕ) : EReal := ∑ j ∈ Finset.range n, v j * Ideal.exp2 (s j - top s n)

theorem le_top (s : ℕ → EReal) {n j : ℕ} (h : j < n) : s j ≤ top s n := Finset.le_sup (Finset.mem_range.mpr h)

theorem top_ne_top (s : ℕ → EReal) (hs : ∀ j, s j ≠ ⊤) (n : ℕ) : top s n ≠ ⊤ := by
  refine ne_of_lt ?_
  rw [top, Finset.sup_lt_iff bot_lt_top]
  exact fun j _ => lt_top_iff_ne_top.mpr (hs j)

theorem top_add (s : ℕ → EReal) (n w : ℕ) : max (top s n) ((Finset.range w).sup fun j => s (n + j)) = top s (n + w) := by
  apply le_antisymm
  · refine max_le (Finset.sup_le fun j hj => ?_) (Finset.sup_le fun j hj => ?_)
    · exact le_top s (Nat.lt_add_right _ (Finset.mem_range.mp hj))
    · exact le_top s (Nat.add_lt_add_left (Finset.mem_range.mp hj) _)
  · refine Finset.sup_le fun j hj => ?_
    rcases Nat.lt_or_ge j n with h | h
    · exact le_max_of_le_left (le_top s h)
    · obtain ⟨i, rfl⟩ := Nat.exists_eq_add_of_le h
      have hi : i < w := by have := Finset.mem_range.mp hj; omega
      exact le_max_of_le_right (Finset.le_sup (f := fun j => s (n + j)) (Finset.mem_range.mpr hi))

theorem exp2_nonneg (x : EReal) : 0 ≤ Ideal.exp2 x := by
  induction x with
  | bot => simp
  | top => simp
  | coe r => rw [Ideal.exp2_coe]; exact_mod_cast (Real.rpow_pos_of_pos two_pos r).le

theorem exp2_ne_top {x : EReal} (h : x ≠ ⊤) : Ideal.exp2 x ≠ ⊤ := by
  induction x with
  | bot => simp
  | top => exact absurd rfl h
  | coe r => rw [Ideal.exp2_coe]; exact EReal.coe_ne_top _

theorem bot_sub' (x : EReal) : (⊥ : EReal) - x = ⊥ := by rw [sub_eq_add_neg, EReal.bot_add]

theorem sub_ne_top {x y : EReal} (hy : y ≠ ⊤) (h : x ≤ y) : x - y ≠ ⊤ := by
  induction y with
  | bot => rw [le_bot_iff.mp h, bot_sub']; exact bot_ne_top
  | top => exact absurd rfl hy
  | coe r =>
    induction x with
    | bot => rw [bot_sub']; exact bot_ne_top
    | top => exact absurd h (by simp)
    | coe q => rw [← EReal.coe_sub]; exact EReal.coe_ne_top _

/-- Weighting first against one maximum and then rescaling to a larger one is weighting against the larger one. -/
theorem exp2_rescale {a b c : EReal} (hab : a ≤ b) (hbc : b ≤ c) (hc : c ≠ ⊤) :
    Ideal.exp2 (a - b) * Ideal.exp2 (b - c) = Ideal.exp2 (a - c) := by
  induction a with
  | bot => simp [bot_sub']
  | top => exact absurd (top_le_iff.mp (hab.trans hbc)) hc
  | coe a =>
    induction b with
    | bot => exact absurd hab (by simp)
    | top => exact absurd (top_le_iff.mp hbc) hc
    | coe b =>
      induction c with
      | bot => exact absurd hbc (by simp)
      | top => exact absurd rfl hc
      | coe c =>
        rw [← EReal.coe_sub, ← EReal.coe_sub, ← EReal.coe_sub, Ideal.exp2_coe, Ideal.exp2_coe, Ideal.exp2_coe, ← EReal.coe_mul]
        congr 1
        exact (Real.rpow_add two_pos _ _).symm.trans (congrArg _ (by ring))

theorem sum_mul_of_nonneg {ι : Type*} (S : Finset ι) (f : ι → EReal) {x : EReal} (h0 : 0 ≤ x) (hx : x ≠ ⊤) :
    (∑ j ∈ S, f j) * x = ∑ j ∈ S, f j * x := by
  classical
  induction S using Finset.induction_on with
  | empty => simp
  | insert a S ha ih =>
    rw [Finset.sum_insert ha, Finset.sum_insert ha, EReal.right_distrib_of_nonneg_of_ne_top h0 hx, ih]

/-- One block more: the kept sum, rescaled, and the block's own weighted values. -/
theorem acc_add (s v : ℕ → EReal) (hs : ∀ j, s j ≠ ⊤) (n w : ℕ) :
    acc s v n * Ideal.exp2 (top s n - top s (n + w))
      + ∑ j ∈ Finset.range w, v (n + j) * Ideal.exp2 (s (n + j) - top s (n + w)) = acc s v (n + w) := by
  have hle : top s n ≤ top s (n + w) := (le_max_left _ _).trans (top_add s n w).le
  have hT := top_ne_top s hs (n + w)
  rw [acc, acc, Finset.sum_range_add, sum_mul_of_nonneg _ _ (exp2_nonneg _) (exp2_ne_top (sub_ne_top hT hle))]
  refine congrArg (· + _) (Finset.sum_congr rfl fun j hj => ?_)
  rw [mul_assoc, exp2_rescale (le_top s (Finset.mem_range.mp hj)) hle hT]

/-- Scores at the value that weighs nothing add nothing. -/
theorem top_of_bot (s : ℕ → EReal) (n w : ℕ) (h : ∀ j, n ≤ j → j < n + w → s j = ⊥) : top s (n + w) = top s n := by
  rw [← top_add]
  refine max_eq_left (Finset.sup_le fun j hj => ?_)
  have := Finset.mem_range.mp hj
  rw [h (n + j) (Nat.le_add_right _ _) (by omega)]; exact bot_le

theorem acc_of_bot (s v : ℕ → EReal) (n w : ℕ) (h : ∀ j, n ≤ j → j < n + w → s j = ⊥) : acc s v (n + w) = acc s v n := by
  rw [acc, acc, Finset.sum_range_add, top_of_bot s n w h]
  refine (congrArg (_ + ·) (Finset.sum_eq_zero fun j hj => ?_)).trans (add_zero _)
  have := Finset.mem_range.mp hj
  rw [h (n + j) (Nat.le_add_right _ _) (by omega), bot_sub', Ideal.exp2_bot, mul_zero]

end Cert.Online

end
-- ==== Proof.Mla.Unit.lean ====
/-
  One unit of the attention at an index, over the extended reals: a head, half of the block's queries and
  one block of keys. The running maximum and the accumulator after the unit are `Online.top` and
  `Online.acc` at the keys seen so far, if they were before it.
-/
module

public import proofs.«01_k».proof.Proof.Mla.Online
public import proofs.«01_k».proof.Proof.Gen.KernelIdeal.Skeleton
public import Idealize.ShloMosaic.Lib.Pointwise

@[expose] public section

set_option maxRecDepth 16384

noncomputable section

namespace Cert.KernelIdeal.Mla

open Cert.KernelIdeal Cert.KernelIdeal.Gen Cert.Online
open Idealize.ShloMosaic

/-- An array of three axes at natural-number coordinates: zero outside its bounds. -/
def at3 {a b c : ℕ} (X : (⟨3, ![a, b, c]⟩ : Shape).Idx → EReal) (x y z : ℕ) : EReal :=
  if h : x < a ∧ y < b ∧ z < c then X (ix3 ⟨x, h.1⟩ ⟨y, h.2.1⟩ ⟨z, h.2.2⟩) else 0

theorem at3_idx {a b c : ℕ} (X : (⟨3, ![a, b, c]⟩ : Shape).Idx → EReal) (y : (⟨3, ![a, b, c]⟩ : Shape).Idx) (x' y' z' : ℕ)
    (hx : x' = (y 0).val) (hy : y' = (y 1).val) (hz : z' = (y 2).val) : at3 X x' y' z' = X y := by
  subst hx hy hz
  have h0 : (y 0).val < a := (y 0).isLt
  have h1 : (y 1).val < b := (y 1).isLt
  have h2 : (y 2).val < c := (y 2).isLt
  unfold at3
  rw [dif_pos ⟨h0, h1, h2⟩]
  congr 1
  funext k
  match k with
  | ⟨0, _⟩ => rfl
  | ⟨1, _⟩ => rfl
  | ⟨2, _⟩ => rfl

/-- The new running maximum of a unit, of its scores and the old maximum. -/
def uMax (W : ℕ) (hr : (⟨2, ![W, 256]⟩ : Shape).Reduces [0] S256) (S : FVec Ideal ⟨2, ![W, 256]⟩ .f32) (mp : FVec Ideal S1x1x256 .f32) : FVec Ideal S1x256 .f32 :=
  maximumf (shapeCast S1x256 mp shapeCasts_S1x1x256_S1x256)
    (shapeCast S1x256 (multiReduction .maximumf [0] S256 S 0xFF800000#32 hr (.inl rfl) rfl) shapeCasts_S256_S1x256)

/-- The new accumulator of a unit, of its scores (as first computed and as reloaded), the old maximum, the old
    accumulator and the block of values. -/
def uAcc (W : ℕ) (hr : (⟨2, ![W, 256]⟩ : Shape).Reduces [0] S256) (hb : S1x256.Broadcasts ⟨2, ![W, 256]⟩)
    (hv : (⟨3, ![1, 128, W]⟩ : Shape).ShapeCasts ⟨2, ![128, W]⟩) (d : DotDims ⟨2, ![128, W]⟩ ⟨2, ![W, 256]⟩ S128x256)
    (S S' : FVec Ideal ⟨2, ![W, 256]⟩ .f32) (mp : FVec Ideal S1x1x256 .f32) (ap : FVec Ideal S1x128x256 .f32)
    (Vb : FVec Ideal ⟨3, ![1, 128, W]⟩ .bf16) : FVec Ideal S128x256 .f32 :=
  addf (mulf (shapeCast S128x256 ap shapeCasts_S1x128x256_S128x256)
      (broadcastTo S128x256 (exp2 (subf (shapeCast S1x256 mp shapeCasts_S1x1x256_S1x256) (uMax W hr S mp))) broadcasts_S1x256_S128x256))
    (matmul d none (shapeCast ⟨2, ![128, W]⟩ Vb hv)
      (exp2 (truncf .bf16 (subf S' (broadcastTo ⟨2, ![W, 256]⟩ (uMax W hr S mp) hb)) bitsLt_bf16_f32))
      (constant S128x256 .f32 0x00000000#32))

theorem sup_range (f : ℕ → EReal) (W : ℕ) : (Finset.univ.fold max (⊥ : EReal) fun k : Fin W => f k.val) = (Finset.range W).sup f := by
  change (Finset.univ : Finset (Fin W)).sup (fun k => f k.val) = _
  apply le_antisymm
  · exact Finset.sup_le fun k _ => Finset.le_sup (f := f) (Finset.mem_range.mpr k.isLt)
  · exact Finset.sup_le fun j hj => Finset.le_sup (f := fun k : Fin W => f k.val) (Finset.mem_univ ⟨j, Finset.mem_range.mp hj⟩)

theorem neg_inf : Ideal.ofBits FTy.f32 0xFF800000#32 = ⊥ := by simp [Ideal.ofBits, Ideal.ieee]

theorem uMax_eq (W : ℕ) (hr) (S : FVec Ideal ⟨2, ![W, 256]⟩ .f32) (mp : FVec Ideal S1x1x256 .f32) (s : ℕ → EReal) (n : ℕ) (q : Fin 256)
    (hS : ∀ j : Fin W, S (ix2 j q) = s (n + j.val)) (hm : mp (ix3 (0 : Fin 1) (0 : Fin 1) q) = top s n) :
    uMax W hr S mp (ix2 (0 : Fin 1) q) = top s (n + W) := by
  unfold uMax
  pointwise
  simp only [hS, hm, neg_inf]
  rw [sup_range (fun j => s (n + j)), top_add]

theorem uAcc_eq512 (S S' : FVec Ideal S512x256 .f32) (mp : FVec Ideal S1x1x256 .f32) (ap : FVec Ideal S1x128x256 .f32)
    (Vb : FVec Ideal S1x128x512 .bf16) (s v : ℕ → EReal) (n : ℕ) (r : Fin 128) (q : Fin 256) (hs : ∀ j, s j ≠ ⊤) (hSS : S' = S)
    (hS : ∀ j : Fin 512, S (ix2 j q) = s (n + j.val)) (hm : mp (ix3 (0 : Fin 1) (0 : Fin 1) q) = top s n)
    (ha : ap (ix3 (0 : Fin 1) r q) = acc s v n) (hv : ∀ j : Fin 512, Vb (ix3 (0 : Fin 1) r j) = v (n + j.val)) :
    uAcc 512 reduces_S512x256_S256 broadcasts_S1x256_S512x256 shapeCasts_S1x128x512_S128x512 dot_S128x512_S512x256_S128x256_1_0_0_1_n_n S S' mp ap Vb (ix2 r q) = acc s v (n + 512) := by
  subst hSS
  unfold uAcc
  pointwise
  simp only [uMax_eq 512 _ S' mp s n q hS hm, hS, hm, ha, hv]
  rw [← acc_add s v hs n 512, Finset.sum_range]
  rfl

theorem uAcc_eq256 (S S' : FVec Ideal S256x256 .f32) (mp : FVec Ideal S1x1x256 .f32) (ap : FVec Ideal S1x128x256 .f32)
    (Vb : FVec Ideal S1x128x256 .bf16) (s v : ℕ → EReal) (n : ℕ) (r : Fin 128) (q : Fin 256) (hs : ∀ j, s j ≠ ⊤) (hSS : S' = S)
    (hS : ∀ j : Fin 256, S (ix2 j q) = s (n + j.val)) (hm : mp (ix3 (0 : Fin 1) (0 : Fin 1) q) = top s n)
    (ha : ap (ix3 (0 : Fin 1) r q) = acc s v n) (hv : ∀ j : Fin 256, Vb (ix3 (0 : Fin 1) r j) = v (n + j.val)) :
    uAcc 256 reduces_S256x256_S256 broadcasts_S1x256_S256x256 shapeCasts_S1x128x256_S128x256 dot_S128x256_S256x256_S128x256_1_0_0_1_n_n S S' mp ap Vb (ix2 r q) = acc s v (n + 256) := by
  subst hSS
  unfold uAcc
  pointwise
  simp only [uMax_eq 256 _ S' mp s n q hS hm, hS, hm, ha, hv]
  rw [← acc_add s v hs n 256, Finset.sum_range]
  rfl

/-- The scores of 512 keys against half of the block's queries. -/
def sc512 (Kb : FVec Ideal S1x512x128 .bf16) (Qb : FVec Ideal S1x256x128 .bf16) : FVec Ideal S512x256 .f32 :=
  matmul dot_S512x128_S256x128_S512x256_1_1_0_0_n_n none (shapeCast S512x128 Kb shapeCasts_S1x512x128_S512x128) (shapeCast S256x128 Qb shapeCasts_S1x256x128_S256x128)
    (constant S512x256 .f32 0x00000000#32)

/-- The scores of 256 keys against half of the block's queries. -/
def sc256 (Kb : FVec Ideal S1x256x128 .bf16) (Qb : FVec Ideal S1x256x128 .bf16) : FVec Ideal S256x256 .f32 :=
  matmul dot_S256x128_S256x128_S256x256_1_1_0_0_n_n none (shapeCast S256x128 Kb shapeCasts_S1x256x128_S256x128) (shapeCast S256x128 Qb shapeCasts_S1x256x128_S256x128)
    (constant S256x256 .f32 0x00000000#32)

theorem sc512_apply (Kb : FVec Ideal S1x512x128 .bf16) (Qb : FVec Ideal S1x256x128 .bf16) (j : Fin 512) (q : Fin 256) :
    sc512 Kb Qb (ix2 j q) = ∑ d : Fin 128, Kb (ix3 (0 : Fin 1) j d) * Qb (ix3 (0 : Fin 1) q d) := by
  unfold sc512
  pointwise

theorem sc256_apply (Kb : FVec Ideal S1x256x128 .bf16) (Qb : FVec Ideal S1x256x128 .bf16) (j : Fin 256) (q : Fin 256) :
    sc256 Kb Qb (ix2 j q) = ∑ d : Fin 128, Kb (ix3 (0 : Fin 1) j d) * Qb (ix3 (0 : Fin 1) q d) := by
  unfold sc256
  pointwise

/-- The score of key `j` against query `qq` of the block, head `h`, of the staged blocks. -/
def raw (Q : FVec Ideal S1x512x1024 .bf16) (K : FVec Ideal S1x4096x1024 .bf16) (h qq j : ℕ) : EReal :=
  ∑ d : Fin 128, at3 K 0 j (128 * h + d.val) * at3 Q 0 qq (128 * h + d.val)

/-- The masked score: query `qq` is at position `base + qq`, and sees the keys up to the end of its own chunk of 64. -/
def scr (base : ℕ) (Q : FVec Ideal S1x512x1024 .bf16) (K : FVec Ideal S1x4096x1024 .bf16) (h qq j : ℕ) : EReal :=
  if j / 64 ≤ (base + qq) / 64 then raw Q K h qq j else ⊥

/-- The value of key `j` at row `r` of head `h`. -/
def vlu (V : FVec Ideal S1x1024x4096 .bf16) (h r j : ℕ) : EReal := at3 V 0 (128 * h + r) j

section Loads

variable {sig : RefSig} {κ : Kind} {sp : Space} {a b c : ℕ} {e : EltTy}

/-- A load of a block of three axes at an index, by natural-number coordinates. -/
theorem readAt_nat (v : View sig κ sp ⟨3, ![a, b, c]⟩ e) (f : v.ty.Contents (Elt Ideal)) (G : ℕ → ℕ → ℕ → Elt Ideal e)
    (hG : ∀ y, v.read (Elt Ideal) f y = G (y 0).val (y 1).val (y 2).val) (o : Fin 3 → ℕ) (w : Fin 3 → ℕ)
    (inb : ∀ k, o k + w k ≤ (⟨3, ![a, b, c]⟩ : Shape).size k)
    (x : (⟨3, w⟩ : Shape).Idx) (x' y' z' : ℕ) (hx : o 0 + (x 0).val = x') (hy : o 1 + (x 1).val = y') (hz : o 2 + (x 2).val = z') :
    v.readAt (Elt Ideal) (Rect.unit (s := ⟨3, ![a, b, c]⟩) o w inb).toLoadRect f x = G x' y' z' := by
  subst hx hy hz
  rw [View.readAt_apply, hG]
  have e0 : (((Rect.unit (s := ⟨3, ![a, b, c]⟩) o w inb).toLoadRect.idx x) 0).val = o 0 + 1 * (x 0).val := rfl
  have e1 : (((Rect.unit (s := ⟨3, ![a, b, c]⟩) o w inb).toLoadRect.idx x) 1).val = o 1 + 1 * (x 1).val := rfl
  have e2 : (((Rect.unit (s := ⟨3, ![a, b, c]⟩) o w inb).toLoadRect.idx x) 2).val = o 2 + 1 * (x 2).val := rfl
  rw [e0, e1, e2, one_mul, one_mul, one_mul]

end Loads

/-- The coordinates of an array of three axes, read back. -/
theorem at3_self {a b c : ℕ} (X : (⟨3, ![a, b, c]⟩ : Shape).Idx → EReal) (y : (⟨3, ![a, b, c]⟩ : Shape).Idx) :
    X y = at3 X (y 0).val (y 1).val (y 2).val := (at3_idx X y _ _ _ rfl rfl rfl).symm

end Cert.KernelIdeal.Mla

end
-- ==== Proof.Mla.Units.lean ====
/-
  The attention's units at the rectangles they load and store: what a unit stores into the maxima and into the
  accumulators, of what the buffers held before.
-/
module

public import proofs.«01_k».proof.Proof.Mla.Unit

@[expose] public section

set_option maxRecDepth 16384

noncomputable section

namespace Cert.KernelIdeal.Mla

open Cert.KernelIdeal Cert.KernelIdeal.Gen Cert.Online
open Idealize.ShloMosaic

variable {sig : RefSig} {κ : Kind} {sp : Space}

theorem ix3_0 {a b c : ℕ} (x : Fin a) (y : Fin b) (z : Fin c) : ((ix3 x y z : (⟨3, ![a, b, c]⟩ : Shape).Idx) 0).val = x.val := rfl
theorem ix3_1 {a b c : ℕ} (x : Fin a) (y : Fin b) (z : Fin c) : ((ix3 x y z : (⟨3, ![a, b, c]⟩ : Shape).Idx) 1).val = y.val := rfl
theorem ix3_2 {a b c : ℕ} (x : Fin a) (y : Fin b) (z : Fin c) : ((ix3 x y z : (⟨3, ![a, b, c]⟩ : Shape).Idx) 2).val = z.val := rfl

/-- Scores of `W` keys from key `n` against the queries from `off` of head `h`, unmasked, at the rectangles loaded. -/
theorem sc512_load (v3 : View sig κ sp S1x512x1024 .bf16) (v4 : View sig κ sp S1x4096x1024 .bf16)
    (X3 : v3.ty.Contents (Elt Ideal)) (X4 : v4.ty.Contents (Elt Ideal)) (Q : FVec Ideal S1x512x1024 .bf16) (K : FVec Ideal S1x4096x1024 .bf16)
    (hQ : v3.read (Elt Ideal) X3 = Q) (hK : v4.read (Elt Ideal) X4 = K) (h off n : ℕ) (o3 o4 : Fin 3 → ℕ)
    (inb3 : ∀ k, o3 k + S1x256x128.size k ≤ S1x512x1024.size k) (inb4 : ∀ k, o4 k + S1x512x128.size k ≤ S1x4096x1024.size k)
    (e3 : o3 = ![0, off, 128 * h]) (e4 : o4 = ![0, n, 128 * h]) (j : Fin 512) (q : Fin 256) :
    sc512 (v4.readAt (Elt Ideal) (Rect.unit (s := S1x4096x1024) o4 S1x512x128.size inb4).toLoadRect X4)
      (v3.readAt (Elt Ideal) (Rect.unit (s := S1x512x1024) o3 S1x256x128.size inb3).toLoadRect X3) (ix2 j q)
      = raw Q K h (off + q.val) (n + j.val) := by
  subst e3 e4
  rw [sc512_apply]
  unfold raw
  refine Finset.sum_congr rfl fun d _ => ?_
  rw [readAt_nat v4 X4 (at3 K) (fun y => by rw [hK]; exact at3_self K y) _ _ _ _ 0 (n + j.val) (128 * h + d.val) rfl rfl rfl,
    readAt_nat v3 X3 (at3 Q) (fun y => by rw [hQ]; exact at3_self Q y) _ _ _ _ 0 (off + q.val) (128 * h + d.val) rfl rfl rfl]

theorem sc256_load (v3 : View sig κ sp S1x512x1024 .bf16) (v4 : View sig κ sp S1x4096x1024 .bf16)
    (X3 : v3.ty.Contents (Elt Ideal)) (X4 : v4.ty.Contents (Elt Ideal)) (Q : FVec Ideal S1x512x1024 .bf16) (K : FVec Ideal S1x4096x1024 .bf16)
    (hQ : v3.read (Elt Ideal) X3 = Q) (hK : v4.read (Elt Ideal) X4 = K) (h off n : ℕ) (o3 o4 : Fin 3 → ℕ)
    (inb3 : ∀ k, o3 k + S1x256x128.size k ≤ S1x512x1024.size k) (inb4 : ∀ k, o4 k + S1x256x128.size k ≤ S1x4096x1024.size k)
    (e3 : o3 = ![0, off, 128 * h]) (e4 : o4 = ![0, n, 128 * h]) (j : Fin 256) (q : Fin 256) :
    sc256 (v4.readAt (Elt Ideal) (Rect.unit (s := S1x4096x1024) o4 S1x256x128.size inb4).toLoadRect X4)
      (v3.readAt (Elt Ideal) (Rect.unit (s := S1x512x1024) o3 S1x256x128.size inb3).toLoadRect X3) (ix2 j q)
      = raw Q K h (off + q.val) (n + j.val) := by
  subst e3 e4
  rw [sc256_apply]
  unfold raw
  refine Finset.sum_congr rfl fun d _ => ?_
  rw [readAt_nat v4 X4 (at3 K) (fun y => by rw [hK]; exact at3_self K y) _ _ _ _ 0 (n + j.val) (128 * h + d.val) rfl rfl rfl,
    readAt_nat v3 X3 (at3 Q) (fun y => by rw [hQ]; exact at3_self Q y) _ _ _ _ 0 (off + q.val) (128 * h + d.val) rfl rfl rfl]

/-- Where a block of one head's accumulators lies. -/
theorem emb8 (h off : ℕ) (o8 : Fin 3 → ℕ) (inb8 : ∀ k, o8 k + S1x128x256.size k ≤ S8x128x512.size k) (e8 : o8 = ![h, 0, off]) (x : S1x128x256.Idx) :
    ((Rect.unit (s := S8x128x512) o8 S1x128x256.size inb8).emb x 0).val = h
      ∧ ((Rect.unit (s := S8x128x512) o8 S1x128x256.size inb8).emb x 2).val = off + (x 2).val
      ∧ ((Rect.unit (s := S8x128x512) o8 S1x128x256.size inb8).emb x 1).val = (x 1).val := by
  subst e8
  have h1 : (x 0).val < 1 := (x 0).isLt
  refine ⟨?_, ?_, ?_⟩
  · change h + 1 * (x 0).val = h
    omega
  · change off + 1 * (x 2).val = _
    omega
  · change 0 + 1 * (x 1).val = _
    omega

section Pieces

variable (v7 : View sig κ sp S8x1x512 .f32) (v8 : View sig κ sp S8x128x512 .f32)
  (f7 : v7.ty.Contents (Elt Ideal)) (f8 : v8.ty.Contents (Elt Ideal)) (s v : ℕ → ℕ → ℕ → EReal) (n h off : ℕ)
  (hs : ∀ a b j, s a b j ≠ ⊤)
  (hf7 : ∀ y, v7.read (Elt Ideal) f7 y = top (s (y 0).val (y 2).val) n)
  (hf8 : ∀ y, v8.read (Elt Ideal) f8 y = acc (s (y 0).val (y 2).val) (v (y 0).val (y 1).val) n)
  (o7 : Fin 3 → ℕ) (inb7 : ∀ k, o7 k + S1x1x256.size k ≤ S8x1x512.size k) (e7 : o7 = ![h, 0, off])

include hf7 e7 in
theorem max_load (q : Fin 256) : (v7.readAt (Elt Ideal) (Rect.unit (s := S8x1x512) o7 S1x1x256.size inb7).toLoadRect f7) (ix3 (0 : Fin 1) (0 : Fin 1) q) = top (s h (off + q.val)) n := by
  subst e7
  exact readAt_nat v7 f7 (fun a b c => top (s a c) n) hf7 _ _ _ _ h 0 (off + q.val) rfl rfl rfl

include hf7 e7 in
/-- What a unit stores into the maxima. -/
theorem piece7 (W : ℕ) (hr) (S : FVec Ideal ⟨2, ![W, 256]⟩ .f32)
    (hS : ∀ (j : Fin W) (q : Fin 256), S (ix2 j q) = s h (off + q.val) (n + j.val)) (hc) (x : S1x1x256.Idx) :
    shapeCast S1x1x256 (uMax W hr S (v7.readAt (Elt Ideal) (Rect.unit (s := S8x1x512) o7 S1x1x256.size inb7).toLoadRect f7)) hc x
      = top (s ((Rect.unit (s := S8x1x512) o7 S1x1x256.size inb7).emb x 0).val ((Rect.unit (s := S8x1x512) o7 S1x1x256.size inb7).emb x 2).val) (n + W) := by
  have ea : ((Rect.unit (s := S8x1x512) o7 S1x1x256.size inb7).emb x 0).val = h := by
    subst e7
    change h + 1 * (x 0).val = h
    have h1 : (x 0).val < 1 := (x 0).isLt
    omega
  have eb : ((Rect.unit (s := S8x1x512) o7 S1x1x256.size inb7).emb x 2).val = off + (x 2).val := by
    subst e7
    change off + 1 * (x 2).val = _
    omega
  rw [ea, eb]
  pointwise
  exact uMax_eq W hr S _ _ n (x 2) (fun j => hS j (x 2)) (max_load v7 f7 s n _ off hf7 o7 inb7 e7 (x 2))

variable (o8 : Fin 3 → ℕ) (inb8 : ∀ k, o8 k + S1x128x256.size k ≤ S8x128x512.size k) (e8 : o8 = ![h, 0, off])

include hf8 e8 in
theorem acc_load (r : Fin 128) (q : Fin 256) : (v8.readAt (Elt Ideal) (Rect.unit (s := S8x128x512) o8 S1x128x256.size inb8).toLoadRect f8) (ix3 (0 : Fin 1) r q)
    = acc (s h (off + q.val)) (v h r.val) n := by
  subst e8
  exact readAt_nat v8 f8 (fun a b c => acc (s a c) (v a b) n) hf8 _ _ _ _ h r.val (off + q.val) rfl (by simp) rfl

variable (v5 : View sig κ sp S1x1024x4096 .bf16) (X5 : v5.ty.Contents (Elt Ideal)) (V : FVec Ideal S1x1024x4096 .bf16)
  (hV : v5.read (Elt Ideal) X5 = V) (o5 : Fin 3 → ℕ) (e5 : o5 = ![0, 128 * h, n])

include hs hf7 e7 hf8 e8 hV e5 in
/-- What a unit of 512 keys stores into the accumulators. -/
theorem piece8_512 (inb5 : ∀ k, o5 k + S1x128x512.size k ≤ S1x1024x4096.size k) (hvlu : v = vlu V) (S S' : FVec Ideal S512x256 .f32) (hSS : S' = S)
    (hS : ∀ (j : Fin 512) (q : Fin 256), S (ix2 j q) = s h (off + q.val) (n + j.val)) (hc) (x : S1x128x256.Idx) :
    shapeCast S1x128x256 (uAcc 512 reduces_S512x256_S256 broadcasts_S1x256_S512x256 shapeCasts_S1x128x512_S128x512 dot_S128x512_S512x256_S128x256_1_0_0_1_n_n S S'
        (v7.readAt (Elt Ideal) (Rect.unit (s := S8x1x512) o7 S1x1x256.size inb7).toLoadRect f7)
        (v8.readAt (Elt Ideal) (Rect.unit (s := S8x128x512) o8 S1x128x256.size inb8).toLoadRect f8)
        (v5.readAt (Elt Ideal) (Rect.unit (s := S1x1024x4096) o5 S1x128x512.size inb5).toLoadRect X5)) hc x
      = acc (s ((Rect.unit (s := S8x128x512) o8 S1x128x256.size inb8).emb x 0).val ((Rect.unit (s := S8x128x512) o8 S1x128x256.size inb8).emb x 2).val)
        (v ((Rect.unit (s := S8x128x512) o8 S1x128x256.size inb8).emb x 0).val ((Rect.unit (s := S8x128x512) o8 S1x128x256.size inb8).emb x 1).val) (n + 512) := by
  obtain ⟨ea, eb, ed⟩ := emb8 h off o8 inb8 e8 x
  rw [ea, eb, ed]
  pointwise
  refine uAcc_eq512 S S' _ _ _ _ _ n (x 1) (x 2) (hs _ _) hSS (fun j => hS j (x 2)) (max_load v7 f7 s n _ off hf7 o7 inb7 e7 (x 2))
    (acc_load v8 f8 s v n _ off hf8 o8 inb8 e8 (x 1) (x 2)) fun j => ?_
  subst hvlu e5
  exact readAt_nat v5 X5 (at3 V) (fun y => by rw [hV]; exact at3_self V y) _ _ _ _ 0 (128 * h + (x 1).val) (n + j.val) rfl rfl rfl

include hs hf7 e7 hf8 e8 hV e5 in
/-- What a unit of 256 keys stores into the accumulators. -/
theorem piece8_256 (inb5 : ∀ k, o5 k + S1x128x256.size k ≤ S1x1024x4096.size k) (hvlu : v = vlu V) (S S' : FVec Ideal S256x256 .f32) (hSS : S' = S)
    (hS : ∀ (j : Fin 256) (q : Fin 256), S (ix2 j q) = s h (off + q.val) (n + j.val)) (hc) (x : S1x128x256.Idx) :
    shapeCast S1x128x256 (uAcc 256 reduces_S256x256_S256 broadcasts_S1x256_S256x256 shapeCasts_S1x128x256_S128x256 dot_S128x256_S256x256_S128x256_1_0_0_1_n_n S S'
        (v7.readAt (Elt Ideal) (Rect.unit (s := S8x1x512) o7 S1x1x256.size inb7).toLoadRect f7)
        (v8.readAt (Elt Ideal) (Rect.unit (s := S8x128x512) o8 S1x128x256.size inb8).toLoadRect f8)
        (v5.readAt (Elt Ideal) (Rect.unit (s := S1x1024x4096) o5 S1x128x256.size inb5).toLoadRect X5)) hc x
      = acc (s ((Rect.unit (s := S8x128x512) o8 S1x128x256.size inb8).emb x 0).val ((Rect.unit (s := S8x128x512) o8 S1x128x256.size inb8).emb x 2).val)
        (v ((Rect.unit (s := S8x128x512) o8 S1x128x256.size inb8).emb x 0).val ((Rect.unit (s := S8x128x512) o8 S1x128x256.size inb8).emb x 1).val) (n + 256) := by
  obtain ⟨ea, eb, ed⟩ := emb8 h off o8 inb8 e8 x
  rw [ea, eb, ed]
  pointwise
  refine uAcc_eq256 S S' _ _ _ _ _ n (x 1) (x 2) (hs _ _) hSS (fun j => hS j (x 2)) (max_load v7 f7 s n _ off hf7 o7 inb7 e7 (x 2))
    (acc_load v8 f8 s v n _ off hf8 o8 inb8 e8 (x 1) (x 2)) fun j => ?_
  subst hvlu e5
  exact readAt_nat v5 X5 (at3 V) (fun y => by rw [hV]; exact at3_self V y) _ _ _ _ 0 (128 * h + (x 1).val) (n + j.val) rfl rfl rfl

end Pieces

end Cert.KernelIdeal.Mla

end
-- ==== Proof.Mla.Mask.lean ====
/-
  The diagonal block's scores: where the mask lets a key be seen, the product; elsewhere minus infinity.
-/
module

public import proofs.«01_k».proof.Proof.Mla.Units

@[expose] public section

set_option maxRecDepth 16384

noncomputable section

namespace Cert.KernelIdeal.Mla

open Cert.KernelIdeal Cert.KernelIdeal.Gen Cert.Online
open Idealize.ShloMosaic

/-- A word's quotient by 64 rounded down, as the program spells it. -/
def fdiv64 (x : BitVec 32) : BitVec 32 :=
  Scalar.select
    (IntOp.andi
      (IntOp.cmpi CmpIPredicate.ne
        (IntOp.subi (BitVec.setWidth 32 (IntOp.cmpi CmpIPredicate.sgt x 0#32)) (BitVec.setWidth 32 (IntOp.cmpi CmpIPredicate.slt x 0#32)))
        (Scalar.subi (Scalar.extui (Scalar.cmpi CmpIPredicate.sgt 64#32 0#32)) (Scalar.extui (Scalar.cmpi CmpIPredicate.slt 64#32 0#32))))
      (IntOp.cmpi CmpIPredicate.ne (IntOp.remsi ArithUnit.vector x 64#32) 0#32))
    (IntOp.subi (IntOp.divsi ArithUnit.vector x 64#32) 1#32) (IntOp.divsi ArithUnit.vector x 64#32)

theorem fdiv64_eq : ∀ j : Fin 512, fdiv64 (BitVec.ofNat 32 j.val) = BitVec.ofNat 32 (j.val / 64) := by decide +kernel

theorem sle_small : ∀ a b : Fin 8, IntOp.cmpi CmpIPredicate.sle (BitVec.ofNat 32 a.val) (BitVec.ofNat 32 b.val) = if a.val ≤ b.val then 1#1 else 0#1 := by
  decide +kernel

/-- The mask of the diagonal block, keys by queries. -/
abbrev msk : IVec S512x512 1 := k0_pay269 k0_pay266 k0_pay267 k0_pay268

theorem msk_apply (j q : Fin 512) : msk (ix2 j q) = if j.val / 64 ≤ q.val / 64 then 1#1 else 0#1 := by
  unfold msk k0_pay269 k0_pay266 k0_pay267 k0_pay268
  pointwise
  refine Eq.trans (b := IntOp.cmpi CmpIPredicate.sle (fdiv64 (BitVec.ofNat 32 j.val)) (fdiv64 (BitVec.ofNat 32 q.val))) rfl ?_
  rw [fdiv64_eq, fdiv64_eq]
  exact sle_small ⟨j.val / 64, by have := j.isLt; omega⟩ ⟨q.val / 64, by have := q.isLt; omega⟩

/-- The mask's constant is minus infinity. -/
theorem mask_const : (Named.named κ "mask" 0xF149F2CA#32 : Ideal .f32) = ⊥ := IdealRules.named_const.ideal_named_scalar _ _ _ _ rfl

/-- The diagonal block's scores of its first half of keys against its first half of queries. -/
def dg256 (Kb Qb : FVec Ideal S1x256x128 .bf16) : FVec Ideal S256x256 .f32 :=
  select (extractStridedSlice S256x256 ![0, 0] msk slices_S512x512_o0_0_S256x256) (sc256 Kb Qb) (broadcast S256x256 (Named.named κ "mask" 0xF149F2CA#32))

/-- The diagonal block's scores of all its keys against its second half of queries. -/
def dg512 (Kb : FVec Ideal S1x512x128 .bf16) (Qb : FVec Ideal S1x256x128 .bf16) : FVec Ideal S512x256 .f32 :=
  select (extractStridedSlice S512x256 ![0, 256] msk slices_S512x512_o0_256_S512x256) (sc512 Kb Qb) (broadcast S512x256 (Named.named κ "mask" 0xF149F2CA#32))

theorem dg256_apply (Kb Qb : FVec Ideal S1x256x128 .bf16) (j q : Fin 256) :
    dg256 Kb Qb (ix2 j q) = if j.val / 64 ≤ q.val / 64 then sc256 Kb Qb (ix2 j q) else ⊥ := by
  unfold dg256
  pointwise
  rw [mask_const, msk_apply]
  simp only [Scalar.select]
  split <;> simp_all

theorem dg512_apply (Kb : FVec Ideal S1x512x128 .bf16) (Qb : FVec Ideal S1x256x128 .bf16) (j : Fin 512) (q : Fin 256) :
    dg512 Kb Qb (ix2 j q) = if j.val / 64 ≤ (256 + q.val) / 64 then sc512 Kb Qb (ix2 j q) else ⊥ := by
  unfold dg512
  pointwise
  rw [mask_const, msk_apply]
  simp only [Scalar.select]
  split <;> simp_all

/-- Two heads' outputs of a block: the first 64 rows of each accumulator over its row 64, side by side, transposed. -/
theorem outPair_apply (A B : FVec Ideal S1x128x512 .f32) (q : Fin 512) (r : Fin 128) :
    (k0_pay399 (F := Ideal) A B (ix3 (0 : Fin 1) q r) : EReal)
      = if h : r.val < 64 then A (ix3 (0 : Fin 1) ⟨r.val, by omega⟩ q) * Ideal.div 1 (A (ix3 (0 : Fin 1) ⟨64, by omega⟩ q))
        else B (ix3 (0 : Fin 1) ⟨r.val - 64, by omega⟩ q) * Ideal.div 1 (B (ix3 (0 : Fin 1) ⟨64, by omega⟩ q)) := by
  unfold k0_pay399
  pointwise

end Cert.KernelIdeal.Mla

end
-- ==== Proof.Mla.TripValue.lean ====
/-
  What one trip of the loop leaves: if the maxima and the accumulators are those of the keys before the
  trip's block, they are afterwards those of the keys up to its end.
-/
module

public import proofs.«01_k».proof.Proof.Mla.Units
public import proofs.«01_k».proof.Proof.Mla.Trip
public import Idealize.ShloMosaic.Lib.Pipeline.FrameBody
public import Idealize.ShloMosaic.Lib.Writes

@[expose] public section

set_option maxRecDepth 16384

noncomputable section

namespace Cert.KernelIdeal.Mla

open Cert.KernelIdeal Cert.KernelIdeal.Gen Cert.Online
open Idealize.ShloMosaic Idealize.ShloMosaic.TcCoe

/-- A score is never plus infinity, if the staged queries and keys are finite. -/
def Finite3 {a b c : ℕ} (X : (⟨3, ![a, b, c]⟩ : Shape).Idx → EReal) : Prop := ∀ y, X y ≠ ⊥ ∧ X y ≠ ⊤

theorem at3_finite {a b c : ℕ} {X : (⟨3, ![a, b, c]⟩ : Shape).Idx → EReal} (h : Finite3 X) (x y z : ℕ) : ∃ r : ℝ, at3 X x y z = (r : EReal) := by
  unfold at3
  split
  · exact ⟨_, (EReal.coe_toReal (h _).2 (h _).1).symm⟩
  · exact ⟨0, rfl⟩

theorem raw_finite {Q : FVec Ideal S1x512x1024 .bf16} {K : FVec Ideal S1x4096x1024 .bf16} (hq : Finite3 Q) (hk : Finite3 K) (h qq j : ℕ) :
    ∃ r : ℝ, raw Q K h qq j = (r : EReal) := by
  refine Finset.sum_induction _ (fun x : EReal => ∃ r : ℝ, x = (r : EReal)) ?_ ⟨0, rfl⟩ fun d _ => ?_
  · rintro _ _ ⟨a, rfl⟩ ⟨b, rfl⟩
    exact ⟨a + b, rfl⟩
  · obtain ⟨a, ha⟩ := at3_finite hk 0 j (128 * h + d.val)
    obtain ⟨b, hb⟩ := at3_finite hq 0 qq (128 * h + d.val)
    exact ⟨a * b, by rw [ha, hb]; rfl⟩

theorem scr_ne_top {Q : FVec Ideal S1x512x1024 .bf16} {K : FVec Ideal S1x4096x1024 .bf16} (hq : Finite3 Q) (hk : Finite3 K) (base h qq j : ℕ) :
    scr base Q K h qq j ≠ ⊤ := by
  unfold scr
  split
  · obtain ⟨r, hr⟩ := raw_finite hq hk h qq j
    rw [hr]; exact EReal.coe_ne_top r
  · exact bot_ne_top

/-- Keys before the block of queries are seen by all of its queries. -/
theorem scr_before {Q : FVec Ideal S1x512x1024 .bf16} {K : FVec Ideal S1x4096x1024 .bf16} (base h qq j : ℕ) (hj : j ≤ base) :
    scr base Q K h qq j = raw Q K h qq j := by
  unfold scr
  rw [if_pos (Nat.div_le_div_right (by omega))]

section Trip

variable (c : Dev nD) (i : grid0.Coords) (arg3 : Memref sig .tc .vmem S1x512x1024 .bf16) (harg3 : arg3.IsWhole) (arg4 : Memref sig .tc .vmem S1x4096x1024 .bf16) (harg4 : arg4.IsWhole) (arg5 : Memref sig .tc .vmem S1x1024x4096 .bf16) (harg5 : arg5.IsWhole) (arg6 : Memref sig .tc .vmem S1x512x512 .bf16) (harg6 : arg6.IsWhole) (arg7 : Memref sig .tc .vmem S8x1x512 .f32) (harg7 : arg7.IsWhole) (arg8 : Memref sig .tc .vmem S8x128x512 .f32) (harg8 : arg8.IsWhole) (arg9 : Memref sig .tc .vmem S512x256 .f32) (harg9 : arg9.IsWhole) (arg10 : Memref sig .tc .vmem S512x256 .f32) (harg10 : arg10.IsWhole) (arg11 : Memref sig .tc .vmem S512x256 .f32) (harg11 : arg11.IsWhole) (arg12 : Memref sig .tc .vmem S512x256 .f32) (harg12 : arg12.IsWhole)
  (X3 : Buf (Elt Ideal) (arg3.view.loc (c : Thread nD τ))) (X4 : Buf (Elt Ideal) (arg4.view.loc (c : Thread nD τ))) (X5 : Buf (Elt Ideal) (arg5.view.loc (c : Thread nD τ)))
  (Q : FVec Ideal S1x512x1024 .bf16) (K : FVec Ideal S1x4096x1024 .bf16) (V : FVec Ideal S1x1024x4096 .bf16)
  (hQ : arg3.view.read (Elt Ideal) X3 = Q) (hK : arg4.view.read (Elt Ideal) X4 = K) (hV : arg5.view.read (Elt Ideal) X5 = V)
  (hq : Finite3 Q) (hk : Finite3 K)
  (k : Fin (k0_t1_loop i).trips) (base : ℕ) (hb : 512 * k.val + 512 ≤ base)
  (f7 : Buf (Elt Ideal) (arg7.view.loc (c : Thread nD τ))) (f8 : Buf (Elt Ideal) (arg8.view.loc (c : Thread nD τ)))
  (hf7 : ∀ y, arg7.view.read (Elt Ideal) f7 y = top (scr base Q K (y 0).val (y 2).val) (512 * k.val))
  (hf8 : ∀ y, arg8.view.read (Elt Ideal) f8 y = acc (scr base Q K (y 0).val (y 2).val) (vlu V (y 0).val (y 1).val) (512 * k.val))

include hQ hK hb in
theorem trip_scores (h off n : ℕ) (hn : n = 512 * k.val) (o3 o4 : Fin 3 → ℕ)
    (inb3 : ∀ k, o3 k + S1x256x128.size k ≤ S1x512x1024.size k) (inb4 : ∀ k, o4 k + S1x512x128.size k ≤ S1x4096x1024.size k)
    (e3 : o3 = ![0, off, 128 * h]) (e4 : o4 = ![0, n, 128 * h]) (j : Fin 512) (q : Fin 256) :
    sc512 (arg4.view.readAt (Elt Ideal) (Rect.unit (s := S1x4096x1024) o4 S1x512x128.size inb4).toLoadRect X4)
      (arg3.view.readAt (Elt Ideal) (Rect.unit (s := S1x512x1024) o3 S1x256x128.size inb3).toLoadRect X3) (ix2 j q)
      = scr base Q K h (off + q.val) (n + j.val) := by
  rw [sc512_load arg3.view arg4.view X3 X4 Q K hQ hK h off n o3 o4 inb3 inb4 e3 e4 j q, scr_before _ _ _ _ (by have := j.isLt; omega)]

include hQ hK hb hf7 in
theorem trip7 (y : S8x1x512.Idx) :
    arg7.view.read (Elt Ideal) (arg7.view.writes (Elt Ideal) f7 (trip c i arg3 harg3 arg4 harg4 arg5 harg5 arg6 harg6 arg7 harg7 arg8 harg8 arg9 harg9 arg10 harg10 arg11 harg11 arg12 harg12 X3 X4 X5 k f7 f8).1) y
      = top (scr base Q K (y 0).val (y 2).val) (512 * k.val + 512) := by
  refine View.read_writes_apply_of_pieces (Val := Elt Ideal) arg7.view f7 (fun y : S8x1x512.Idx => top (scr base Q K (y 0).val (y 2).val) (512 * k.val + 512)) _ ?_ y
    (View.cover_of_tiledL (Val := Elt Ideal) (s := S8x1x512) _ S1x1x256.size (by sl_kernel_rfl) y)
  iterate 16
    refine List.forall_mem_cons.2 ⟨fun x => piece7 arg7.view f7 (scr base Q K) (512 * k.val) _ _ hf7 _ _ rfl 512 _ _
      (trip_scores c i arg3 arg4 X3 X4 Q K hQ hK k base hb _ _ _ rfl _ _ _ _ rfl (ClosedOff.eq.trans rfl)) _ x, ?_⟩
  exact List.forall_mem_nil _

include hQ hK hV hq hk hb hf7 hf8 in
theorem trip8 (y : S8x128x512.Idx) :
    arg8.view.read (Elt Ideal) (arg8.view.writes (Elt Ideal) f8 (trip c i arg3 harg3 arg4 harg4 arg5 harg5 arg6 harg6 arg7 harg7 arg8 harg8 arg9 harg9 arg10 harg10 arg11 harg11 arg12 harg12 X3 X4 X5 k f7 f8).2.1) y
      = acc (scr base Q K (y 0).val (y 2).val) (vlu V (y 0).val (y 1).val) (512 * k.val + 512) := by
  refine View.read_writes_apply_of_pieces (Val := Elt Ideal) arg8.view f8 (fun y : S8x128x512.Idx => acc (scr base Q K (y 0).val (y 2).val) (vlu V (y 0).val (y 1).val) (512 * k.val + 512)) _ ?_ y
    (View.cover_of_tiledL (Val := Elt Ideal) (s := S8x128x512) _ S1x128x256.size (by sl_kernel_rfl) y)
  iterate 16
    refine List.forall_mem_cons.2 ⟨fun x => piece8_512 arg7.view arg8.view f7 f8 (scr base Q K) (vlu V) (512 * k.val) _ _ (scr_ne_top hq hk base) hf7 hf8
      _ _ rfl _ _ rfl arg5.view X5 V hV _ (ClosedOff.eq.trans rfl) _ rfl _ _ ((View.readCov_cons_toLoadRect _ _ _ _).trans (shapeCast_self _ _))
      (trip_scores c i arg3 arg4 X3 X4 Q K hQ hK k base hb _ _ _ rfl _ _ _ _ rfl (ClosedOff.eq.trans rfl)) _ x, ?_⟩
  exact List.forall_mem_nil _

end Trip

end Cert.KernelIdeal.Mla

end
-- ==== Proof.Mla.DiagValue.lean ====
/-
  What the diagonal block leaves in the accumulators: the sums over all the keys up to the block's end, the
  hidden ones adding nothing; and from it the output's block.
-/
module

public import proofs.«01_k».proof.Proof.Mla.Mask
public import proofs.«01_k».proof.Proof.Mla.TripValue
public import proofs.«01_k».proof.Proof.Mla.Body
public import Idealize.ShloMosaic.Lib.Pipeline.FrameBody
public import Idealize.ShloMosaic.Lib.Pipeline.Value
public import Idealize.ShloMosaic.Lib.Writes

@[expose] public section

set_option maxRecDepth 16384

noncomputable section

namespace Cert.KernelIdeal.Mla

open Cert.KernelIdeal Cert.KernelIdeal.Gen Cert.Online
open Idealize.ShloMosaic Idealize.ShloMosaic.TcCoe

/-- The loop's trips are the blocks before the queries' own. -/
theorem trips1 (i : grid0.Coords) : (k0_t1_loop i).trips = (i 2).val := by
  have h_c0_i32_6 : Affine.IsInt 0#32 (0) := Affine.ofNat _ (by omega)
  have r_i2 : (i 2).val < 8 := (i 2).isLt
  have h_arg2 : Affine.IsInt (BitVec.ofNat 32 (i 2).val) (((i 2).val : Int)) := Affine.ofNat _ (by omega)
  have h_v8 : Affine.IsInt _ (((i 2).val : Int)) := Affine.subi h_arg2 h_c0_i32_6 (by omega)
  have h_c1_i32 : Affine.IsInt 1#32 (1) := Affine.ofNat _ (by omega)
  have h_v10 : Affine.IsInt _ (((i 2).val : Int)) := Affine.divsi h_v8 h_c1_i32 (by omega)
  have h_v11 : Affine.IsInt _ (((i 2).val : Int)) := Affine.muli h_v10 h_c1_i32 (by omega)
  have h_v12 : Affine.IsInt _ (((i 2).val : Int)) := Affine.addi h_c0_i32_6 h_v11 (by omega)
  exact Affine.trips_eq h_c0_i32_6 h_v12 h_c1_i32 _ (by omega)

/-- The second half of the diagonal block's keys is hidden from the first half of its queries. -/
theorem hidden (Q : FVec Ideal S1x512x1024 .bf16) (K : FVec Ideal S1x4096x1024 .bf16) (b h qq j : ℕ) (hq : qq < 256) (hj : 512 * b + 256 ≤ j) :
    scr (512 * b) Q K h qq j = ⊥ := by
  unfold scr
  exact if_neg (by omega)

section Diag

variable (c : Dev nD) (i : grid0.Coords) (arg3 : Memref sig .tc .vmem S1x512x1024 .bf16) (harg3 : arg3.IsWhole) (arg4 : Memref sig .tc .vmem S1x4096x1024 .bf16) (harg4 : arg4.IsWhole) (arg5 : Memref sig .tc .vmem S1x1024x4096 .bf16) (harg5 : arg5.IsWhole) (arg6 : Memref sig .tc .vmem S1x512x512 .bf16) (harg6 : arg6.IsWhole) (arg7 : Memref sig .tc .vmem S8x1x512 .f32) (harg7 : arg7.IsWhole) (arg8 : Memref sig .tc .vmem S8x128x512 .f32) (harg8 : arg8.IsWhole) (arg9 : Memref sig .tc .vmem S512x256 .f32) (harg9 : arg9.IsWhole) (arg10 : Memref sig .tc .vmem S512x256 .f32) (harg10 : arg10.IsWhole) (arg11 : Memref sig .tc .vmem S512x256 .f32) (harg11 : arg11.IsWhole) (arg12 : Memref sig .tc .vmem S512x256 .f32) (harg12 : arg12.IsWhole)
  (Q : FVec Ideal S1x512x1024 .bf16) (K : FVec Ideal S1x4096x1024 .bf16) (V : FVec Ideal S1x1024x4096 .bf16)
  (hq : Finite3 Q) (hk : Finite3 K)

theorem init7_read (y : S8x1x512.Idx) : arg7.view.read (Elt Ideal) (init7 (F := Ideal) c arg7) y = ⊥ := by
  refine View.read_writes_apply_of_pieces (Val := Elt Ideal) arg7.view _ (fun _ => ⊥) _ ?_ y
    (View.cover_of_tiledL (Val := Elt Ideal) (s := S8x1x512) _ S8x1x512.size (by sl_kernel_rfl) y)
  refine List.forall_mem_cons.2 ⟨fun x => ?_, List.forall_mem_nil _⟩
  change k0_pay262 x = ⊥
  unfold k0_pay262
  pointwise
  exact mask_const

theorem init8_read (y : S8x128x512.Idx) : arg8.view.read (Elt Ideal) (init8 (F := Ideal) c arg8) y = (0 : EReal) := by
  refine View.read_writes_apply_of_pieces (Val := Elt Ideal) arg8.view _ (fun _ => (0 : EReal)) _ ?_ y
    (View.cover_of_tiledL (Val := Elt Ideal) (s := S8x128x512) _ S8x128x512.size (by sl_kernel_rfl) y)
  refine List.forall_mem_cons.2 ⟨fun x => ?_, List.forall_mem_nil _⟩
  change (k0_pay263 (F := Ideal) x : EReal) = 0
  unfold k0_pay263
  pointwise
  try exact Ideal.ofBits_zero_f32

include hq hk in
/-- The loop's invariant on values: before trip `k`, the maxima and the accumulators are those of the keys before it. -/
theorem stat_value (X3 : Buf (Elt Ideal) (arg3.view.loc (c : Thread nD τ))) (X4 : Buf (Elt Ideal) (arg4.view.loc (c : Thread nD τ))) (X5 : Buf (Elt Ideal) (arg5.view.loc (c : Thread nD τ)))
    (hQ : arg3.view.read (Elt Ideal) X3 = Q) (hK : arg4.view.read (Elt Ideal) X4 = K) (hV : arg5.view.read (Elt Ideal) X5 = V) (k : ℕ) (hk' : k ≤ (i 2).val) :
    (∀ y, arg7.view.read (Elt Ideal) (stat c i arg3 harg3 arg4 harg4 arg5 harg5 arg6 harg6 arg7 harg7 arg8 harg8 arg9 harg9 arg10 harg10 arg11 harg11 arg12 harg12 X3 X4 X5 (init7 c arg7) (init8 c arg8) k).1 y
        = top (scr (512 * (i 2).val) Q K (y 0).val (y 2).val) (512 * k))
    ∧ (∀ y, arg8.view.read (Elt Ideal) (stat c i arg3 harg3 arg4 harg4 arg5 harg5 arg6 harg6 arg7 harg7 arg8 harg8 arg9 harg9 arg10 harg10 arg11 harg11 arg12 harg12 X3 X4 X5 (init7 c arg7) (init8 c arg8) k).2 y
        = acc (scr (512 * (i 2).val) Q K (y 0).val (y 2).val) (vlu V (y 0).val (y 1).val) (512 * k)) := by
  induction k with
  | zero =>
    refine ⟨fun y => ?_, fun y => ?_⟩
    · exact (init7_read c arg7 y).trans rfl
    · exact (init8_read c arg8 y).trans rfl
  | succ k ih =>
    obtain ⟨h7, h8⟩ := ih (by omega)
    have hlt : k < (k0_t1_loop i).trips := by rw [trips1]; omega
    have e := stat_succ c i arg3 harg3 arg4 harg4 arg5 harg5 arg6 harg6 arg7 harg7 arg8 harg8 arg9 harg9 arg10 harg10 arg11 harg11 arg12 harg12 X3 X4 X5 (init7 c arg7) (init8 c arg8) ⟨k, hlt⟩
    rw [e]
    clear e ih
    generalize stat c i arg3 harg3 arg4 harg4 arg5 harg5 arg6 harg6 arg7 harg7 arg8 harg8 arg9 harg9 arg10 harg10 arg11 harg11 arg12 harg12 X3 X4 X5 (init7 c arg7) (init8 c arg8) k = st at h7 h8 ⊢
    rw [Nat.mul_succ]
    have hb : 512 * (⟨k, hlt⟩ : Fin (k0_t1_loop i).trips).val + 512 ≤ 512 * (i 2).val := by dsimp only; omega
    have t7 := trip7 c i arg3 harg3 arg4 harg4 arg5 harg5 arg6 harg6 arg7 harg7 arg8 harg8 arg9 harg9 arg10 harg10 arg11 harg11 arg12 harg12 X3 X4 X5 Q K hQ hK ⟨k, hlt⟩ (512 * (i 2).val) hb st.1 st.2 h7
    have t8 := trip8 c i arg3 harg3 arg4 harg4 arg5 harg5 arg6 harg6 arg7 harg7 arg8 harg8 arg9 harg9 arg10 harg10 arg11 harg11 arg12 harg12 X3 X4 X5 Q K V hQ hK hV hq hk ⟨k, hlt⟩ (512 * (i 2).val) hb st.1 st.2 h7 h8
    dsimp only at t7 t8 ⊢
    exact ⟨t7, t8⟩

include hq hk in
/-- The loop's invariant after its last trip. -/
theorem stat_end (X3 : Buf (Elt Ideal) (arg3.view.loc (c : Thread nD τ))) (X4 : Buf (Elt Ideal) (arg4.view.loc (c : Thread nD τ))) (X5 : Buf (Elt Ideal) (arg5.view.loc (c : Thread nD τ)))
    (hQ : arg3.view.read (Elt Ideal) X3 = Q) (hK : arg4.view.read (Elt Ideal) X4 = K) (hV : arg5.view.read (Elt Ideal) X5 = V) (k : ℕ) (hk' : k = (i 2).val) :
    (∀ y, arg7.view.read (Elt Ideal) (stat c i arg3 harg3 arg4 harg4 arg5 harg5 arg6 harg6 arg7 harg7 arg8 harg8 arg9 harg9 arg10 harg10 arg11 harg11 arg12 harg12 X3 X4 X5 (init7 c arg7) (init8 c arg8) k).1 y
        = top (scr (512 * (i 2).val) Q K (y 0).val (y 2).val) (512 * (i 2).val))
    ∧ (∀ y, arg8.view.read (Elt Ideal) (stat c i arg3 harg3 arg4 harg4 arg5 harg5 arg6 harg6 arg7 harg7 arg8 harg8 arg9 harg9 arg10 harg10 arg11 harg11 arg12 harg12 X3 X4 X5 (init7 c arg7) (init8 c arg8) k).2 y
        = acc (scr (512 * (i 2).val) Q K (y 0).val (y 2).val) (vlu V (y 0).val (y 1).val) (512 * (i 2).val)) := by
  subst hk'
  exact stat_value c i arg3 harg3 arg4 harg4 arg5 harg5 arg6 harg6 arg7 harg7 arg8 harg8 arg9 harg9 arg10 harg10 arg11 harg11 arg12 harg12 Q K V hq hk X3 X4 X5 hQ hK hV _ le_rfl

theorem diag_scores512 (h : ℕ) (b : ℕ) (o3 o4 : Fin 3 → ℕ)
    (inb3 : ∀ k, o3 k + S1x256x128.size k ≤ S1x512x1024.size k) (inb4 : ∀ k, o4 k + S1x512x128.size k ≤ S1x4096x1024.size k)
    (e3 : o3 = ![0, 256, 128 * h]) (e4 : o4 = ![0, 512 * b, 128 * h]) (j : Fin 512) (q : Fin 256) :
    dg512 (arg4.view.readAt (Elt Ideal) (Rect.unit (s := S1x4096x1024) o4 S1x512x128.size inb4).toLoadRect (harg4.unread (Val := Elt Ideal) K))
      (arg3.view.readAt (Elt Ideal) (Rect.unit (s := S1x512x1024) o3 S1x256x128.size inb3).toLoadRect (harg3.unread (Val := Elt Ideal) Q)) (ix2 j q)
      = scr (512 * b) Q K h (256 + q.val) (512 * b + j.val) := by
  rw [dg512_apply, sc512_load arg3.view arg4.view _ _ Q K (harg3.read_unread (Val := Elt Ideal) Q) (harg4.read_unread (Val := Elt Ideal) K) h 256 (512 * b) o3 o4 inb3 inb4 e3 e4 j q]
  unfold scr
  exact if_congr (by omega) rfl rfl

theorem diag_scores256 (h : ℕ) (b : ℕ) (o3 o4 : Fin 3 → ℕ)
    (inb3 : ∀ k, o3 k + S1x256x128.size k ≤ S1x512x1024.size k) (inb4 : ∀ k, o4 k + S1x256x128.size k ≤ S1x4096x1024.size k)
    (e3 : o3 = ![0, 0, 128 * h]) (e4 : o4 = ![0, 512 * b, 128 * h]) (j q : Fin 256) :
    dg256 (arg4.view.readAt (Elt Ideal) (Rect.unit (s := S1x4096x1024) o4 S1x256x128.size inb4).toLoadRect (harg4.unread (Val := Elt Ideal) K))
      (arg3.view.readAt (Elt Ideal) (Rect.unit (s := S1x512x1024) o3 S1x256x128.size inb3).toLoadRect (harg3.unread (Val := Elt Ideal) Q)) (ix2 j q)
      = scr (512 * b) Q K h (0 + q.val) (512 * b + j.val) := by
  rw [dg256_apply, sc256_load arg3.view arg4.view _ _ Q K (harg3.read_unread (Val := Elt Ideal) Q) (harg4.read_unread (Val := Elt Ideal) K) h 0 (512 * b) o3 o4 inb3 inb4 e3 e4 j q]
  unfold scr
  exact if_congr (by omega) rfl rfl

/-- A block of the first half of the queries: the hidden half of the keys adds nothing. -/
theorem extend (b h : ℕ) (o8 : Fin 3 → ℕ) (inb8 : ∀ k, o8 k + S1x128x256.size k ≤ S8x128x512.size k) (e8 : o8 = ![h, 0, 0]) (x : S1x128x256.Idx) :
    acc (scr (512 * b) Q K ((Rect.unit (s := S8x128x512) o8 S1x128x256.size inb8).emb x 0).val ((Rect.unit (s := S8x128x512) o8 S1x128x256.size inb8).emb x 2).val)
        (vlu V ((Rect.unit (s := S8x128x512) o8 S1x128x256.size inb8).emb x 0).val ((Rect.unit (s := S8x128x512) o8 S1x128x256.size inb8).emb x 1).val) (512 * b + 256)
      = acc (scr (512 * b) Q K ((Rect.unit (s := S8x128x512) o8 S1x128x256.size inb8).emb x 0).val ((Rect.unit (s := S8x128x512) o8 S1x128x256.size inb8).emb x 2).val)
        (vlu V ((Rect.unit (s := S8x128x512) o8 S1x128x256.size inb8).emb x 0).val ((Rect.unit (s := S8x128x512) o8 S1x128x256.size inb8).emb x 1).val) (512 * b + 512) := by
  obtain ⟨_, eb, _⟩ := emb8 h 0 o8 inb8 e8 x
  have hx : (x 2).val < 256 := (x 2).isLt
  exact (acc_of_bot _ _ (512 * b + 256) 256 fun j h1 _ => hidden Q K b _ _ j (by omega) h1).symm

include hq hk in
/-- What a unit of 256 keys stores into the accumulators is already the sum over all of the block's keys. -/
theorem diag_piece256 (f7 : Buf (Elt Ideal) (arg7.view.loc (c : Thread nD τ))) (f8 : Buf (Elt Ideal) (arg8.view.loc (c : Thread nD τ))) (b h : ℕ)
    (hf7 : ∀ y, arg7.view.read (Elt Ideal) f7 y = top (scr (512 * b) Q K (y 0).val (y 2).val) (512 * b))
    (hf8 : ∀ y, arg8.view.read (Elt Ideal) f8 y = acc (scr (512 * b) Q K (y 0).val (y 2).val) (vlu V (y 0).val (y 1).val) (512 * b))
    (o7 : Fin 3 → ℕ) (inb7 : ∀ k, o7 k + S1x1x256.size k ≤ S8x1x512.size k)
    (o8 : Fin 3 → ℕ) (inb8 : ∀ k, o8 k + S1x128x256.size k ≤ S8x128x512.size k)
    (o5 : Fin 3 → ℕ) (inb5 : ∀ k, o5 k + S1x128x256.size k ≤ S1x1024x4096.size k)
    (o3 o4 : Fin 3 → ℕ) (inb3 : ∀ k, o3 k + S1x256x128.size k ≤ S1x512x1024.size k) (inb4 : ∀ k, o4 k + S1x256x128.size k ≤ S1x4096x1024.size k)
    (S' : FVec Ideal S256x256 .f32) (hc) (x : S1x128x256.Idx)
    (e7 : o7 = ![h, 0, 0]) (e8 : o8 = ![h, 0, 0]) (e5 : o5 = ![0, 128 * h, 512 * b])
    (e3 : o3 = ![0, 0, 128 * h]) (e4 : o4 = ![0, 512 * b, 128 * h])
    (hSS : S' = dg256 (arg4.view.readAt (Elt Ideal) (Rect.unit (s := S1x4096x1024) o4 S1x256x128.size inb4).toLoadRect (harg4.unread (Val := Elt Ideal) K))
      (arg3.view.readAt (Elt Ideal) (Rect.unit (s := S1x512x1024) o3 S1x256x128.size inb3).toLoadRect (harg3.unread (Val := Elt Ideal) Q))) :
    shapeCast S1x128x256 (uAcc 256 reduces_S256x256_S256 broadcasts_S1x256_S256x256 shapeCasts_S1x128x256_S128x256 dot_S128x256_S256x256_S128x256_1_0_0_1_n_n
        (dg256 (arg4.view.readAt (Elt Ideal) (Rect.unit (s := S1x4096x1024) o4 S1x256x128.size inb4).toLoadRect (harg4.unread (Val := Elt Ideal) K))
          (arg3.view.readAt (Elt Ideal) (Rect.unit (s := S1x512x1024) o3 S1x256x128.size inb3).toLoadRect (harg3.unread (Val := Elt Ideal) Q))) S'
        (arg7.view.readAt (Elt Ideal) (Rect.unit (s := S8x1x512) o7 S1x1x256.size inb7).toLoadRect f7)
        (arg8.view.readAt (Elt Ideal) (Rect.unit (s := S8x128x512) o8 S1x128x256.size inb8).toLoadRect f8)
        (arg5.view.readAt (Elt Ideal) (Rect.unit (s := S1x1024x4096) o5 S1x128x256.size inb5).toLoadRect (harg5.unread (Val := Elt Ideal) V))) hc x
      = acc (scr (512 * b) Q K ((Rect.unit (s := S8x128x512) o8 S1x128x256.size inb8).emb x 0).val ((Rect.unit (s := S8x128x512) o8 S1x128x256.size inb8).emb x 2).val)
        (vlu V ((Rect.unit (s := S8x128x512) o8 S1x128x256.size inb8).emb x 0).val ((Rect.unit (s := S8x128x512) o8 S1x128x256.size inb8).emb x 1).val) (512 * b + 512) :=
  (piece8_256 arg7.view arg8.view f7 f8 (scr (512 * b) Q K) (vlu V) (512 * b) h 0 (scr_ne_top hq hk _) hf7 hf8 o7 inb7 e7 o8 inb8 e8 arg5.view _ V (harg5.read_unread (Val := Elt Ideal) V) o5 e5 inb5 rfl
    _ S' hSS (diag_scores256 arg3 harg3 arg4 harg4 Q K h b o3 o4 inb3 inb4 e3 e4) hc x).trans (extend Q K V b h o8 inb8 e8 x)

include hq hk in
/-- What a unit of 512 keys stores into the accumulators. -/
theorem diag_piece512 (f7 : Buf (Elt Ideal) (arg7.view.loc (c : Thread nD τ))) (f8 : Buf (Elt Ideal) (arg8.view.loc (c : Thread nD τ))) (b h : ℕ)
    (hf7 : ∀ y, arg7.view.read (Elt Ideal) f7 y = top (scr (512 * b) Q K (y 0).val (y 2).val) (512 * b))
    (hf8 : ∀ y, arg8.view.read (Elt Ideal) f8 y = acc (scr (512 * b) Q K (y 0).val (y 2).val) (vlu V (y 0).val (y 1).val) (512 * b))
    (o7 : Fin 3 → ℕ) (inb7 : ∀ k, o7 k + S1x1x256.size k ≤ S8x1x512.size k)
    (o8 : Fin 3 → ℕ) (inb8 : ∀ k, o8 k + S1x128x256.size k ≤ S8x128x512.size k)
    (o5 : Fin 3 → ℕ) (inb5 : ∀ k, o5 k + S1x128x512.size k ≤ S1x1024x4096.size k)
    (o3 o4 : Fin 3 → ℕ) (inb3 : ∀ k, o3 k + S1x256x128.size k ≤ S1x512x1024.size k) (inb4 : ∀ k, o4 k + S1x512x128.size k ≤ S1x4096x1024.size k)
    (S' : FVec Ideal S512x256 .f32) (hc) (x : S1x128x256.Idx)
    (e7 : o7 = ![h, 0, 256]) (e8 : o8 = ![h, 0, 256]) (e5 : o5 = ![0, 128 * h, 512 * b])
    (e3 : o3 = ![0, 256, 128 * h]) (e4 : o4 = ![0, 512 * b, 128 * h])
    (hSS : S' = dg512 (arg4.view.readAt (Elt Ideal) (Rect.unit (s := S1x4096x1024) o4 S1x512x128.size inb4).toLoadRect (harg4.unread (Val := Elt Ideal) K))
      (arg3.view.readAt (Elt Ideal) (Rect.unit (s := S1x512x1024) o3 S1x256x128.size inb3).toLoadRect (harg3.unread (Val := Elt Ideal) Q))) :
    shapeCast S1x128x256 (uAcc 512 reduces_S512x256_S256 broadcasts_S1x256_S512x256 shapeCasts_S1x128x512_S128x512 dot_S128x512_S512x256_S128x256_1_0_0_1_n_n
        (dg512 (arg4.view.readAt (Elt Ideal) (Rect.unit (s := S1x4096x1024) o4 S1x512x128.size inb4).toLoadRect (harg4.unread (Val := Elt Ideal) K))
          (arg3.view.readAt (Elt Ideal) (Rect.unit (s := S1x512x1024) o3 S1x256x128.size inb3).toLoadRect (harg3.unread (Val := Elt Ideal) Q))) S'
        (arg7.view.readAt (Elt Ideal) (Rect.unit (s := S8x1x512) o7 S1x1x256.size inb7).toLoadRect f7)
        (arg8.view.readAt (Elt Ideal) (Rect.unit (s := S8x128x512) o8 S1x128x256.size inb8).toLoadRect f8)
        (arg5.view.readAt (Elt Ideal) (Rect.unit (s := S1x1024x4096) o5 S1x128x512.size inb5).toLoadRect (harg5.unread (Val := Elt Ideal) V))) hc x
      = acc (scr (512 * b) Q K ((Rect.unit (s := S8x128x512) o8 S1x128x256.size inb8).emb x 0).val ((Rect.unit (s := S8x128x512) o8 S1x128x256.size inb8).emb x 2).val)
        (vlu V ((Rect.unit (s := S8x128x512) o8 S1x128x256.size inb8).emb x 0).val ((Rect.unit (s := S8x128x512) o8 S1x128x256.size inb8).emb x 1).val) (512 * b + 512) :=
  piece8_512 arg7.view arg8.view f7 f8 (scr (512 * b) Q K) (vlu V) (512 * b) h 256 (scr_ne_top hq hk _) hf7 hf8 o7 inb7 e7 o8 inb8 e8 arg5.view _ V (harg5.read_unread (Val := Elt Ideal) V) o5 e5 inb5 rfl
    _ S' hSS (diag_scores512 arg3 harg3 arg4 harg4 Q K h b o3 o4 inb3 inb4 e3 e4) hc x

end Diag

end Cert.KernelIdeal.Mla

end
-- ==== Proof.Mla.DiagTotal.lean ====
/-
  The accumulators after the diagonal block.
-/
module

public import proofs.«01_k».proof.Proof.Mla.DiagValue
public import Idealize.ShloMosaic.Lib.Pipeline.FrameBody
public import Idealize.ShloMosaic.Lib.Pipeline.Value
public import Idealize.ShloMosaic.Lib.Writes

@[expose] public section

set_option maxRecDepth 16384

noncomputable section

namespace Cert.KernelIdeal.Mla

open Cert.KernelIdeal Cert.KernelIdeal.Gen Cert.Online
open Idealize.ShloMosaic Idealize.ShloMosaic.TcCoe

section Diag

variable (c : Dev nD) (i : grid0.Coords) (arg3 : Memref sig .tc .vmem S1x512x1024 .bf16) (harg3 : arg3.IsWhole) (arg4 : Memref sig .tc .vmem S1x4096x1024 .bf16) (harg4 : arg4.IsWhole) (arg5 : Memref sig .tc .vmem S1x1024x4096 .bf16) (harg5 : arg5.IsWhole) (arg6 : Memref sig .tc .vmem S1x512x512 .bf16) (harg6 : arg6.IsWhole) (arg7 : Memref sig .tc .vmem S8x1x512 .f32) (harg7 : arg7.IsWhole) (arg8 : Memref sig .tc .vmem S8x128x512 .f32) (harg8 : arg8.IsWhole) (arg9 : Memref sig .tc .vmem S512x256 .f32) (harg9 : arg9.IsWhole) (arg10 : Memref sig .tc .vmem S512x256 .f32) (harg10 : arg10.IsWhole) (arg11 : Memref sig .tc .vmem S512x256 .f32) (harg11 : arg11.IsWhole) (arg12 : Memref sig .tc .vmem S512x256 .f32) (harg12 : arg12.IsWhole)
  (Q : FVec Ideal S1x512x1024 .bf16) (K : FVec Ideal S1x4096x1024 .bf16) (V : FVec Ideal S1x1024x4096 .bf16)
  (hq : Finite3 Q) (hk : Finite3 K)

set_option maxHeartbeats 0 in
include hq hk in
/-- The accumulators after the diagonal block. -/
theorem diag_value (y : S8x128x512.Idx) :
    View.canon (bodyRun.sl.H8_16 (F := Ideal) c i arg3 harg3 arg4 harg4 arg5 harg5 arg6 harg6 arg7 harg7 arg8 harg8 arg9 harg9 arg10 harg10 arg11 harg11 arg12 harg12 Q K V) y
      = acc (scr (512 * (i 2).val) Q K (y 0).val (y 2).val) (vlu V (y 0).val (y 1).val) (512 * (i 2).val + 512) := by
  have hst := stat_end c i arg3 harg3 arg4 harg4 arg5 harg5 arg6 harg6 arg7 harg7 arg8 harg8 arg9 harg9 arg10 harg10 arg11 harg11 arg12 harg12 Q K V hq hk _ _ _ (harg3.read_unread (Val := Elt Ideal) Q) (harg4.read_unread (Val := Elt Ideal) K) (harg5.read_unread (Val := Elt Ideal) V) (k0_t1_loop i).trips (trips1 i)
  refine View.canon_apply_of_pieces (Val := Elt Ideal) (e := .f32) (fun y : S8x128x512.Idx => acc (scr (512 * (i 2).val) Q K (y 0).val (y 2).val) (vlu V (y 0).val (y 1).val) (512 * (i 2).val + 512)) _ ?_ y
    (View.cover_of_tiledL (Val := Elt Ideal) (s := S8x128x512) _ S1x128x256.size (by sl_kernel_rfl) y)
  iterate 8
    refine List.forall_mem_cons.2 ⟨fun x => ?_, ?_⟩
    · simp only [View.readCov_cons_toLoadRect, shapeCast_self,
          bodyRun.sl.H10_1, bodyRun.sl.H10_2, bodyRun.sl.H10_3, bodyRun.sl.H10_4, bodyRun.sl.H11_1, bodyRun.sl.H11_2, bodyRun.sl.H11_3,
          bodyRun.sl.H11_4, bodyRun.sl.H12_1, bodyRun.sl.H12_2, bodyRun.sl.H12_3, bodyRun.sl.H12_4, bodyRun.sl.H9_1, bodyRun.sl.H9_2, bodyRun.sl.H9_3,
          bodyRun.sl.H9_4, bodyRun.sl.cst_204, bodyRun.sl.r, bodyRun.sl.r_10, bodyRun.sl.r_11, bodyRun.sl.r_12, bodyRun.sl.r_13, bodyRun.sl.r_14,
          bodyRun.sl.r_15, bodyRun.sl.r_16, bodyRun.sl.r_17, bodyRun.sl.r_18, bodyRun.sl.r_19, bodyRun.sl.r_2, bodyRun.sl.r_20, bodyRun.sl.r_21,
          bodyRun.sl.r_22, bodyRun.sl.r_23, bodyRun.sl.r_24, bodyRun.sl.r_25, bodyRun.sl.r_26, bodyRun.sl.r_27, bodyRun.sl.r_28, bodyRun.sl.r_29,
          bodyRun.sl.r_3, bodyRun.sl.r_30, bodyRun.sl.r_31, bodyRun.sl.r_32, bodyRun.sl.r_33, bodyRun.sl.r_34, bodyRun.sl.r_35, bodyRun.sl.r_4,
          bodyRun.sl.r_5, bodyRun.sl.r_6, bodyRun.sl.r_7, bodyRun.sl.r_8, bodyRun.sl.r_9, bodyRun.sl.v122, bodyRun.sl.v123, bodyRun.sl.v138,
          bodyRun.sl.v161, bodyRun.sl.v162, bodyRun.sl.v177, bodyRun.sl.v200, bodyRun.sl.v201, bodyRun.sl.v216, bodyRun.sl.v239, bodyRun.sl.v240,
          bodyRun.sl.v255, bodyRun.sl.v278, bodyRun.sl.v279, bodyRun.sl.v294, bodyRun.sl.v314, bodyRun.sl.v315, bodyRun.sl.v316, bodyRun.sl.v317,
          bodyRun.sl.v318, bodyRun.sl.v319, bodyRun.sl.v320, bodyRun.sl.v324, bodyRun.sl.v325, bodyRun.sl.v326, bodyRun.sl.v327, bodyRun.sl.v328,
          bodyRun.sl.v329, bodyRun.sl.v332, bodyRun.sl.v333, bodyRun.sl.v334, bodyRun.sl.v335, bodyRun.sl.v336, bodyRun.sl.v337, bodyRun.sl.v338,
          bodyRun.sl.v341, bodyRun.sl.v344, bodyRun.sl.v346, bodyRun.sl.v356, bodyRun.sl.v357, bodyRun.sl.v372, bodyRun.sl.v395, bodyRun.sl.v396,
          bodyRun.sl.v411, bodyRun.sl.v434, bodyRun.sl.v435, bodyRun.sl.v450, bodyRun.sl.v473, bodyRun.sl.v474, bodyRun.sl.v489, bodyRun.sl.v512,
          bodyRun.sl.v513, bodyRun.sl.v528, bodyRun.sl.v551, bodyRun.sl.v552, bodyRun.sl.v567, bodyRun.sl.v587, bodyRun.sl.v588, bodyRun.sl.v589,
          bodyRun.sl.v590, bodyRun.sl.v591, bodyRun.sl.v592, bodyRun.sl.v593, bodyRun.sl.v597, bodyRun.sl.v598, bodyRun.sl.v599, bodyRun.sl.v600,
          bodyRun.sl.v601, bodyRun.sl.v602, bodyRun.sl.v605, bodyRun.sl.v606, bodyRun.sl.v607, bodyRun.sl.v608, bodyRun.sl.v609, bodyRun.sl.v610,
          bodyRun.sl.v611, bodyRun.sl.v614, bodyRun.sl.v615, bodyRun.sl.v616, bodyRun.sl.v617, bodyRun.sl.v618, bodyRun.sl.v622, bodyRun.sl.v623,
          bodyRun.sl.v624, bodyRun.sl.v625, bodyRun.sl.v626, bodyRun.sl.v627, bodyRun.sl.v630, bodyRun.sl.v631, bodyRun.sl.v632, bodyRun.sl.v633,
          bodyRun.sl.v634, bodyRun.sl.v635, bodyRun.sl.v636, bodyRun.sl.v639, bodyRun.sl.v640, bodyRun.sl.v641, bodyRun.sl.v642, bodyRun.sl.v643,
          bodyRun.sl.v647, bodyRun.sl.v648, bodyRun.sl.v649, bodyRun.sl.v650, bodyRun.sl.v651, bodyRun.sl.v652, bodyRun.sl.v655, bodyRun.sl.v656,
          bodyRun.sl.v657, bodyRun.sl.v658, bodyRun.sl.v659, bodyRun.sl.v660, bodyRun.sl.v661, bodyRun.sl.v664, bodyRun.sl.v665, bodyRun.sl.v666,
          bodyRun.sl.v667, bodyRun.sl.v668, bodyRun.sl.v672, bodyRun.sl.v673, bodyRun.sl.v674, bodyRun.sl.v675, bodyRun.sl.v676, bodyRun.sl.v677,
          bodyRun.sl.v680, bodyRun.sl.v681, bodyRun.sl.v682, bodyRun.sl.v683, bodyRun.sl.v684, bodyRun.sl.v685, bodyRun.sl.v686, bodyRun.sl.v689,
          k0_pay270, k0_pay271, k0_pay272, k0_pay273, k0_pay274, k0_pay275, k0_pay276, k0_pay277, k0_pay278, k0_pay279, k0_pay280, k0_pay281,
          k0_pay282, k0_pay283, k0_pay285, k0_pay286, k0_pay287, k0_pay288, k0_pay289, k0_pay290, k0_pay291, k0_pay293, k0_pay294, k0_pay295,
          k0_pay296, k0_pay297, k0_pay298, k0_pay299, k0_pay300, k0_pay301, k0_pay303, k0_pay304, k0_pay305, k0_pay306, k0_pay307, k0_pay308,
          k0_pay309, k0_pay310, k0_pay312, k0_pay313, k0_pay314, k0_pay315, k0_pay316, k0_pay317, k0_pay319, k0_pay320, k0_pay329, k0_pay330,
          k0_pay331, k0_pay332, k0_pay333, k0_pay335, k0_pay336, k0_pay337, k0_pay338, k0_pay339, k0_pay340, k0_pay342, k0_pay343, k0_pay344,
          k0_pay345, k0_pay346, k0_pay347, k0_pay348, k0_pay349, k0_pay351, k0_pay352, k0_pay353, k0_pay354, k0_pay355, k0_pay356, k0_pay357,
          k0_pay358, k0_pay359, k0_pay361, k0_pay362, k0_pay363, k0_pay364, k0_pay365, k0_pay366, k0_pay367, k0_pay369, k0_pay370, k0_pay371,
          k0_pay372, k0_pay373, k0_pay374, k0_pay376, k0_pay377]
      exact diag_piece512 c arg3 harg3 arg4 harg4 arg5 harg5 arg7 arg8 Q K V hq hk _ _ (i 2).val _ hst.1 hst.2 _ _ _ _ _ _ _ _ _ _ _ _ x
        (by exact rfl) (by exact rfl) (by exact ClosedOff.eq.trans rfl) (by exact rfl) (by exact ClosedOff.eq.trans rfl) (by exact rfl)
    refine List.forall_mem_cons.2 ⟨fun x => ?_, ?_⟩
    · simp only [View.readCov_cons_toLoadRect, shapeCast_self,
          bodyRun.sl.H10_1, bodyRun.sl.H10_2, bodyRun.sl.H10_3, bodyRun.sl.H10_4, bodyRun.sl.H11_1, bodyRun.sl.H11_2, bodyRun.sl.H11_3,
          bodyRun.sl.H11_4, bodyRun.sl.H12_1, bodyRun.sl.H12_2, bodyRun.sl.H12_3, bodyRun.sl.H12_4, bodyRun.sl.H9_1, bodyRun.sl.H9_2, bodyRun.sl.H9_3,
          bodyRun.sl.H9_4, bodyRun.sl.cst_204, bodyRun.sl.r, bodyRun.sl.r_10, bodyRun.sl.r_11, bodyRun.sl.r_12, bodyRun.sl.r_13, bodyRun.sl.r_14,
          bodyRun.sl.r_15, bodyRun.sl.r_16, bodyRun.sl.r_17, bodyRun.sl.r_18, bodyRun.sl.r_19, bodyRun.sl.r_2, bodyRun.sl.r_20, bodyRun.sl.r_21,
          bodyRun.sl.r_22, bodyRun.sl.r_23, bodyRun.sl.r_24, bodyRun.sl.r_25, bodyRun.sl.r_26, bodyRun.sl.r_27, bodyRun.sl.r_28, bodyRun.sl.r_29,
          bodyRun.sl.r_3, bodyRun.sl.r_30, bodyRun.sl.r_31, bodyRun.sl.r_32, bodyRun.sl.r_33, bodyRun.sl.r_34, bodyRun.sl.r_35, bodyRun.sl.r_4,
          bodyRun.sl.r_5, bodyRun.sl.r_6, bodyRun.sl.r_7, bodyRun.sl.r_8, bodyRun.sl.r_9, bodyRun.sl.v122, bodyRun.sl.v123, bodyRun.sl.v138,
          bodyRun.sl.v161, bodyRun.sl.v162, bodyRun.sl.v177, bodyRun.sl.v200, bodyRun.sl.v201, bodyRun.sl.v216, bodyRun.sl.v239, bodyRun.sl.v240,
          bodyRun.sl.v255, bodyRun.sl.v278, bodyRun.sl.v279, bodyRun.sl.v294, bodyRun.sl.v314, bodyRun.sl.v315, bodyRun.sl.v316, bodyRun.sl.v317,
          bodyRun.sl.v318, bodyRun.sl.v319, bodyRun.sl.v320, bodyRun.sl.v324, bodyRun.sl.v325, bodyRun.sl.v326, bodyRun.sl.v327, bodyRun.sl.v328,
          bodyRun.sl.v329, bodyRun.sl.v332, bodyRun.sl.v333, bodyRun.sl.v334, bodyRun.sl.v335, bodyRun.sl.v336, bodyRun.sl.v337, bodyRun.sl.v338,
          bodyRun.sl.v341, bodyRun.sl.v344, bodyRun.sl.v346, bodyRun.sl.v356, bodyRun.sl.v357, bodyRun.sl.v372, bodyRun.sl.v395, bodyRun.sl.v396,
          bodyRun.sl.v411, bodyRun.sl.v434, bodyRun.sl.v435, bodyRun.sl.v450, bodyRun.sl.v473, bodyRun.sl.v474, bodyRun.sl.v489, bodyRun.sl.v512,
          bodyRun.sl.v513, bodyRun.sl.v528, bodyRun.sl.v551, bodyRun.sl.v552, bodyRun.sl.v567, bodyRun.sl.v587, bodyRun.sl.v588, bodyRun.sl.v589,
          bodyRun.sl.v590, bodyRun.sl.v591, bodyRun.sl.v592, bodyRun.sl.v593, bodyRun.sl.v597, bodyRun.sl.v598, bodyRun.sl.v599, bodyRun.sl.v600,
          bodyRun.sl.v601, bodyRun.sl.v602, bodyRun.sl.v605, bodyRun.sl.v606, bodyRun.sl.v607, bodyRun.sl.v608, bodyRun.sl.v609, bodyRun.sl.v610,
          bodyRun.sl.v611, bodyRun.sl.v614, bodyRun.sl.v615, bodyRun.sl.v616, bodyRun.sl.v617, bodyRun.sl.v618, bodyRun.sl.v622, bodyRun.sl.v623,
          bodyRun.sl.v624, bodyRun.sl.v625, bodyRun.sl.v626, bodyRun.sl.v627, bodyRun.sl.v630, bodyRun.sl.v631, bodyRun.sl.v632, bodyRun.sl.v633,
          bodyRun.sl.v634, bodyRun.sl.v635, bodyRun.sl.v636, bodyRun.sl.v639, bodyRun.sl.v640, bodyRun.sl.v641, bodyRun.sl.v642, bodyRun.sl.v643,
          bodyRun.sl.v647, bodyRun.sl.v648, bodyRun.sl.v649, bodyRun.sl.v650, bodyRun.sl.v651, bodyRun.sl.v652, bodyRun.sl.v655, bodyRun.sl.v656,
          bodyRun.sl.v657, bodyRun.sl.v658, bodyRun.sl.v659, bodyRun.sl.v660, bodyRun.sl.v661, bodyRun.sl.v664, bodyRun.sl.v665, bodyRun.sl.v666,
          bodyRun.sl.v667, bodyRun.sl.v668, bodyRun.sl.v672, bodyRun.sl.v673, bodyRun.sl.v674, bodyRun.sl.v675, bodyRun.sl.v676, bodyRun.sl.v677,
          bodyRun.sl.v680, bodyRun.sl.v681, bodyRun.sl.v682, bodyRun.sl.v683, bodyRun.sl.v684, bodyRun.sl.v685, bodyRun.sl.v686, bodyRun.sl.v689,
          k0_pay270, k0_pay271, k0_pay272, k0_pay273, k0_pay274, k0_pay275, k0_pay276, k0_pay277, k0_pay278, k0_pay279, k0_pay280, k0_pay281,
          k0_pay282, k0_pay283, k0_pay285, k0_pay286, k0_pay287, k0_pay288, k0_pay289, k0_pay290, k0_pay291, k0_pay293, k0_pay294, k0_pay295,
          k0_pay296, k0_pay297, k0_pay298, k0_pay299, k0_pay300, k0_pay301, k0_pay303, k0_pay304, k0_pay305, k0_pay306, k0_pay307, k0_pay308,
          k0_pay309, k0_pay310, k0_pay312, k0_pay313, k0_pay314, k0_pay315, k0_pay316, k0_pay317, k0_pay319, k0_pay320, k0_pay329, k0_pay330,
          k0_pay331, k0_pay332, k0_pay333, k0_pay335, k0_pay336, k0_pay337, k0_pay338, k0_pay339, k0_pay340, k0_pay342, k0_pay343, k0_pay344,
          k0_pay345, k0_pay346, k0_pay347, k0_pay348, k0_pay349, k0_pay351, k0_pay352, k0_pay353, k0_pay354, k0_pay355, k0_pay356, k0_pay357,
          k0_pay358, k0_pay359, k0_pay361, k0_pay362, k0_pay363, k0_pay364, k0_pay365, k0_pay366, k0_pay367, k0_pay369, k0_pay370, k0_pay371,
          k0_pay372, k0_pay373, k0_pay374, k0_pay376, k0_pay377]
      exact diag_piece256 c arg3 harg3 arg4 harg4 arg5 harg5 arg7 arg8 Q K V hq hk _ _ (i 2).val _ hst.1 hst.2 _ _ _ _ _ _ _ _ _ _ _ _ x
        (by exact rfl) (by exact rfl) (by exact ClosedOff.eq.trans rfl) (by exact rfl) (by exact ClosedOff.eq.trans rfl) (by exact rfl)
  exact List.forall_mem_nil _

end Diag

end Cert.KernelIdeal.Mla

end
-- ==== Proof.Mla.OutValue.lean ====
/-
  The output's block: the accumulated values over the accumulated weights.
-/
module

public import proofs.«01_k».proof.Proof.Mla.DiagTotal
public import Idealize.ShloMosaic.Lib.Pipeline.FrameBody
public import Idealize.ShloMosaic.Lib.Pipeline.Value
public import Idealize.ShloMosaic.Lib.Writes

@[expose] public section

set_option maxRecDepth 16384

noncomputable section

namespace Cert.KernelIdeal.Mla

open Cert.KernelIdeal Cert.KernelIdeal.Gen Cert.Online
open Idealize.ShloMosaic Idealize.ShloMosaic.TcCoe

/-- The output of one block of queries: each head's accumulated values over its accumulated weights (row 64). -/
def blockOut (b : ℕ) (Q : FVec Ideal S1x512x1024 .bf16) (K : FVec Ideal S1x4096x1024 .bf16) (V : FVec Ideal S1x1024x4096 .bf16) (qq z : ℕ) : EReal :=
  acc (scr (512 * b) Q K (z / 64) qq) (vlu V (z / 64) (z % 64)) (512 * b + 512)
    * Ideal.div 1 (acc (scr (512 * b) Q K (z / 64) qq) (vlu V (z / 64) 64) (512 * b + 512))

section Out

variable (c : Dev nD) (i : grid0.Coords) (arg3 : Memref sig .tc .vmem S1x512x1024 .bf16) (harg3 : arg3.IsWhole) (arg4 : Memref sig .tc .vmem S1x4096x1024 .bf16) (harg4 : arg4.IsWhole) (arg5 : Memref sig .tc .vmem S1x1024x4096 .bf16) (harg5 : arg5.IsWhole) (arg6 : Memref sig .tc .vmem S1x512x512 .bf16) (harg6 : arg6.IsWhole) (arg7 : Memref sig .tc .vmem S8x1x512 .f32) (harg7 : arg7.IsWhole) (arg8 : Memref sig .tc .vmem S8x128x512 .f32) (harg8 : arg8.IsWhole) (arg9 : Memref sig .tc .vmem S512x256 .f32) (harg9 : arg9.IsWhole) (arg10 : Memref sig .tc .vmem S512x256 .f32) (harg10 : arg10.IsWhole) (arg11 : Memref sig .tc .vmem S512x256 .f32) (harg11 : arg11.IsWhole) (arg12 : Memref sig .tc .vmem S512x256 .f32) (harg12 : arg12.IsWhole)
  (Q : FVec Ideal S1x512x1024 .bf16) (K : FVec Ideal S1x4096x1024 .bf16) (V : FVec Ideal S1x1024x4096 .bf16)
  (hq : Finite3 Q) (hk : Finite3 K)

include hq hk in
/-- A load of one head's accumulators after the diagonal block. -/
theorem head_load (h : ℕ) (o : Fin 3 → ℕ) (inb : ∀ k, o k + S1x128x512.size k ≤ S8x128x512.size k) (e : o = ![h, 0, 0]) (r : Fin 128) (q : Fin 512) :
    (arg8.view.readCov (bodyRun.sl.H8_16 (F := Ideal) c i arg3 harg3 arg4 harg4 arg5 harg5 arg6 harg6 arg7 harg7 arg8 harg8 arg9 harg9 arg10 harg10 arg11 harg11 arg12 harg12 Q K V) (Rect.unit (s := S8x128x512) o S1x128x512.size inb).toLoadRect (ix3 (0 : Fin 1) r q) : EReal)
      = acc (scr (512 * (i 2).val) Q K h q.val) (vlu V h r.val) (512 * (i 2).val + 512) := by
  subst e
  rw [View.readCov_eq_canon']
  refine (diag_value c i arg3 harg3 arg4 harg4 arg5 harg5 arg6 harg6 arg7 harg7 arg8 harg8 arg9 harg9 arg10 harg10 arg11 harg11 arg12 harg12 Q K V hq hk _).trans ?_
  have e0 : ((Rect.unit (s := S8x128x512) ![h, 0, 0] S1x128x512.size inb).toLoadRect.idx (ix3 (0 : Fin 1) r q) 0).val = h := by
    change h + 1 * 0 = h
    omega
  have e1 : ((Rect.unit (s := S8x128x512) ![h, 0, 0] S1x128x512.size inb).toLoadRect.idx (ix3 (0 : Fin 1) r q) 1).val = r.val := by
    change 0 + 1 * r.val = _
    omega
  have e2 : ((Rect.unit (s := S8x128x512) ![h, 0, 0] S1x128x512.size inb).toLoadRect.idx (ix3 (0 : Fin 1) r q) 2).val = q.val := by
    change 0 + 1 * q.val = _
    omega
  rw [e0, e1, e2]

include hq hk in
/-- What is stored for a pair of heads. -/
theorem pair_piece (p : ℕ) (hp : p < 4) (oA oB o6 : Fin 3 → ℕ) (inbA : ∀ k, oA k + S1x128x512.size k ≤ S8x128x512.size k) (inbB : ∀ k, oB k + S1x128x512.size k ≤ S8x128x512.size k)
    (inb6 : ∀ k, o6 k + S1x512x128.size k ≤ S1x512x512.size k) (eA : oA = ![2 * p, 0, 0]) (eB : oB = ![2 * p + 1, 0, 0]) (e6 : o6 = ![0, 0, 128 * p]) (x : S1x512x128.Idx) :
    (k0_pay399 (F := Ideal) (arg8.view.readCov (bodyRun.sl.H8_16 (F := Ideal) c i arg3 harg3 arg4 harg4 arg5 harg5 arg6 harg6 arg7 harg7 arg8 harg8 arg9 harg9 arg10 harg10 arg11 harg11 arg12 harg12 Q K V) (Rect.unit (s := S8x128x512) oA S1x128x512.size inbA).toLoadRect)
        (arg8.view.readCov (bodyRun.sl.H8_16 (F := Ideal) c i arg3 harg3 arg4 harg4 arg5 harg5 arg6 harg6 arg7 harg7 arg8 harg8 arg9 harg9 arg10 harg10 arg11 harg11 arg12 harg12 Q K V) (Rect.unit (s := S8x128x512) oB S1x128x512.size inbB).toLoadRect) x : EReal)
      = blockOut (i 2).val Q K V ((Rect.unit (s := S1x512x512) o6 S1x512x128.size inb6).emb x 1).val ((Rect.unit (s := S1x512x512) o6 S1x512x128.size inb6).emb x 2).val := by
  subst e6
  have e1 : ((Rect.unit (s := S1x512x512) ![0, 0, 128 * p] S1x512x128.size inb6).emb x 1).val = (x 1).val := by
    change 0 + 1 * (x 1).val = _
    omega
  have e2 : ((Rect.unit (s := S1x512x512) ![0, 0, 128 * p] S1x512x128.size inb6).emb x 2).val = 128 * p + (x 2).val := by
    change 128 * p + 1 * (x 2).val = _
    omega
  rw [e1, e2]
  have hx : (x 2).val < 128 := (x 2).isLt
  have ex : x = ix3 (0 : Fin 1) (x 1 : Fin 512) (x 2 : Fin 128) := by
    funext d
    match d with
    | ⟨0, _⟩ => exact Fin.ext (by have h : (x 0).val < 1 := (x 0).isLt; show (x 0).val = 0; omega)
    | ⟨1, _⟩ => rfl
    | ⟨2, _⟩ => rfl
  refine (congrArg (k0_pay399 (F := Ideal) _ _) ex).trans ((outPair_apply _ _ (x 1) (x 2)).trans ?_)
  unfold blockOut
  split
  · rename_i h
    rw [show (128 * p + (x 2).val) / 64 = 2 * p from by omega, show (128 * p + (x 2).val) % 64 = (x 2).val from by omega]
    exact congrArg₂ (fun a b : EReal => a * Ideal.div 1 b) (head_load c i arg3 harg3 arg4 harg4 arg5 harg5 arg6 harg6 arg7 harg7 arg8 harg8 arg9 harg9 arg10 harg10 arg11 harg11 arg12 harg12 Q K V hq hk _ _ inbA eA _ _) (head_load c i arg3 harg3 arg4 harg4 arg5 harg5 arg6 harg6 arg7 harg7 arg8 harg8 arg9 harg9 arg10 harg10 arg11 harg11 arg12 harg12 Q K V hq hk _ _ inbA eA _ _)
  · rename_i h
    rw [show (128 * p + (x 2).val) / 64 = 2 * p + 1 from by omega, show (128 * p + (x 2).val) % 64 = (x 2).val - 64 from by omega]
    exact congrArg₂ (fun a b : EReal => a * Ideal.div 1 b) (head_load c i arg3 harg3 arg4 harg4 arg5 harg5 arg6 harg6 arg7 harg7 arg8 harg8 arg9 harg9 arg10 harg10 arg11 harg11 arg12 harg12 Q K V hq hk _ _ inbB eB _ _) (head_load c i arg3 harg3 arg4 harg4 arg5 harg5 arg6 harg6 arg7 harg7 arg8 harg8 arg9 harg9 arg10 harg10 arg11 harg11 arg12 harg12 Q K V hq hk _ _ inbB eB _ _)

end Out

end Cert.KernelIdeal.Mla

end
-- ==== Proof.Mla.OutBlock.lean ====
/-
  The output's block after the body.
-/
module

public import proofs.«01_k».proof.Proof.Mla.OutValue
public import Idealize.ShloMosaic.Lib.Pipeline.FrameBody
public import Idealize.ShloMosaic.Lib.Pipeline.Value
public import Idealize.ShloMosaic.Lib.Writes

@[expose] public section

set_option maxRecDepth 16384

noncomputable section

namespace Cert.KernelIdeal.Mla

open Cert.KernelIdeal Cert.KernelIdeal.Gen Cert.Online
open Idealize.ShloMosaic Idealize.ShloMosaic.TcCoe

section Out

variable (c : Dev nD) (i : grid0.Coords) (arg3 : Memref sig .tc .vmem S1x512x1024 .bf16) (harg3 : arg3.IsWhole) (arg4 : Memref sig .tc .vmem S1x4096x1024 .bf16) (harg4 : arg4.IsWhole) (arg5 : Memref sig .tc .vmem S1x1024x4096 .bf16) (harg5 : arg5.IsWhole) (arg6 : Memref sig .tc .vmem S1x512x512 .bf16) (harg6 : arg6.IsWhole) (arg7 : Memref sig .tc .vmem S8x1x512 .f32) (harg7 : arg7.IsWhole) (arg8 : Memref sig .tc .vmem S8x128x512 .f32) (harg8 : arg8.IsWhole) (arg9 : Memref sig .tc .vmem S512x256 .f32) (harg9 : arg9.IsWhole) (arg10 : Memref sig .tc .vmem S512x256 .f32) (harg10 : arg10.IsWhole) (arg11 : Memref sig .tc .vmem S512x256 .f32) (harg11 : arg11.IsWhole) (arg12 : Memref sig .tc .vmem S512x256 .f32) (harg12 : arg12.IsWhole)
  (Q : FVec Ideal S1x512x1024 .bf16) (K : FVec Ideal S1x4096x1024 .bf16) (V : FVec Ideal S1x1024x4096 .bf16)
  (hq : Finite3 Q) (hk : Finite3 K)

theorem inbHead (h : ℕ) (hh : h < 8) (k : Fin 3) : (![h, 0, 0] : Fin 3 → ℕ) k + S1x128x512.size k ≤ S8x128x512.size k := by
  match k with
  | ⟨0, _⟩ => show h + 1 ≤ 8; omega
  | ⟨1, _⟩ => show 0 + 128 ≤ 128; omega
  | ⟨2, _⟩ => show 0 + 512 ≤ 512; omega

theorem inbPair (p : ℕ) (hp : p < 4) (k : Fin 3) : (![0, 0, 128 * p] : Fin 3 → ℕ) k + S1x512x128.size k ≤ S1x512x512.size k := by
  match k with
  | ⟨0, _⟩ => show 0 + 1 ≤ 1; omega
  | ⟨1, _⟩ => show 0 + 512 ≤ 512; omega
  | ⟨2, _⟩ => show 128 * p + 128 ≤ 512; omega

/-- The piece stored for a pair of heads. -/
def pairOut (p : ℕ) (hp : p < 4) : View.Piece (Elt Ideal) S1x512x512 .bf16 :=
  ⟨Rect.unit (s := S1x512x512) ![0, 0, 128 * p] S1x512x128.size (inbPair p hp),
    k0_pay399 (F := Ideal) (arg8.view.readCov (bodyRun.sl.H8_16 (F := Ideal) c i arg3 harg3 arg4 harg4 arg5 harg5 arg6 harg6 arg7 harg7 arg8 harg8 arg9 harg9 arg10 harg10 arg11 harg11 arg12 harg12 Q K V) (Rect.unit (s := S8x128x512) ![2 * p, 0, 0] S1x128x512.size (inbHead _ (by omega))).toLoadRect)
      (arg8.view.readCov (bodyRun.sl.H8_16 (F := Ideal) c i arg3 harg3 arg4 harg4 arg5 harg5 arg6 harg6 arg7 harg7 arg8 harg8 arg9 harg9 arg10 harg10 arg11 harg11 arg12 harg12 Q K V) (Rect.unit (s := S8x128x512) ![2 * p + 1, 0, 0] S1x128x512.size (inbHead _ (by omega))).toLoadRect)⟩

theorem out_pieces : (bodyRun (F := Ideal) c i arg3 harg3 arg4 harg4 arg5 harg5 arg6 harg6 arg7 harg7 arg8 harg8 arg9 harg9 arg10 harg10 arg11 harg11 arg12 harg12 Q K V).1
    = [pairOut c i arg3 harg3 arg4 harg4 arg5 harg5 arg6 harg6 arg7 harg7 arg8 harg8 arg9 harg9 arg10 harg10 arg11 harg11 arg12 harg12 Q K V 3 (by omega), pairOut c i arg3 harg3 arg4 harg4 arg5 harg5 arg6 harg6 arg7 harg7 arg8 harg8 arg9 harg9 arg10 harg10 arg11 harg11 arg12 harg12 Q K V 2 (by omega), pairOut c i arg3 harg3 arg4 harg4 arg5 harg5 arg6 harg6 arg7 harg7 arg8 harg8 arg9 harg9 arg10 harg10 arg11 harg11 arg12 harg12 Q K V 1 (by omega), pairOut c i arg3 harg3 arg4 harg4 arg5 harg5 arg6 harg6 arg7 harg7 arg8 harg8 arg9 harg9 arg10 harg10 arg11 harg11 arg12 harg12 Q K V 0 (by omega)] := by
  sl_kernel_rfl

include hq hk in
/-- The output's buffer after the body. -/
theorem out_value (v : View sig .tc .vmem S1x512x512 .bf16) (f : v.ty.Contents (Elt Ideal)) (y : S1x512x512.Idx) :
    v.read (Elt Ideal) (v.writes (Elt Ideal) f (bodyRun (F := Ideal) c i arg3 harg3 arg4 harg4 arg5 harg5 arg6 harg6 arg7 harg7 arg8 harg8 arg9 harg9 arg10 harg10 arg11 harg11 arg12 harg12 Q K V).1) y = blockOut (i 2).val Q K V (y 1).val (y 2).val := by
  have hc := cover (F := Ideal) c i arg3 harg3 arg4 harg4 arg5 harg5 arg6 harg6 arg7 harg7 arg8 harg8 arg9 harg9 arg10 harg10 arg11 harg11 arg12 harg12 Q K V y
  rw [out_pieces] at hc ⊢
  refine View.read_writes_apply_of_pieces (Val := Elt Ideal) v f (fun y : S1x512x512.Idx => blockOut (i 2).val Q K V (y 1).val (y 2).val) _ ?_ y hc
  have h : ∀ (p : ℕ) (hp : p < 4) (x : (pairOut c i arg3 harg3 arg4 harg4 arg5 harg5 arg6 harg6 arg7 harg7 arg8 harg8 arg9 harg9 arg10 harg10 arg11 harg11 arg12 harg12 Q K V p hp).1.shape.Idx), (pairOut c i arg3 harg3 arg4 harg4 arg5 harg5 arg6 harg6 arg7 harg7 arg8 harg8 arg9 harg9 arg10 harg10 arg11 harg11 arg12 harg12 Q K V p hp).2 x
      = blockOut (i 2).val Q K V ((pairOut c i arg3 harg3 arg4 harg4 arg5 harg5 arg6 harg6 arg7 harg7 arg8 harg8 arg9 harg9 arg10 harg10 arg11 harg11 arg12 harg12 Q K V p hp).1.emb x 1).val ((pairOut c i arg3 harg3 arg4 harg4 arg5 harg5 arg6 harg6 arg7 harg7 arg8 harg8 arg9 harg9 arg10 harg10 arg11 harg11 arg12 harg12 Q K V p hp).1.emb x 2).val := fun p hp x =>
    pair_piece c i arg3 harg3 arg4 harg4 arg5 harg5 arg6 harg6 arg7 harg7 arg8 harg8 arg9 harg9 arg10 harg10 arg11 harg11 arg12 harg12 Q K V hq hk p hp _ _ _ (inbHead _ (by omega)) (inbHead _ (by omega)) (inbPair p hp) rfl rfl rfl x
  exact List.forall_mem_cons.2 ⟨h 3 _, List.forall_mem_cons.2 ⟨h 2 _, List.forall_mem_cons.2 ⟨h 1 _, List.forall_mem_cons.2 ⟨h 0 _, List.forall_mem_nil _⟩⟩⟩⟩

end Out

end Cert.KernelIdeal.Mla

end
-- ==== Proof.Mla.ArrayValue.lean ====
/-
  The result array after the launch, as one function of the three argument arrays.
-/
module

public import proofs.«01_k».proof.Proof.Mla.OutBlock
public import proofs.«01_k».proof.Proof.Mla.Launch
public import Idealize.ShloMosaic.Lib.Pipeline.ValueKit

@[expose] public section

set_option maxRecDepth 16384

noncomputable section

namespace Cert.KernelIdeal.Mla

open Cert.KernelIdeal Cert.KernelIdeal.Gen Cert.Online
open Idealize.ShloMosaic Idealize.ShloMosaic.TcCoe

/-- The masked score of key `j` for query `s` of batch `b` and head `h`. -/
def score (q k : FVec Ideal S8x4096x1024 .bf16) (b h s j : ℕ) : EReal :=
  if j / 64 ≤ s / 64 then ∑ d : Fin 128, at3 k b j (128 * h + d.val) * at3 q b s (128 * h + d.val) else ⊥

/-- The value of key `j` at row `r` of head `h` of batch `b`. -/
def value (vt : FVec Ideal S8x1024x4096 .bf16) (b h r j : ℕ) : EReal := at3 vt b (128 * h + r) j

/-- The result at batch `b`, query `s` and column `z`. -/
def result (q k : FVec Ideal S8x4096x1024 .bf16) (vt : FVec Ideal S8x1024x4096 .bf16) (b s z : ℕ) : EReal :=
  acc (score q k b (z / 64) s) (value vt b (z / 64) (z % 64)) 4096
    * Ideal.div 1 (acc (score q k b (z / 64) s) (value vt b (z / 64) 64) 4096)

variable (m : (ℓ : Loc nD τ sig) → Buf (Elt Ideal) ℓ) (ρ : Dev nD → PrngReg) (c : Dev nD)

theorem index0 : ∀ t : Fin cfg0.N, win0_0.index t (0 : Fin 3) = (grid0.coords t 0).val ∧ win0_0.index t (1 : Fin 3) = (grid0.coords t 2).val ∧ win0_0.index t (2 : Fin 3) = 0 :=
  (by decide +kernel : ∀ t : Fin grid0.N, _)
theorem index1 : ∀ t : Fin cfg0.N, win0_1.index t (0 : Fin 3) = (grid0.coords t 0).val ∧ win0_1.index t (1 : Fin 3) = 0 ∧ win0_1.index t (2 : Fin 3) = 0 :=
  (by decide +kernel : ∀ t : Fin grid0.N, _)
theorem index2 : ∀ t : Fin cfg0.N, win0_2.index t (0 : Fin 3) = (grid0.coords t 0).val ∧ win0_2.index t (1 : Fin 3) = 0 ∧ win0_2.index t (2 : Fin 3) = 0 :=
  (by decide +kernel : ∀ t : Fin grid0.N, _)
theorem index3 : ∀ t : Fin cfg0.N, win0_3.index t (0 : Fin 3) = (grid0.coords t 0).val ∧ win0_3.index t (1 : Fin 3) = (grid0.coords t 2).val ∧ win0_3.index t (2 : Fin 3) = 0 :=
  (by decide +kernel : ∀ t : Fin grid0.N, _)

/-- The staged queries are rows of the query array. -/
theorem q_blk (t : Fin cfg0.N) (x z : ℕ) (hx : x < 512) (hz : z < 1024) :
    at3 (a := 1) (b := 512) (c := 1024) (iblk m c 0 t) 0 x z
      = at3 (a := 8) (b := 4096) (c := 1024) (m ((c : Thread nD τ).loc main_arg0)) (grid0.coords t 0).val (512 * (grid0.coords t 2).val + x) z := by
  obtain ⟨i0, i1, i2⟩ := index0 t
  refine (at3_idx (a := 1) (b := 512) (c := 1024) (iblk m c 0 t) (ix3 (0 : Fin 1) ⟨x, hx⟩ ⟨z, hz⟩) 0 x z rfl rfl rfl).trans ?_
  refine (at3_idx (a := 8) (b := 4096) (c := 1024) (m ((c : Thread nD τ).loc main_arg0)) (((cfg0.win 0).blk t).view.emb (ix3 (0 : Fin 1) (⟨x, hx⟩ : Fin 512) (⟨z, hz⟩ : Fin 1024))) _ _ _ ?_ ?_ ?_).symm
  · show _ = win0_0.index t (0 : Fin 3) * 1 + 1 * 0
    omega
  · show _ = win0_0.index t (1 : Fin 3) * 512 + 1 * x
    omega
  · show _ = win0_0.index t (2 : Fin 3) * 1024 + 1 * z
    omega

/-- The staged keys are the batch's keys. -/
theorem k_blk (t : Fin cfg0.N) (x z : ℕ) :
    at3 (a := 1) (b := 4096) (c := 1024) (iblk m c 1 t) 0 x z
      = at3 (a := 8) (b := 4096) (c := 1024) (m ((c : Thread nD τ).loc main_arg1)) (grid0.coords t 0).val x z := by
  obtain ⟨i0, i1, i2⟩ := index1 t
  have hb : (grid0.coords t 0).val < 8 := (grid0.coords t 0).isLt
  by_cases h : x < 4096 ∧ z < 1024
  · obtain ⟨hx, hz⟩ := h
    refine (at3_idx (a := 1) (b := 4096) (c := 1024) (iblk m c 1 t) (ix3 (0 : Fin 1) ⟨x, hx⟩ ⟨z, hz⟩) 0 x z rfl rfl rfl).trans ?_
    refine (at3_idx (a := 8) (b := 4096) (c := 1024) (m ((c : Thread nD τ).loc main_arg1)) (((cfg0.win 1).blk t).view.emb (ix3 (0 : Fin 1) (⟨x, hx⟩ : Fin 4096) (⟨z, hz⟩ : Fin 1024))) _ _ _ ?_ ?_ ?_).symm
    · show _ = win0_1.index t (0 : Fin 3) * 1 + 1 * 0
      omega
    · show _ = win0_1.index t (1 : Fin 3) * 4096 + 1 * x
      omega
    · show _ = win0_1.index t (2 : Fin 3) * 1024 + 1 * z
      omega
  · unfold at3
    rw [dif_neg (by omega), dif_neg (by omega)]

/-- The staged values are the batch's values. -/
theorem v_blk (t : Fin cfg0.N) (x z : ℕ) :
    at3 (a := 1) (b := 1024) (c := 4096) (iblk m c 2 t) 0 x z
      = at3 (a := 8) (b := 1024) (c := 4096) (m ((c : Thread nD τ).loc main_arg2)) (grid0.coords t 0).val x z := by
  obtain ⟨i0, i1, i2⟩ := index2 t
  have hb : (grid0.coords t 0).val < 8 := (grid0.coords t 0).isLt
  by_cases h : x < 1024 ∧ z < 4096
  · obtain ⟨hx, hz⟩ := h
    refine (at3_idx (a := 1) (b := 1024) (c := 4096) (iblk m c 2 t) (ix3 (0 : Fin 1) ⟨x, hx⟩ ⟨z, hz⟩) 0 x z rfl rfl rfl).trans ?_
    refine (at3_idx (a := 8) (b := 1024) (c := 4096) (m ((c : Thread nD τ).loc main_arg2)) (((cfg0.win 2).blk t).view.emb (ix3 (0 : Fin 1) (⟨x, hx⟩ : Fin 1024) (⟨z, hz⟩ : Fin 4096))) _ _ _ ?_ ?_ ?_).symm
    · show _ = win0_2.index t (0 : Fin 3) * 1 + 1 * 0
      omega
    · show _ = win0_2.index t (1 : Fin 3) * 1024 + 1 * x
      omega
    · show _ = win0_2.index t (2 : Fin 3) * 4096 + 1 * z
      omega
  · unfold at3
    rw [dif_neg (by omega), dif_neg (by omega)]

/-- A block's scores are the batch's. -/
theorem scr_blk (t : Fin cfg0.N) (h qq : ℕ) (hh : h < 8) (hq : qq < 512) :
    scr (512 * (grid0.coords t 2).val) (iblk m c 0 t) (iblk m c 1 t) h qq
      = score (m ((c : Thread nD τ).loc main_arg0)) (m ((c : Thread nD τ).loc main_arg1)) (grid0.coords t 0).val h (512 * (grid0.coords t 2).val + qq) := by
  funext j
  unfold scr score
  refine if_congr Iff.rfl (Finset.sum_congr rfl fun d _ => ?_) rfl
  exact congrArg₂ (fun a b : EReal => a * b) (k_blk m c t _ _) (q_blk m c t _ _ hq (by have := d.isLt; omega))

theorem vlu_blk (t : Fin cfg0.N) (h r : ℕ) :
    vlu (iblk m c 2 t) h r = value (m ((c : Thread nD τ).loc main_arg2)) (grid0.coords t 0).val h r :=
  funext fun j => v_blk m c t _ _

/-- The keys past the block's end are hidden from all of its queries. -/
theorem acc_all (q k : FVec Ideal S8x4096x1024 .bf16) (b h s n : ℕ) (v : ℕ → EReal) (hn : n ≤ 4096) (hs : s < n) (h64 : n % 64 = 0) :
    acc (score q k b h s) v n = acc (score q k b h s) v 4096 := by
  have e := acc_of_bot (score q k b h s) v n (4096 - n) fun j h1 _ => by
    unfold score
    exact if_neg (by omega)
  rw [Nat.add_sub_cancel' hn] at e
  exact e.symm

theorem block_result (t : Fin cfg0.N) (qq z : ℕ) (hq : qq < 512) (hz : z < 512) :
    blockOut (grid0.coords t 2).val (iblk m c 0 t) (iblk m c 1 t) (iblk m c 2 t) qq z
      = result (m ((c : Thread nD τ).loc main_arg0)) (m ((c : Thread nD τ).loc main_arg1)) (m ((c : Thread nD τ).loc main_arg2)) (grid0.coords t 0).val (512 * (grid0.coords t 2).val + qq) z := by
  have hb : (grid0.coords t 2).val < 8 := (grid0.coords t 2).isLt
  unfold blockOut result
  rw [scr_blk m c t _ _ (by omega) hq, vlu_blk, vlu_blk, acc_all _ _ _ _ _ (512 * (grid0.coords t 2).val + 512) _ (by omega) (by omega) (by omega),
    acc_all _ _ _ _ _ (512 * (grid0.coords t 2).val + 512) _ (by omega) (by omega) (by omega)]

/-- The staged blocks of finite arrays are finite. -/
theorem finite_blk0 (h : Finite3 (a := 8) (b := 4096) (c := 1024) (m ((c : Thread nD τ).loc main_arg0))) (t : Fin cfg0.N) : Finite3 (a := 1) (b := 512) (c := 1024) (iblk m c 0 t) :=
  fun y => h (((cfg0.win 0).blk t).view.emb y)
theorem finite_blk1 (h : Finite3 (a := 8) (b := 4096) (c := 1024) (m ((c : Thread nD τ).loc main_arg1))) (t : Fin cfg0.N) : Finite3 (a := 1) (b := 4096) (c := 1024) (iblk m c 1 t) :=
  fun y => h (((cfg0.win 1).blk t).view.emb y)

/-- The result array after the launch. -/
theorem final (hq : Finite3 (a := 8) (b := 4096) (c := 1024) (m ((c : Thread nD τ).loc main_arg0))) (hk : Finite3 (a := 8) (b := 4096) (c := 1024) (m ((c : Thread nD τ).loc main_arg1))) :
    (dats m 0 c).arrAt 3 cfg0.N
      = fun y : S8x4096x512.Idx => result (m ((c : Thread nD τ).loc main_arg0)) (m ((c : Thread nD τ).loc main_arg1)) (m ((c : Thread nD τ).loc main_arg2)) (y 0).val (y 1).val (y 2).val := by
  refine (dats m 0 c).arrAt_eq_of_covers 3 _ (by decide +kernel) fun t hf y => ?_
  obtain ⟨i0, i1, i2⟩ := index3 t
  have hy1 : (y 1).val < 512 := (y 1).isLt
  have hy2 : (y 2).val < 512 := (y 2).isLt
  have hy0 : (y 0).val < 1 := (y 0).isLt
  have e0 : (((cfg0.win 3).blk t).view.emb y 0).val = (grid0.coords t 0).val := by
    show win0_3.index t (0 : Fin 3) * 1 + 1 * (y 0).val = _
    omega
  have e1 : (((cfg0.win 3).blk t).view.emb y 1).val = 512 * (grid0.coords t 2).val + (y 1).val := by
    show win0_3.index t (1 : Fin 3) * 512 + 1 * (y 1).val = _
    omega
  have e2 : (((cfg0.win 3).blk t).view.emb y 2).val = (y 2).val := by
    show win0_3.index t (2 : Fin 3) * 512 + 1 * (y 2).val = _
    omega
  show (dats m 0 c).after 3 t y = result _ _ _ (((cfg0.win 3).blk t).view.emb y 0).val (((cfg0.win 3).blk t).view.emb y 1).val (((cfg0.win 3).blk t).view.emb y 2).val
  rw [e0, e1, e2, after0_3, ← block_result m c t _ _ hy1 hy2]
  unfold outsAt
  exact out_value _ _ _ _ _ _ _ _ _ _ _ _ _ _ _ _ _ _ _ _ _ _ _ _ _ (finite_blk0 m c hq t) (finite_blk1 m c hk t) _ _ y

end Cert.KernelIdeal.Mla

end
-- ==== Proof.Mla.Softmax.lean ====
/-
  A softmax to the base e of scores times the logarithm of two, against the sum weighted by powers of two and
  divided by the weights' own sum.
-/
module

public import proofs.«01_k».proof.Proof.Mla.Online

@[expose] public section

noncomputable section

namespace Cert.Online

open Idealize.ShloMosaic

/-- A score is hidden or a real number. -/
def Score (x : EReal) : Prop := x = ⊥ ∨ ∃ r : ℝ, x = (r : EReal)

theorem Score.ne_top {x : EReal} (h : Score x) : x ≠ ⊤ := by
  rcases h with rfl | ⟨r, rfl⟩
  · exact bot_ne_top
  · exact EReal.coe_ne_top _

/-- The logarithm of two, as an extended real. -/
abbrev ln2 : EReal := ((Real.log 2 : ℝ) : EReal)

theorem ln2_pos : 0 < Real.log 2 := Real.log_pos one_lt_two

/-- A power of e of scores scaled by the logarithm of two is a power of two. -/
theorem exp_scaled {x : EReal} (hx : Score x) (T : ℝ) : Ideal.exp (x * ln2 - (T : EReal) * ln2) = Ideal.exp2 (x - (T : EReal)) := by
  rcases hx with rfl | ⟨r, rfl⟩
  · rw [EReal.bot_mul_coe_of_pos ln2_pos, bot_sub', bot_sub']
    simp
  · rw [← EReal.coe_mul, ← EReal.coe_mul, ← EReal.coe_sub, ← EReal.coe_sub, Ideal.exp_coe, Ideal.exp2_coe,
      Real.rpow_eq_pow, Real.rpow_def_of_pos two_pos]
    congr 2
    ring

theorem exp2_real {x : EReal} (hx : Score x) (T : ℝ) : ∃ r : ℝ, 0 ≤ r ∧ Ideal.exp2 (x - (T : EReal)) = (r : EReal) := by
  rcases hx with rfl | ⟨r, rfl⟩
  · exact ⟨0, le_rfl, by rw [bot_sub']; simp⟩
  · exact ⟨_, (Real.rpow_pos_of_pos two_pos _).le, by rw [← EReal.coe_sub, Ideal.exp2_coe, Real.rpow_eq_pow]⟩

/-- A sum of nonnegative real numbers is one, and at least any of them. -/
theorem sum_real (f : ℕ → EReal) (N : ℕ) (hf : ∀ j, ∃ r : ℝ, 0 ≤ r ∧ f j = (r : EReal)) : ∃ r : ℝ, 0 ≤ r ∧ ∑ j ∈ Finset.range N, f j = (r : EReal) := by
  induction N with
  | zero => exact ⟨0, le_rfl, by simp⟩
  | succ N ih =>
    obtain ⟨a, ha, ea⟩ := ih
    obtain ⟨b, hb, eb⟩ := hf N
    exact ⟨a + b, add_nonneg ha hb, by rw [Finset.sum_range_succ, ea, eb, EReal.coe_add]⟩

/-- The maximum is attained, and is a real number when some score is. -/
theorem top_real (s : ℕ → EReal) (N : ℕ) (hs : ∀ j, Score (s j)) (j₀ : ℕ) (hj : j₀ < N) (r₀ : ℝ) (h₀ : s j₀ = (r₀ : EReal)) :
    ∃ T : ℝ, top s N = (T : EReal) ∧ ∃ i, i < N ∧ s i = (T : EReal) := by
  obtain ⟨i, hi, e⟩ := Finset.exists_mem_eq_sup (Finset.range N) ⟨j₀, Finset.mem_range.mpr hj⟩ s
  rcases hs i with hb | ⟨T, hT⟩
  · have := le_top s hj
    rw [top, e, hb, h₀] at this
    exact absurd this (by simp)
  · exact ⟨T, e.trans hT, i, Finset.mem_range.mp hi, hT⟩

theorem top_scaled (s : ℕ → EReal) (N : ℕ) (hs : ∀ j, Score (s j)) (T : ℝ) (hT : top s N = (T : EReal)) (i : ℕ) (hi : i < N) (e : s i = (T : EReal)) :
    top (fun j => s j * ln2) N = (T : EReal) * ln2 := by
  apply le_antisymm
  · refine Finset.sup_le fun j hj => ?_
    have h := le_top s (Finset.mem_range.mp hj)
    rw [hT] at h
    exact mul_le_mul_of_nonneg_right h (EReal.coe_nonneg.mpr ln2_pos.le)
  · rw [← e]
    exact le_top (fun j => s j * ln2) hi

/-- The softmax's weighted sum, both ways. -/
theorem softmax_eq (s v w : ℕ → EReal) (N : ℕ) (hs : ∀ j, Score (s j)) (j₀ : ℕ) (hj : j₀ < N) (r₀ : ℝ) (h₀ : s j₀ = (r₀ : EReal))
    (hw : ∀ j, j < N → w j = 1) :
    ∑ j ∈ Finset.range N, v j * Ideal.div (Ideal.exp (s j * ln2 - top (fun j => s j * ln2) N))
        (∑ i ∈ Finset.range N, Ideal.exp (s i * ln2 - top (fun j => s j * ln2) N))
      = acc s v N * Ideal.div 1 (acc s w N) := by
  obtain ⟨T, hT, i, hi, e⟩ := top_real s N hs j₀ hj r₀ h₀
  rw [top_scaled s N hs T hT i hi e]
  simp only [exp_scaled (hs _) T]
  have hZ : acc s w N = ∑ i ∈ Finset.range N, Ideal.exp2 (s i - (T : EReal)) := by
    unfold acc
    refine Finset.sum_congr rfl fun j hj => ?_
    rw [hw j (Finset.mem_range.mp hj), one_mul, hT]
  obtain ⟨z, hz0, hz⟩ := sum_real (fun j => Ideal.exp2 (s j - (T : EReal))) N fun j => exp2_real (hs j) T
  have hz1 : (1 : EReal) ≤ (z : EReal) := by
    rw [← hz]
    refine le_trans (le_of_eq ?_) (Finset.single_le_sum (f := fun j => Ideal.exp2 (s j - (T : EReal))) (fun j _ => exp2_nonneg _) (Finset.mem_range.mpr hi))
    show (1 : EReal) = Ideal.exp2 (s i - (T : EReal))
    rw [e, ← EReal.coe_sub, Ideal.exp2_coe, sub_self, Real.rpow_eq_pow, Real.rpow_zero]
    rfl
  have hzne : z ≠ 0 := by
    rintro rfl
    exact absurd hz1 (by simp)
  have hinv : (0 : EReal) ≤ ((1 / z : ℝ) : EReal) := EReal.coe_nonneg.mpr (by positivity)
  rw [hZ, hz, Ideal.div_coe hzne, one_mul]
  unfold acc
  rw [hT, sum_mul_of_nonneg _ _ hinv (EReal.coe_ne_top _)]
  refine Finset.sum_congr rfl fun j _ => ?_
  rw [Ideal.div_coe hzne, mul_assoc]

end Cert.Online

end
-- ==== Proof.Mla.RefValue.lean ====
/-
  The reference's result at an index.
-/
module

public import proofs.«01_k».proof.Proof.Mla.ArrayValue
public import proofs.«01_k».proof.Proof.Mla.Softmax
public import proofs.«01_k».proof.Proof.Gen.ReferenceIdeal.Run
public import Idealize.ShloMosaic.Lib.Pointwise

@[expose] public section

set_option maxRecDepth 16384

noncomputable section

namespace Cert.ReferenceIdeal.Mla

open Cert.ReferenceIdeal Cert.ReferenceIdeal.Gen Cert.Online
open Cert.ReferenceIdeal.Facts
open Cert.KernelIdeal.Mla (at3 at3_idx at3_self sup_range neg_inf score value result Finite3 at3_finite)
open Idealize.ShloMosaic Idealize.ShloMosaic.TcCoe

/-- Every position's chunk of 64. -/
def chunk : IVec S4096 32 :=
  select (andi (cmpi .ne (signi (iotaInDim S4096 32 0)) (broadcastInDim S4096 ![] bcast_S_S4096 (signi (id (constantI S_ 32 64#32)))))
      (cmpi .ne (Host.remsi (iotaInDim S4096 32 0) (broadcastInDim S4096 ![] bcast_S_S4096 (id (constantI S_ 32 64#32)))) (broadcastInDim S4096 ![] bcast_S_S4096 (constantI S_ 32 0#32))))
    (subi (Host.divsi (iotaInDim S4096 32 0) (broadcastInDim S4096 ![] bcast_S_S4096 (id (constantI S_ 32 64#32)))) (broadcastInDim S4096 ![] bcast_S_S4096 (constantI S_ 32 1#32)))
    (Host.divsi (iotaInDim S4096 32 0) (broadcastInDim S4096 ![] bcast_S_S4096 (id (constantI S_ 32 64#32))))

/-- Which keys a query sees. -/
def sees : IVec S4096x4096 1 :=
  cmpi .sle (broadcastInDim S4096x4096 ![0, 1] bcast_S1x4096_S4096x4096_0_1 (broadcastInDim S1x4096 ![1] bcast_S4096_S1x4096_1 chunk))
    (broadcastInDim S4096x4096 ![0, 1] bcast_S4096x1_S4096x4096_0_1 (broadcastInDim S4096x1 ![0] bcast_S4096_S4096x1_0 chunk))

/-- The scaled and masked scores. -/
def scores (q k : FVec Ideal S8x4096x1024 .bf16) : FVec Ideal S8x8x4096x4096 .f32 :=
  select (broadcastInDim S8x8x4096x4096 ![0, 1, 2, 3] bcast_S1x1x4096x4096_S8x8x4096x4096_0_1_2_3 (broadcastInDim S1x1x4096x4096 ![2, 3] bcast_S4096x4096_S1x1x4096x4096_2_3 sees))
    (mulf (extf .f32 (truncf .bf16 (Host.dotGeneral dot_S8x4096x8x128_S8x4096x8x128_S8x8x4096x4096_3_3_1_1_02_02 none
        (shapeCast _ q shapeCasts_S8x4096x1024_S8x4096x8x128) (shapeCast _ k shapeCasts_S8x4096x1024_S8x4096x8x128)) bitsLt_bf16_f32) bitsLt_bf16_f32)
      (broadcastInDim S8x8x4096x4096 ![] bcast_S_S8x8x4096x4096 (Host.log (constant S_ .f32 0x40000000#32))))
    (broadcastInDim S8x8x4096x4096 ![] bcast_S_S8x8x4096x4096 (id (constant S_ .f32 0xFF800000#32)))

/-- The maximum along the last of four axes. -/
def lastMax {n0 n1 n2 n3 : ℕ} (h : (⟨4, ![n0, n1, n2, n3]⟩ : Shape).ReducesTo [3] ⟨3, ![n0, n1, n2]⟩) (X : FVec Ideal ⟨4, ![n0, n1, n2, n3]⟩ .f32) :
    FVec Ideal ⟨3, ![n0, n1, n2]⟩ .f32 :=
  Host.reduce FloatOps.maximumf X (constant S_ .f32 0xFF800000#32) h h_S_

/-- Each row's maximum. -/
def rowMax (S : FVec Ideal S8x8x4096x4096 .f32) : FVec Ideal S8x8x4096 .f32 :=
  lastMax (n0 := 8) (n1 := 8) (n2 := 4096) (n3 := 4096) reducesTo_S8x8x4096x4096_S8x8x4096_d3 S

/-- The exponentials of the scores less a number per row. -/
def expLess (S : FVec Ideal S8x8x4096x4096 .f32) (M : FVec Ideal S8x8x4096 .f32) : FVec Ideal S8x8x4096x4096 .f32 :=
  Host.exp (subf S (broadcastInDim S8x8x4096x4096 ![0, 1, 2, 3] bcast_S8x8x4096x1_S8x8x4096x4096_0_1_2_3 (broadcastInDim S8x8x4096x1 ![0, 1, 2] bcast_S8x8x4096_S8x8x4096x1_0_1_2
    (maximumf (broadcastInDim S8x8x4096 ![] bcast_S_S8x8x4096 (constant S_ .f32 0xFF800000#32)) M))))

/-- The exponentials of the scores less their row's maximum. -/
def weights (S : FVec Ideal S8x8x4096x4096 .f32) : FVec Ideal S8x8x4096x4096 .f32 := expLess S (rowMax S)

/-- The values' sums over the normalised weights. -/
def mixed (vt : FVec Ideal S8x1024x4096 .bf16) (E : FVec Ideal S8x8x4096x4096 .f32) : FVec Ideal S8x8x64x4096 .f32 :=
  Host.dotGeneral dot_S8x8x64x4096_S8x8x4096x4096_S8x8x64x4096_3_3_2_2_01_01 none
    (extractStridedSlice S8x8x64x4096 ![0, 0, 0, 0] (shapeCast _ vt shapeCasts_S8x1024x4096_S8x8x128x4096) slices_S8x8x128x4096_S8x8x64x4096_0_0_0_0)
    (truncf .bf16 (Host.divf E (broadcastInDim S8x8x4096x4096 ![0, 1, 2, 3] bcast_S8x8x4096x1_S8x8x4096x4096_0_1_2_3 (broadcastInDim S8x8x4096x1 ![0, 1, 2] bcast_S8x8x4096_S8x8x4096x1_0_1_2
      (Host.reduceAdd E (constant S_ .f32 0x00000000#32) reducesTo_S8x8x4096x4096_S8x8x4096_d3 h_S_)))) bitsLt_bf16_f32)

/-- The result of the mixed values: one row of all heads per position. -/
def laid (O : FVec Ideal S8x8x64x4096 .f32) : FVec Ideal S8x4096x512 .bf16 :=
  shapeCast _ (truncf .bf16 (transpose S8x4096x8x64 [0, 3, 1, 2] O transposes_S8x8x64x4096_S8x4096x8x64_0_3_1_2) bitsLt_bf16_f32) shapeCasts_S8x4096x8x64_S8x4096x512

variable (m : (ℓ : Loc nD τ sig) → Buf (Elt Ideal) ℓ) (c : Dev nD)

theorem res_eq : Value.res_main_v34 m c
    = laid (mixed (m ((c.tc : Thread nD τ).loc main_arg2)) (weights (scores (m ((c.tc : Thread nD τ).loc main_arg0)) (m ((c.tc : Thread nD τ).loc main_arg1))))) := rfl

/-- A position's quotient by 64 rounded down, as the program spells it. -/
def fdiv64 (x : BitVec 32) : BitVec 32 :=
  Scalar.select
    (IntOp.andi
      (IntOp.cmpi CmpIPredicate.ne (if x = 0 then (0 : BitVec 32) else if x.msb = true then -1 else 1) (if (64#32 : BitVec 32) = 0 then (0 : BitVec 32) else if (64#32 : BitVec 32).msb = true then -1 else 1))
      (IntOp.cmpi CmpIPredicate.ne (IntOp.remsi ArithUnit.host x 64#32) 0#32))
    (IntOp.subi (IntOp.divsi ArithUnit.host x 64#32) 1#32) (IntOp.divsi ArithUnit.host x 64#32)

theorem fdiv64_eq : ∀ j : Fin 4096, fdiv64 (BitVec.ofNat 32 j.val) = BitVec.ofNat 32 (j.val / 64) := by decide +kernel

theorem chunk_apply (j : Fin 4096) : chunk (ix1 j) = BitVec.ofNat 32 (j.val / 64) := by
  unfold chunk
  pointwise
  exact fdiv64_eq j

theorem sle_small : ∀ a b : Fin 64, IntOp.cmpi CmpIPredicate.sle (BitVec.ofNat 32 a.val) (BitVec.ofNat 32 b.val) = if a.val ≤ b.val then 1#1 else 0#1 := by
  decide +kernel

theorem sees_apply (s j : Fin 4096) : sees (ix2 s j) = if j.val / 64 ≤ s.val / 64 then 1#1 else 0#1 := by
  unfold sees
  pointwise
  rw [chunk_apply, chunk_apply]
  exact sle_small ⟨j.val / 64, by have := j.isLt; omega⟩ ⟨s.val / 64, by have := s.isLt; omega⟩

/-- The scale's constant is two. -/
theorem two_const : Ideal.ofBits FTy.f32 0x40000000#32 = ((2 : ℝ) : EReal) := by
  simp [Ideal.ofBits, Ideal.ieee]
  rw [← EReal.coe_mul]
  norm_num

theorem scores_apply (q k : FVec Ideal S8x4096x1024 .bf16) (b h : Fin 8) (s j : Fin 4096) :
    (scores q k (ix4 b h s j) : EReal) = score q k b.val h.val s.val j.val * ln2 := by
  unfold scores
  pointwise
  have hs : (∑ x : Fin 128, (q (ix3 b s ⟨h.val * 128 + x.val, by have := h.isLt; have := x.isLt; omega⟩) * k (ix3 b j ⟨h.val * 128 + x.val, by have := h.isLt; have := x.isLt; omega⟩) : EReal))
      = ∑ d : Fin 128, at3 k b.val j.val (128 * h.val + d.val) * at3 q b.val s.val (128 * h.val + d.val) := by
    refine Finset.sum_congr rfl fun d _ => ?_
    rw [mul_comm]
    exact congrArg₂ (fun a b : EReal => a * b) (at3_idx k _ _ _ _ rfl rfl (by show _ = h.val * 128 + d.val; omega)).symm
      (at3_idx q _ _ _ _ rfl rfl (by show _ = h.val * 128 + d.val; omega)).symm
  rw [sees_apply, two_const, Ideal.log_coe, if_neg (show ¬ ((2 : ℝ) ≤ 0) by norm_num), hs]
  unfold score
  by_cases hj : j.val / 64 ≤ s.val / 64
  · rw [if_pos hj, if_pos hj]
    rfl
  · rw [if_neg hj, if_neg hj, EReal.bot_mul_coe_of_pos ln2_pos]
    exact neg_inf

theorem lastMax_apply {n0 n1 n2 n3 : ℕ} (h : (⟨4, ![n0, n1, n2, n3]⟩ : Shape).ReducesTo [3] ⟨3, ![n0, n1, n2]⟩)
    (X : FVec Ideal ⟨4, ![n0, n1, n2, n3]⟩ .f32) (a : Fin n0) (b : Fin n1) (s : Fin n2) :
    (lastMax h X (ix3 a b s) : EReal) = Finset.univ.fold max (⊥ : EReal) fun j : Fin n3 => X (ix4 a b s j) := by
  unfold lastMax
  rw [Ideal.maximumf_eq_max, Host.reduce_eq_fold, h.fold_fiber_r4_a3]
  exact congrArg (fun z : EReal => Finset.univ.fold max z fun j : Fin n3 => X (ix4 a b s j)) neg_inf

theorem rowMax_apply (S : FVec Ideal S8x8x4096x4096 .f32) (b h : Fin 8) (s : Fin 4096) :
    (rowMax S (ix3 b h s) : EReal) = Finset.univ.fold max (⊥ : EReal) fun j : Fin 4096 => S (ix4 b h s j) :=
  lastMax_apply (n0 := 8) (n1 := 8) (n2 := 4096) (n3 := 4096) reducesTo_S8x8x4096x4096_S8x8x4096_d3 S b h s

theorem expLess_apply (S : FVec Ideal S8x8x4096x4096 .f32) (M : FVec Ideal S8x8x4096 .f32) (b h : Fin 8) (s j : Fin 4096) :
    (expLess S M (ix4 b h s j) : EReal) = Ideal.exp (S (ix4 b h s j) - M (ix3 b h s)) := by
  unfold expLess
  pointwise
  rw [neg_inf, max_eq_right bot_le]

theorem weights_apply (S : FVec Ideal S8x8x4096x4096 .f32) (b h : Fin 8) (s j : Fin 4096) :
    (weights S (ix4 b h s j) : EReal) = Ideal.exp (S (ix4 b h s j) - rowMax S (ix3 b h s)) :=
  expLess_apply S (rowMax S) b h s j

theorem mixed_apply (vt : FVec Ideal S8x1024x4096 .bf16) (E : FVec Ideal S8x8x4096x4096 .f32) (b h : Fin 8) (r : Fin 64) (s : Fin 4096) :
    (mixed vt E (ix4 b h r s) : EReal)
      = ∑ j : Fin 4096, value vt b.val h.val r.val j.val * Ideal.div (E (ix4 b h s j)) (∑ i : Fin 4096, E (ix4 b h s i)) := by
  unfold mixed
  pointwise
  refine Finset.sum_congr rfl fun j _ => ?_
  refine congrArg (fun z : EReal => z * _) ?_
  exact (at3_idx vt _ _ _ _ rfl (by show _ = h.val * 128 + r.val; omega) rfl).symm

theorem laid_apply (O : FVec Ideal S8x8x64x4096 .f32) (b : Fin 8) (s : Fin 4096) (z : Fin 512) :
    (laid O (ix3 b s z) : EReal) = O (ix4 b ⟨z.val / 64, by have := z.isLt; omega⟩ ⟨z.val % 64, by omega⟩ s) := by
  unfold laid
  pointwise

/-- The weights of a row are the exponentials of its scores less their maximum. -/
theorem row_weights (q k : FVec Ideal S8x4096x1024 .bf16) (b h : Fin 8) (s j : Fin 4096) :
    (weights (scores q k) (ix4 b h s j) : EReal)
      = Ideal.exp (score q k b.val h.val s.val j.val * ln2 - top (fun j => score q k b.val h.val s.val j * ln2) 4096) := by
  rw [weights_apply, rowMax_apply, scores_apply]
  simp only [scores_apply]
  rw [sup_range (fun j => score q k b.val h.val s.val j * ln2)]
  rfl

/-- The products of finite arrays' rows are real numbers. -/
theorem dot_real (q k : FVec Ideal S8x4096x1024 .bf16) (hq : Finite3 (a := 8) (b := 4096) (c := 1024) q) (hk : Finite3 (a := 8) (b := 4096) (c := 1024) k) (b h s j : ℕ) :
    ∃ r : ℝ, ∑ d : Fin 128, at3 (a := 8) (b := 4096) (c := 1024) k b j (128 * h + d.val) * at3 (a := 8) (b := 4096) (c := 1024) q b s (128 * h + d.val) = (r : EReal) := by
  refine Finset.sum_induction _ (fun x : EReal => ∃ r : ℝ, x = (r : EReal)) ?_ ⟨0, rfl⟩ fun d _ => ?_
  · rintro _ _ ⟨x, rfl⟩ ⟨y, rfl⟩
    exact ⟨x + y, rfl⟩
  · obtain ⟨x, hx⟩ := at3_finite hk b j (128 * h + d.val)
    obtain ⟨y, hy⟩ := at3_finite hq b s (128 * h + d.val)
    exact ⟨x * y, by rw [hx, hy]; rfl⟩

/-- A masked score of finite arrays is hidden or a real number. -/
theorem score_score (q k : FVec Ideal S8x4096x1024 .bf16) (hq : Finite3 (a := 8) (b := 4096) (c := 1024) q) (hk : Finite3 (a := 8) (b := 4096) (c := 1024) k) (b h s j : ℕ) :
    Score (score q k b h s j) := by
  unfold score
  split
  · exact .inr (dot_real q k hq hk b h s j)
  · exact .inl rfl

/-- The reference's result is the kernel's. -/
theorem res_value (q k : FVec Ideal S8x4096x1024 .bf16) (vt : FVec Ideal S8x1024x4096 .bf16)
    (hq : Finite3 (a := 8) (b := 4096) (c := 1024) q) (hk : Finite3 (a := 8) (b := 4096) (c := 1024) k)
    (h1 : ∀ b h j : ℕ, b < 8 → h < 8 → j < 4096 → value vt b h 64 j = 1) (b : Fin 8) (s : Fin 4096) (z : Fin 512) :
    (laid (mixed vt (weights (scores q k))) (ix3 b s z) : EReal) = result q k vt b.val s.val z.val := by
  have hz : z.val / 64 < 8 := by have := z.isLt; omega
  rw [laid_apply, mixed_apply]
  simp only [row_weights]
  unfold result
  have hsc := score_score q k hq hk b.val (z.val / 64) s.val
  obtain ⟨r₀, h₀⟩ : ∃ r : ℝ, score q k b.val (z.val / 64) s.val 0 = (r : EReal) := by
    unfold score
    rw [if_pos (by omega)]
    exact dot_real q k hq hk _ _ _ _
  rw [← softmax_eq _ (value vt b.val (z.val / 64) (z.val % 64)) _ 4096 hsc 0 (by norm_num) r₀ h₀ fun j hj => h1 b.val (z.val / 64) j b.isLt hz hj]
  simp only [Finset.sum_range]

end Cert.ReferenceIdeal.Mla

end
-- ==== Proof.Mla.Values.lean ====
/-
  Over the extended reals the kernel's result is the reference's, if queries and keys are finite and the row of
  ones is there.
-/
module

public import proofs.«01_k».proof.Defs
public import proofs.«01_k».proof.Proof.Mla.RefValue
public import Idealize.ShloMosaic.Lib.ReduceAll

@[expose] public section

set_option maxRecDepth 16384

noncomputable section

namespace Cert.Values

open Idealize.ShloMosaic Idealize.ShloMosaic.TcCoe Idealize.SL.Sem
open Cert.KernelIdeal.Mla (at3 at3_idx value result Finite3)

instance : Subsingleton (Cert.Pre_ones_row_and_finite.S_).Idx := ⟨fun a b => funext fun k => Fin.elim0 k⟩

theorem inf_const : Ideal.ofBits FTy.f32 0x7F800000#32 = ⊤ := by simp [Ideal.ofBits, Ideal.ieee]

/-- What has an absolute value below plus infinity is neither infinity. -/
theorem finite_of_abs {x : EReal} (h : Ideal.cmp .olt (max x (-x)) (Ideal.ofBits FTy.f32 0x7F800000#32) = 1#1) : x ≠ ⊥ ∧ x ≠ ⊤ := by
  have h' := (Ideal.cmp_olt_eq_one _ _).1 h
  rw [inf_const] at h'
  constructor
  · rintro rfl
    simp at h'
  · rintro rfl
    simp at h'

section Pre

open Cert.Pre_ones_row_and_finite Cert.Pre_ones_row_and_finite.Facts

variable [Cert.Pre_ones_row_and_finite.Facts]

/-- Row 64 of every head. -/
def onesRow (vt : FVec Ideal S8x1024x4096 .bf16) : FVec Ideal S8x8x4096 .f32 :=
  shapeCast S8x8x4096 (extractStridedSlice S8x8x1x4096 ![0, 0, 64, 0] (shapeCast S8x8x128x4096 (extf .f32 vt bitsLt_bf16_f32) shapeCasts_S8x1024x4096_S8x8x128x4096)
    slices_S8x8x128x4096_S8x8x1x4096_0_0_64_0) shapeCasts_S8x8x1x4096_S8x8x4096

theorem onesRow_apply (vt : FVec Ideal S8x1024x4096 .bf16) (b h : Fin 8) (j : Fin 4096) :
    (onesRow vt (ix3 b h j) : EReal) = at3 (a := 8) (b := 1024) (c := 4096) vt b.val (128 * h.val + 64) j.val := by
  unfold onesRow
  pointwise
  exact (at3_idx vt _ _ _ _ rfl (by show _ = h.val * 128 + 64; omega) rfl).symm

/-- What the precondition says of the arrays. -/
theorem pre_reads (q k : FVec Ideal S8x4096x1024 .bf16) (vt : FVec Ideal S8x1024x4096 .bf16) (e : fn (F := Ideal) q k vt = fun _ => 1#1) :
    Finite3 (a := 8) (b := 4096) (c := 1024) q ∧ Finite3 (a := 8) (b := 4096) (c := 1024) k
      ∧ ∀ b h j : ℕ, b < 8 → h < 8 → j < 4096 → value vt b h 64 j = 1 := by
  obtain ⟨h12, h17⟩ := IntOp.andi_eq_one.1 (congrFun e ix0)
  obtain ⟨h6, h11⟩ := IntOp.andi_eq_one.1 h12
  refine ⟨fun y => ?_, fun y => ?_, fun b h j hb hh hj => ?_⟩
  · exact finite_of_abs (Host.reduce_andi_all _ _ _ _ _ h11 y)
  · exact finite_of_abs (Host.reduce_andi_all _ _ _ _ _ h17 y)
  · have o : Ideal.cmp .oeq (onesRow vt (ix3 (⟨b, hb⟩ : Fin 8) (⟨h, hh⟩ : Fin 8) (⟨j, hj⟩ : Fin 4096))) (Ideal.ofBits FTy.f32 0x3F800000#32) = 1#1 :=
      Host.reduce_andi_all _ _ _ _ _ h6 (ix3 (⟨b, hb⟩ : Fin 8) (⟨h, hh⟩ : Fin 8) (⟨j, hj⟩ : Fin 4096))
    have o' := (Ideal.cmp_oeq_eq_one _ _).1 o
    rw [Ideal.ofBits_one_f32, onesRow_apply] at o'
    exact o'

end Pre

/-- The ideal kernel computes the reference. -/
theorem algebraic [hPre : Cert.Pre_ones_row_and_finite.Facts] :
    algebraic_KernelIdeal_ReferenceIdeal_pre_ones_row_and_finite (hKernelIdeal := Cert.KernelIdeal.Gen.facts) (hReferenceIdeal := Cert.ReferenceIdeal.Gen.facts) := by
  intro m ρ m' ρ' hpre hagree
  refine ⟨fun c => fun y : Cert.KernelIdeal.S8x4096x512.Idx => result (m ((c.tc : Thread Cert.KernelIdeal.nD Cert.KernelIdeal.τ).loc Cert.KernelIdeal.main_arg0))
    (m ((c.tc : Thread Cert.KernelIdeal.nD Cert.KernelIdeal.τ).loc Cert.KernelIdeal.main_arg1)) (m ((c.tc : Thread Cert.KernelIdeal.nD Cert.KernelIdeal.τ).loc Cert.KernelIdeal.main_arg2))
    (y 0).val (y 1).val (y 2).val, ?_, ?_⟩
  · refine (θ_run _ _ _).mono (fun r h c => ?_) (θ_run_and (Cert.KernelIdeal.Mla.run_main (F := Ideal) m ρ) (Cert.KernelIdeal.Mla.frame (F := Ideal) m ρ))
    obtain ⟨hq, hk, h1⟩ := pre_reads _ _ _ (hpre c)
    exact ⟨(h.1.out_eq c 3).trans (Cert.KernelIdeal.Mla.final m c hq hk), h.2.1 c⟩
  · refine (θ_run _ _ _).mono (fun r h c => ⟨(h c).1.trans ?_, (h c).2⟩) (Cert.ReferenceIdeal.Value.run (F := Ideal) m' ρ')
    obtain ⟨hq, hk, h1⟩ := pre_reads _ _ _ (hpre c)
    obtain ⟨a0, a1, a2⟩ := hagree c
    rw [Cert.ReferenceIdeal.Mla.res_eq, a0, a1, a2]
    funext y
    exact (congrArg _ (eq_ix3 y)).trans (Cert.ReferenceIdeal.Mla.res_value _ _ _ hq hk h1 (y 0) (y 1) (y 2))

end Cert.Values

end
-- ==== Proof.Tail.Row.lean ====
/-
  One row of the tail over the extended reals: the mixers' outputs through their gates and projections, the
  second feed-forward, and the norm after it. One row of the first feed-forward, with the same parts. Where a
  block of rows, a batch's conditioning vectors and a whole array lie in their arrays.
-/
module

public import Idealize.ShloMosaic.PureOps.Ideal.Laws
public import Idealize.ShloMosaic.Lib.Pointwise

@[expose] public section

noncomputable section

namespace Cert.Tail

open Idealize.ShloMosaic

/-- An array of two axes at natural-number coordinates: zero outside its bounds. -/
def at2 {a b : ℕ} (X : (⟨2, ![a, b]⟩ : Shape).Idx → EReal) (x y : ℕ) : EReal :=
  if h : x < a ∧ y < b then X (ix2 ⟨x, h.1⟩ ⟨y, h.2⟩) else 0

theorem at2_idx {a b : ℕ} (X : (⟨2, ![a, b]⟩ : Shape).Idx → EReal) (y : (⟨2, ![a, b]⟩ : Shape).Idx) (x' y' : ℕ)
    (hx : x' = (y 0).val) (hy : y' = (y 1).val) : at2 X x' y' = X y := by
  subst hx hy
  have h0 : (y 0).val < a := (y 0).isLt
  have h1 : (y 1).val < b := (y 1).isLt
  unfold at2
  rw [dif_pos ⟨h0, h1⟩]
  congr 1
  funext k
  match k with
  | ⟨0, _⟩ => rfl
  | ⟨1, _⟩ => rfl

/-- A row over its root mean square. -/
def unit (x : Fin 1024 → EReal) (n : Fin 1024) : EReal :=
  x n * Ideal.rsqrt (Ideal.div (∑ i : Fin 1024, x i * x i) (Ideal.ofBits .f32 0x44800000#32) + Ideal.ofBits .f32 0x358637BD#32)

/-- The two mixers' outputs, projected, gated and added. -/
def mix (aa ab : Fin 512 → EReal) (ga gb : Fin 1024 → EReal) (wa wb : Fin 512 → Fin 1024 → EReal) (j : Fin 1024) : EReal :=
  ga j * (∑ d : Fin 512, aa d * wa d j) + gb j * (∑ d : Fin 512, ab d * wb d j)

/-- The row after the mixers. -/
def resid (x g : Fin 1024 → EReal) (v : Fin 1024 → EReal) (wo : Fin 1024 → Fin 1024 → EReal) (n : Fin 1024) : EReal :=
  x n + g n * ∑ j : Fin 1024, v j * wo j n

/-- The feed-forward's input: the row normed, scaled and shifted. -/
def hid (x nm sc sh : Fin 1024 → EReal) (n : Fin 1024) : EReal :=
  unit x n * (nm n * (Ideal.ofBits .f32 0x3F800000#32 + sc n)) + sh n

/-- The feed-forward's activation at a column. -/
def act (h : Fin 1024 → EReal) (wi : ℕ → ℕ → EReal) (j : ℕ) : EReal :=
  (∑ k : Fin 1024, h k * wi k.val j) * Ideal.logistic (∑ k : Fin 1024, h k * wi k.val j) * ∑ k : Fin 1024, h k * wi k.val (2816 + j)

/-- The row after the feed-forward. -/
def ffn (x g h : Fin 1024 → EReal) (wi wd : ℕ → ℕ → EReal) (n : Fin 1024) : EReal :=
  x n + (Ideal.ofBits .f32 0x3F000000#32 * g n) * ∑ j : Fin 2816, act h wi j.val * wd j.val n.val

/-- The tail of one row. -/
def tail (x : Fin 1024 → EReal) (ada : Fin 9 → Fin 1024 → EReal) (aa ab : Fin 512 → EReal) (ga gb : Fin 1024 → EReal)
    (wa wb : Fin 512 → Fin 1024 → EReal) (wo : Fin 1024 → Fin 1024 → EReal) (nm : Fin 1024 → EReal) (wi wd : ℕ → ℕ → EReal) (fn : Fin 1024 → EReal)
    (n : Fin 1024) : EReal :=
  unit (ffn (resid x (ada 5) (mix aa ab ga gb wa wb) wo) (ada 8)
    (hid (resid x (ada 5) (mix aa ab ga gb wa wb) wo) nm (ada 7) (ada 6)) wi wd) n * fn n

/-- The tail of row `s` of batch `b`, `S` being the number of rows and `B` the number of batches. -/
def row {B S : ℕ} (x : FVec Ideal ⟨3, ![B, S, 1024]⟩ .f32) (ada : FVec Ideal ⟨3, ![B, 9, 1024]⟩ .f32) (aa ab : FVec Ideal ⟨3, ![B, S, 512]⟩ .bf16)
    (ga gb : FVec Ideal ⟨3, ![B, S, 1024]⟩ .bf16) (wa wb : FVec Ideal ⟨2, ![512, 1024]⟩ .bf16) (wo : FVec Ideal ⟨2, ![1024, 1024]⟩ .bf16)
    (nm : FVec Ideal ⟨2, ![1, 1024]⟩ .f32) (wi : FVec Ideal ⟨2, ![1024, 5632]⟩ .bf16) (wd : FVec Ideal ⟨2, ![2816, 1024]⟩ .bf16) (fn : FVec Ideal ⟨2, ![1, 1024]⟩ .f32)
    (b : Fin B) (s : Fin S) (n : Fin 1024) : EReal :=
  tail (fun n => x (ix3 b s n)) (fun k n => ada (ix3 b k n)) (fun d => aa (ix3 b s d)) (fun d => ab (ix3 b s d)) (fun n => ga (ix3 b s n)) (fun n => gb (ix3 b s n))
    (fun d n => wa (ix2 d n)) (fun d n => wb (ix2 d n)) (fun j n => wo (ix2 j n)) (fun n => nm (ix2 (0 : Fin 1) n)) (at2 (a := 1024) (b := 5632) wi) (at2 (a := 2816) (b := 1024) wd)
    (fun n => fn (ix2 (0 : Fin 1) n)) n

/-- The first feed-forward of row `s` of batch `b`. -/
def half {B S : ℕ} (x : FVec Ideal ⟨3, ![B, S, 1024]⟩ .f32) (ada : FVec Ideal ⟨3, ![B, 9, 1024]⟩ .f32) (nm : FVec Ideal ⟨2, ![1, 1024]⟩ .f32)
    (wi : FVec Ideal ⟨2, ![1024, 5632]⟩ .bf16) (wd : FVec Ideal ⟨2, ![2816, 1024]⟩ .bf16) (b : Fin B) (s : Fin S) (n : Fin 1024) : EReal :=
  ffn (fun i => x (ix3 b s i)) (fun n => ada (ix3 b (2 : Fin 9) n)) (hid (fun i => x (ix3 b s i)) (fun n => nm (ix2 (0 : Fin 1) n)) (fun n => ada (ix3 b (1 : Fin 9) n))
    (fun n => ada (ix3 b (0 : Fin 9) n))) (at2 (a := 1024) (b := 5632) wi) (at2 (a := 2816) (b := 1024) wd) n

theorem ext3 {n0 n1 n2 : ℕ} {y z : (⟨3, ![n0, n1, n2]⟩ : Shape).Idx} (h0 : (y 0).val = (z 0).val) (h1 : (y 1).val = (z 1).val) (h2 : (y 2).val = (z 2).val) : y = z :=
  funext fun a => Fin.ext (match a with | ⟨0, _⟩ => h0 | ⟨1, _⟩ => h1 | ⟨2, _⟩ => h2)

theorem ext2 {n0 n1 : ℕ} {y z : (⟨2, ![n0, n1]⟩ : Shape).Idx} (h0 : (y 0).val = (z 0).val) (h1 : (y 1).val = (z 1).val) : y = z :=
  funext fun a => Fin.ext (match a with | ⟨0, _⟩ => h0 | ⟨1, _⟩ => h1)

/-- The row of the array that row `r` of its block `i` of 512 rows is. -/
def lineOf (i : Fin 8) (r : Fin 512) : Fin 4096 := ⟨i.val * 512 + 1 * r.val, by have := i.isLt; have := r.isLt; omega⟩

/-- Where a window's block of rows lies in its array, given the window's block index. -/
theorem at_rows {N : ℕ} (b i : Fin 8) (r : Fin 512) (n : Fin N) {i0 i1 i2 : ℕ} (hi : i0 = b.val ∧ i1 = i.val ∧ i2 = 0)
    {y : (⟨3, ![8, 4096, N]⟩ : Shape).Idx} (h0 : (y 0).val = i0 * 1 + 1 * 0) (h1 : (y 1).val = i1 * 512 + 1 * r.val) (h2 : (y 2).val = i2 * N + 1 * n.val) :
    y = ix3 b (lineOf i r) n := by
  obtain ⟨e0, e1, e2⟩ := hi
  subst e0 e1 e2
  refine ext3 (h0.trans ?_) h1 (h2.trans ?_)
  · show _ = b.val
    omega
  · show _ = n.val
    omega

/-- Where a batch's conditioning vectors lie in their array. -/
theorem at_cond (b : Fin 8) (k : Fin 9) (n : Fin 1024) {i0 i1 i2 : ℕ} (hi : i0 = b.val ∧ i1 = 0 ∧ i2 = 0)
    {y : (⟨3, ![8, 9, 1024]⟩ : Shape).Idx} (h0 : (y 0).val = i0 * 1 + 1 * 0) (h1 : (y 1).val = i1 * 9 + 1 * k.val) (h2 : (y 2).val = i2 * 1024 + 1 * n.val) :
    y = ix3 b k n := by
  obtain ⟨e0, e1, e2⟩ := hi
  subst e0 e1 e2
  refine ext3 (h0.trans ?_) (h1.trans ?_) (h2.trans ?_)
  · show _ = b.val
    omega
  · show _ = k.val
    omega
  · show _ = n.val
    omega

/-- A window over its whole array reads the array's own indices. -/
theorem at_whole {P Q : ℕ} {i0 i1 : ℕ} (hi : i0 = 0 ∧ i1 = 0) {y z : (⟨2, ![P, Q]⟩ : Shape).Idx} (h0 : (y 0).val = i0 * P + 1 * (z 0).val) (h1 : (y 1).val = i1 * Q + 1 * (z 1).val) : y = z := by
  obtain ⟨e0, e1⟩ := hi
  subst e0 e1
  exact ext2 (by omega) (by omega)

/-- The feed-forward's columns summed in five blocks of 512 and one of 256. -/
theorem sum_blocks (f : ℕ → EReal) :
    (∑ j : Fin 512, f (0 + j.val)) + (∑ j : Fin 512, f (512 + j.val)) + (∑ j : Fin 512, f (1024 + j.val)) + (∑ j : Fin 512, f (1536 + j.val))
      + (∑ j : Fin 512, f (2048 + j.val)) + (∑ j : Fin 256, f (2560 + j.val)) = ∑ j : Fin 2816, f j.val := by
  rw [← Finset.sum_range (fun j => f (0 + j)), ← Finset.sum_range (fun j => f (512 + j)), ← Finset.sum_range (fun j => f (1024 + j)),
    ← Finset.sum_range (fun j => f (1536 + j)), ← Finset.sum_range (fun j => f (2048 + j)), ← Finset.sum_range (fun j => f (2560 + j)),
    ← Finset.sum_range f, show (2816 : ℕ) = 512 + 512 + 512 + 512 + 512 + 256 from rfl]
  simp only [Finset.sum_range_add, zero_add]

end Cert.Tail

end
-- ==== Proof.Tail.Block.lean ====
/-
  The tail's body at an index: each row of the block it stores is the tail of that row.
-/
module

public import proofs.«01_k».proof.Proof.Tail.Row
public import proofs.«01_k».proof.Proof.Gen.Kernel2Ideal.Skeleton

@[expose] public section

set_option maxRecDepth 16384

noncomputable section

namespace Cert.Kernel2Ideal.Tail

open Cert.Kernel2Ideal Cert.Kernel2Ideal.Gen Cert.Tail
open Idealize.ShloMosaic

/-- Every row over its root mean square. -/
def normed (X : FVec Ideal S512x1024 .f32) : FVec Ideal S512x1024 .f32 :=
  mulf X (broadcastTo S512x1024 (rsqrt (addf (divf (shapeCast S512x1 (multiReduction .add [1] S512 (mulf X X) 0x00000000#32 reduces_S512x1024_S512 (.inl rfl) rfl) shapeCasts_S512_S512x1)
    (broadcast S512x1 (Scalar.ofBits .f32 0x44800000#32))) (broadcast S512x1 (Scalar.ofBits .f32 0x358637BD#32)))) broadcasts_S512x1_S512x1024)

theorem normed_apply (X : FVec Ideal S512x1024 .f32) (r : Fin 512) (n : Fin 1024) :
    (normed X (ix2 r n) : EReal) = unit (fun i => X (ix2 r i)) n := by
  unfold normed unit
  pointwise

/-- The rows after the mixers. -/
theorem pay2_apply (v0 : Vec Ideal S1x512x512 .bf16) (v2 : Vec Ideal S512x1024 .bf16) (v4 : Vec Ideal S1x512x512 .bf16) (v6 : Vec Ideal S512x1024 .bf16)
    (v8 v12 : Vec Ideal S1x512x1024 .bf16) (v17 : Vec Ideal S1x512x1024 .f32) (v19 : Vec Ideal S1x1x1024 .f32) (v21 : Vec Ideal S1024x1024 .bf16) (r : Fin 512) (n : Fin 1024) :
    (k0_pay2 (F := Ideal) v0 v2 v4 v6 v8 v12 v17 v19 v21 (ix2 r n) : EReal)
      = resid (fun n => v17 (ix3 (0 : Fin 1) r n)) (fun n => v19 (ix3 (0 : Fin 1) (0 : Fin 1) n))
          (mix (fun d => v0 (ix3 (0 : Fin 1) r d)) (fun d => v4 (ix3 (0 : Fin 1) r d)) (fun n => v8 (ix3 (0 : Fin 1) r n)) (fun n => v12 (ix3 (0 : Fin 1) r n))
            (fun d n => v2 (ix2 d n)) (fun d n => v6 (ix2 d n))) (fun j n => v21 (ix2 j n)) n := by
  unfold k0_pay2 resid mix
  pointwise

/-- The feed-forward's input. -/
theorem pay5_apply (X : FVec Ideal S512x1024 .f32) (v27 : FVec Ideal S1x1024 .f32) (v28 : Vec Ideal S1x1x1024 .f32) (v32 : Vec Ideal S1x1024 .f32) (r : Fin 512) (n : Fin 1024) :
    (k0_pay5 (F := Ideal) X v27 v28 v32 (ix2 r n) : EReal)
      = hid (fun i => X (ix2 r i)) (fun n => v32 (ix2 (0 : Fin 1) n)) (fun n => v28 (ix3 (0 : Fin 1) (0 : Fin 1) n)) (fun n => v27 (ix2 (0 : Fin 1) n)) n := by
  have e : k0_pay5 (F := Ideal) X v27 v28 v32 = addf (mulf (truncf .bf16 (normed X) bitsLt_bf16_f32) (broadcastTo S512x1024
      (truncf .bf16 (mulf v32 (addf (broadcast S1x1024 (Scalar.ofBits .f32 0x3F800000#32)) (shapeCast S1x1024 v28 shapeCasts_S1x1x1024_S1x1024))) bitsLt_bf16_f32) broadcasts_S1x1024_S512x1024))
      (broadcastTo S512x1024 (truncf .bf16 v27 bitsLt_bf16_f32) broadcasts_S1x1024_S512x1024) := rfl
  rw [e]
  pointwise
  rw [normed_apply]
  unfold hid
  rw [Ideal.ofBits_one_f32]

/-- One block of columns of the feed-forward. -/
def part (W : ℕ) (d : DotDims S512x1024 ⟨2, ![1024, W]⟩ ⟨2, ![512, W]⟩) (d' : DotDims ⟨2, ![512, W]⟩ ⟨2, ![W, 1024]⟩ S512x1024)
    (H : FVec Ideal S512x1024 .bf16) (G U : FVec Ideal ⟨2, ![1024, W]⟩ .bf16) (D : FVec Ideal ⟨2, ![W, 1024]⟩ .bf16) : FVec Ideal S512x1024 .f32 :=
  matmul d' none (truncf .bf16 (mulf (mulf (matmul d none H G (constant _ .f32 0x00000000#32)) (logistic (matmul d none H G (constant _ .f32 0x00000000#32))))
    (matmul d none H U (constant _ .f32 0x00000000#32))) bitsLt_bf16_f32) D (constant S512x1024 .f32 0x00000000#32)

abbrev part512 := part 512 dot_S512x1024_S1024x512_S512x512_1_0_0_1_n_n dot_S512x512_S512x1024_S512x1024_1_0_0_1_n_n
abbrev part256 := part 256 dot_S512x1024_S1024x256_S512x256_1_0_0_1_n_n dot_S512x256_S256x1024_S512x1024_1_0_0_1_n_n

/-- That the loaded weights are the columns from `c` on. -/
structure Cols (W c : ℕ) (wi wd : ℕ → ℕ → EReal) (G U : FVec Ideal ⟨2, ![1024, W]⟩ .bf16) (D : FVec Ideal ⟨2, ![W, 1024]⟩ .bf16) : Prop where
  gate : ∀ (k : Fin 1024) (j : Fin W), G (ix2 k j) = wi k.val (c + j.val)
  up : ∀ (k : Fin 1024) (j : Fin W), U (ix2 k j) = wi k.val (2816 + (c + j.val))
  down : ∀ (j : Fin W) (n : Fin 1024), D (ix2 j n) = wd (c + j.val) n.val

theorem part512_apply {c : ℕ} {wi wd : ℕ → ℕ → EReal} (H : FVec Ideal S512x1024 .bf16) {G U : FVec Ideal S1024x512 .bf16} {D : FVec Ideal S512x1024 .bf16}
    (hc : Cols 512 c wi wd G U D) (r : Fin 512) (n : Fin 1024) :
    (part512 H G U D (ix2 r n) : EReal) = ∑ j : Fin 512, act (fun k => H (ix2 r k)) wi (c + j.val) * wd (c + j.val) n.val := by
  unfold part512 part act
  pointwise
  simp only [hc.gate, hc.up, hc.down]

theorem part256_apply {c : ℕ} {wi wd : ℕ → ℕ → EReal} (H : FVec Ideal S512x1024 .bf16) {G U : FVec Ideal S1024x256 .bf16} {D : FVec Ideal S256x1024 .bf16}
    (hc : Cols 256 c wi wd G U D) (r : Fin 512) (n : Fin 1024) :
    (part256 H G U D (ix2 r n) : EReal) = ∑ j : Fin 256, act (fun k => H (ix2 r k)) wi (c + j.val) * wd (c + j.val) n.val := by
  unfold part256 part act
  pointwise
  simp only [hc.gate, hc.up, hc.down]

/-- The six blocks added. -/
def total (H : FVec Ideal S512x1024 .bf16) (G0 U0 : FVec Ideal S1024x512 .bf16) (D0 : FVec Ideal S512x1024 .bf16) (G1 U1 : FVec Ideal S1024x512 .bf16) (D1 : FVec Ideal S512x1024 .bf16)
    (G2 U2 : FVec Ideal S1024x512 .bf16) (D2 : FVec Ideal S512x1024 .bf16) (G3 U3 : FVec Ideal S1024x512 .bf16) (D3 : FVec Ideal S512x1024 .bf16)
    (G4 U4 : FVec Ideal S1024x512 .bf16) (D4 : FVec Ideal S512x1024 .bf16) (G5 U5 : FVec Ideal S1024x256 .bf16) (D5 : FVec Ideal S256x1024 .bf16) : FVec Ideal S512x1024 .f32 :=
  addf (addf (addf (addf (addf (part512 H G0 U0 D0) (part512 H G1 U1 D1)) (part512 H G2 U2 D2)) (part512 H G3 U3 D3)) (part512 H G4 U4 D4)) (part256 H G5 U5 D5)

theorem total_apply (wi wd : ℕ → ℕ → EReal) (H : FVec Ideal S512x1024 .bf16) {G0 U0 : FVec Ideal S1024x512 .bf16} {D0 : FVec Ideal S512x1024 .bf16} {G1 U1 : FVec Ideal S1024x512 .bf16} {D1 : FVec Ideal S512x1024 .bf16}
    {G2 U2 : FVec Ideal S1024x512 .bf16} {D2 : FVec Ideal S512x1024 .bf16} {G3 U3 : FVec Ideal S1024x512 .bf16} {D3 : FVec Ideal S512x1024 .bf16}
    {G4 U4 : FVec Ideal S1024x512 .bf16} {D4 : FVec Ideal S512x1024 .bf16} {G5 U5 : FVec Ideal S1024x256 .bf16} {D5 : FVec Ideal S256x1024 .bf16}
    (h0 : Cols 512 0 wi wd G0 U0 D0) (h1 : Cols 512 512 wi wd G1 U1 D1) (h2 : Cols 512 1024 wi wd G2 U2 D2) (h3 : Cols 512 1536 wi wd G3 U3 D3)
    (h4 : Cols 512 2048 wi wd G4 U4 D4) (h5 : Cols 256 2560 wi wd G5 U5 D5) (r : Fin 512) (n : Fin 1024) :
    (total H G0 U0 D0 G1 U1 D1 G2 U2 D2 G3 U3 D3 G4 U4 D4 G5 U5 D5 (ix2 r n) : EReal)
      = ∑ j : Fin 2816, act (fun k => H (ix2 r k)) wi j.val * wd j.val n.val := by
  rw [← sum_blocks (fun j => act (fun k => H (ix2 r k)) wi j * wd j n.val), ← part512_apply H h0, ← part512_apply H h1, ← part512_apply H h2, ← part512_apply H h3,
    ← part512_apply H h4, ← part256_apply H h5]
  rfl

/-- The rows after the feed-forward. -/
def after (X : FVec Ideal S512x1024 .f32) (g : FVec Ideal S1x1024 .f32) (A : FVec Ideal S512x1024 .f32) : FVec Ideal S512x1024 .f32 :=
  addf X (mulf (broadcastTo S512x1024 (mulf (broadcast S1x1024 (Scalar.ofBits .f32 0x3F000000#32)) g) broadcasts_S1x1024_S512x1024) A)

theorem after_apply (X : FVec Ideal S512x1024 .f32) (g : FVec Ideal S1x1024 .f32) (A : FVec Ideal S512x1024 .f32) (r : Fin 512) (n : Fin 1024) :
    (after X g A (ix2 r n) : EReal) = X (ix2 r n) + (Ideal.ofBits .f32 0x3F000000#32 * g (ix2 (0 : Fin 1) n)) * A (ix2 r n) := by
  unfold after
  pointwise

/-- The rows' last norm. -/
theorem last_apply (X : FVec Ideal S512x1024 .f32) (v : FVec Ideal S1x1024 .f32) (r : Fin 512) (n : Fin 1024) :
    (mulf (normed X) (broadcastTo S512x1024 v broadcasts_S1x1024_S512x1024) (ix2 r n) : EReal) = unit (fun i => X (ix2 r i)) n * v (ix2 (0 : Fin 1) n) := by
  pointwise
  rw [normed_apply]

/-- The block's computation, its parts put together. -/
theorem pay8_eq (X : FVec Ideal S512x1024 .f32) (g : FVec Ideal S1x1024 .f32) (v27 : FVec Ideal S1x1024 .f32) (v28 : Vec Ideal S1x1x1024 .f32) (v32 : Vec Ideal S1x1024 .f32)
    (G0 U0 : FVec Ideal S1024x512 .bf16) (D0 : FVec Ideal S512x1024 .bf16) (G1 U1 : FVec Ideal S1024x512 .bf16) (D1 : FVec Ideal S512x1024 .bf16)
    (G2 U2 : FVec Ideal S1024x512 .bf16) (D2 : FVec Ideal S512x1024 .bf16) (G3 U3 : FVec Ideal S1024x512 .bf16) (D3 : FVec Ideal S512x1024 .bf16)
    (G4 U4 : FVec Ideal S1024x512 .bf16) (D4 : FVec Ideal S512x1024 .bf16) (G5 U5 : FVec Ideal S1024x256 .bf16) (D5 : FVec Ideal S256x1024 .bf16) (v : Vec Ideal S1x1024 .f32) :
    k0_pay8 (F := Ideal) X g (k0_pay5 X v27 v28 v32)
        (k0_pay7 (k0_pay5 X v27 v28 v32) (k0_pay6 X v27 v28 v32 G0 U0 D0) G1 (constant S512x512 .f32 0x00000000#32) U1 D1 G2 U2 D2 G3 U3 D3)
        G4 (constant S512x512 .f32 0x00000000#32) U4 D4 G5 U5 D5 v
      = mulf (normed (after X g (total (k0_pay5 X v27 v28 v32) G0 U0 D0 G1 U1 D1 G2 U2 D2 G3 U3 D3 G4 U4 D4 G5 U5 D5))) (broadcastTo S512x1024 v broadcasts_S1x1024_S512x1024) := rfl

theorem pay1_apply (X : FVec Ideal S512x1024 .f32) (r : Fin 512) (n : Fin 1024) : (k0_pay1 (F := Ideal) X (ix3 (0 : Fin 1) r n) : EReal) = X (ix2 r n) := by
  unfold k0_pay1
  pointwise

theorem pay3_apply (v : Vec Ideal S1x1x1024 .f32) (n : Fin 1024) : (k0_pay3 (F := Ideal) v (ix2 (0 : Fin 1) n) : EReal) = v (ix3 (0 : Fin 1) (0 : Fin 1) n) := by
  unfold k0_pay3
  pointwise

theorem pay4_apply (v : Vec Ideal S1x1x1024 .f32) (n : Fin 1024) : (k0_pay4 (F := Ideal) v (ix2 (0 : Fin 1) n) : EReal) = v (ix3 (0 : Fin 1) (0 : Fin 1) n) := by
  unfold k0_pay4
  pointwise

/-- The rows after the feed-forward, row by row. -/
theorem fed_apply (wi wd : ℕ → ℕ → EReal) (X : FVec Ideal S512x1024 .f32) (v6 v7 v8 : Vec Ideal S1x1x1024 .f32) (v32 : Vec Ideal S1x1024 .f32)
    {G0 U0 : FVec Ideal S1024x512 .bf16} {D0 : FVec Ideal S512x1024 .bf16} {G1 U1 : FVec Ideal S1024x512 .bf16} {D1 : FVec Ideal S512x1024 .bf16}
    {G2 U2 : FVec Ideal S1024x512 .bf16} {D2 : FVec Ideal S512x1024 .bf16} {G3 U3 : FVec Ideal S1024x512 .bf16} {D3 : FVec Ideal S512x1024 .bf16}
    {G4 U4 : FVec Ideal S1024x512 .bf16} {D4 : FVec Ideal S512x1024 .bf16} {G5 U5 : FVec Ideal S1024x256 .bf16} {D5 : FVec Ideal S256x1024 .bf16}
    (h0 : Cols 512 0 wi wd G0 U0 D0) (h1 : Cols 512 512 wi wd G1 U1 D1) (h2 : Cols 512 1024 wi wd G2 U2 D2) (h3 : Cols 512 1536 wi wd G3 U3 D3)
    (h4 : Cols 512 2048 wi wd G4 U4 D4) (h5 : Cols 256 2560 wi wd G5 U5 D5) (r : Fin 512) (n : Fin 1024) :
    (after X (k0_pay4 v8) (total (k0_pay5 X (k0_pay3 v6) v7 v32) G0 U0 D0 G1 U1 D1 G2 U2 D2 G3 U3 D3 G4 U4 D4 G5 U5 D5) (ix2 r n) : EReal)
      = ffn (fun i => X (ix2 r i)) (fun n => v8 (ix3 (0 : Fin 1) (0 : Fin 1) n))
          (hid (fun i => X (ix2 r i)) (fun n => v32 (ix2 (0 : Fin 1) n)) (fun n => v7 (ix3 (0 : Fin 1) (0 : Fin 1) n)) (fun n => v6 (ix3 (0 : Fin 1) (0 : Fin 1) n))) wi wd n := by
  have hh : (fun k : Fin 1024 => (k0_pay5 (F := Ideal) X (k0_pay3 v6) v7 v32 (ix2 r k) : EReal))
      = hid (fun i => X (ix2 r i)) (fun n => v32 (ix2 (0 : Fin 1) n)) (fun n => v7 (ix3 (0 : Fin 1) (0 : Fin 1) n)) (fun n => v6 (ix3 (0 : Fin 1) (0 : Fin 1) n)) :=
    funext fun k => (pay5_apply X (k0_pay3 v6) v7 v32 r k).trans (congrArg (fun s : Fin 1024 → EReal => hid _ _ _ s k) (funext fun n => pay3_apply v6 n))
  rw [after_apply, total_apply wi wd _ h0 h1 h2 h3 h4 h5, pay4_apply, hh]
  rfl

/-- The block from the rows after the mixers on. -/
theorem close_apply (wi wd : ℕ → ℕ → EReal) (X : FVec Ideal S512x1024 .f32) (v6 v7 v8 : Vec Ideal S1x1x1024 .f32) (v32 v : Vec Ideal S1x1024 .f32)
    {G0 U0 : FVec Ideal S1024x512 .bf16} {D0 : FVec Ideal S512x1024 .bf16} {G1 U1 : FVec Ideal S1024x512 .bf16} {D1 : FVec Ideal S512x1024 .bf16}
    {G2 U2 : FVec Ideal S1024x512 .bf16} {D2 : FVec Ideal S512x1024 .bf16} {G3 U3 : FVec Ideal S1024x512 .bf16} {D3 : FVec Ideal S512x1024 .bf16}
    {G4 U4 : FVec Ideal S1024x512 .bf16} {D4 : FVec Ideal S512x1024 .bf16} {G5 U5 : FVec Ideal S1024x256 .bf16} {D5 : FVec Ideal S256x1024 .bf16}
    (h0 : Cols 512 0 wi wd G0 U0 D0) (h1 : Cols 512 512 wi wd G1 U1 D1) (h2 : Cols 512 1024 wi wd G2 U2 D2) (h3 : Cols 512 1536 wi wd G3 U3 D3)
    (h4 : Cols 512 2048 wi wd G4 U4 D4) (h5 : Cols 256 2560 wi wd G5 U5 D5) (r : Fin 512) (n : Fin 1024) :
    (k0_pay1 (mulf (normed (after X (k0_pay4 v8) (total (k0_pay5 X (k0_pay3 v6) v7 v32) G0 U0 D0 G1 U1 D1 G2 U2 D2 G3 U3 D3 G4 U4 D4 G5 U5 D5)))
        (broadcastTo S512x1024 v broadcasts_S1x1024_S512x1024)) (ix3 (0 : Fin 1) r n) : EReal)
      = unit (ffn (fun i => X (ix2 r i)) (fun n => v8 (ix3 (0 : Fin 1) (0 : Fin 1) n))
          (hid (fun i => X (ix2 r i)) (fun n => v32 (ix2 (0 : Fin 1) n)) (fun n => v7 (ix3 (0 : Fin 1) (0 : Fin 1) n)) (fun n => v6 (ix3 (0 : Fin 1) (0 : Fin 1) n))) wi wd) n
        * v (ix2 (0 : Fin 1) n) := by
  rw [pay1_apply, last_apply]
  exact congrArg (fun f : Fin 1024 → EReal => unit f n * v (ix2 (0 : Fin 1) n)) (funext fun i => fed_apply wi wd X v6 v7 v8 v32 h0 h1 h2 h3 h4 h5 r i)

end Cert.Kernel2Ideal.Tail

end
-- ==== Proof.Tail.ArrayValue.lean ====
/-
  The tail's result array after the launch: each row is the tail of that row's arguments.
-/
module

public import proofs.«01_k».proof.Proof.Tail.Block
public import proofs.«01_k».proof.Proof.Gen.Kernel2Ideal.Value
public import Idealize.ShloMosaic.Lib.Pipeline.ValueKit

@[expose] public section

set_option maxRecDepth 16384

noncomputable section

namespace Cert.Kernel2Ideal.Tail

open Cert.Kernel2Ideal Cert.Kernel2Ideal.Gen Cert.Tail
open Idealize.ShloMosaic Idealize.ShloMosaic.TcCoe

/-- A loaded row of the conditioning block. -/
theorem ld_ada (x1 : Vec Ideal S1x9x1024 .f32) (k : Fin 9) (o : ℕ) (ho : o = k.val) (inb : ∀ a, (![0, o, 0] : Fin 3 → ℕ) a + S1x1x1024.size a ≤ S1x9x1024.size a) :
    (fun n : Fin 1024 => View.ld x1 (Rect.unit (s := S1x9x1024) ![0, o, 0] S1x1x1024.size inb) (ix3 (0 : Fin 1) (0 : Fin 1) n)) = fun n => x1 (ix3 (0 : Fin 1) k n) :=
  funext fun n => View.ld_unit_apply_of x1 _ _ _ _ _ fun a => match a with
    | ⟨0, _⟩ => rfl
    | ⟨1, _⟩ => ho.symm
    | ⟨2, _⟩ => (Nat.zero_add _).symm

/-- The loaded blocks of the feed-forward's weights are its columns from `c` on. -/
theorem cols {W c : ℕ} (hc : c + W ≤ 2816) (x10 : Vec Ideal S1024x5632 .bf16) (x11 : Vec Ideal S2816x1024 .bf16) (o : ℕ) (ho : o = 2816 + c) (ig) (iu) (id) :
    Cols W c (at2 (a := 1024) (b := 5632) x10) (at2 (a := 2816) (b := 1024) x11)
      (View.ld x10 (Rect.unit (s := S1024x5632) ![0, c] (⟨2, ![1024, W]⟩ : Shape).size ig)) (View.ld x10 (Rect.unit (s := S1024x5632) ![0, o] (⟨2, ![1024, W]⟩ : Shape).size iu))
      (View.ld x11 (Rect.unit (s := S2816x1024) ![c, 0] (⟨2, ![W, 1024]⟩ : Shape).size id)) where
  gate k j := (at2_idx (a := 1024) (b := 5632) x10 _ _ _ (by show _ = 0 + 1 * k.val; omega) (by show _ = c + 1 * j.val; omega)).symm
  up k j := (at2_idx (a := 1024) (b := 5632) x10 _ _ _ (by show _ = 0 + 1 * k.val; omega) (by show _ = o + 1 * j.val; omega)).symm
  down j n := (at2_idx (a := 2816) (b := 1024) x11 _ _ _ (by show _ = c + 1 * j.val; omega) (by show _ = 0 + 1 * n.val; omega)).symm

/-- The stored block as the parts' composition. -/
theorem out_eq (x0 : Vec Ideal S1x512x1024 .f32) (x1 : Vec Ideal S1x9x1024 .f32) (x2 x3 : Vec Ideal S1x512x512 .bf16) (x4 x5 : Vec Ideal S1x512x1024 .bf16) (x6 x7 : Vec Ideal S512x1024 .bf16)
    (x8 : Vec Ideal S1024x1024 .bf16) (x9 : Vec Ideal S1x1024 .f32) (x10 : Vec Ideal S1024x5632 .bf16) (x11 : Vec Ideal S2816x1024 .bf16) (x12 : Vec Ideal S1x1024 .f32) :
    out0_13 x0 x1 x2 x3 x4 x5 x6 x7 x8 x9 x10 x11 x12
      = k0_pay1 (mulf (normed (after (k0_pay2 x2 x6 x3 x7 x4 x5 x0 (View.ld x1 r0_3) x8) (k0_pay4 (View.ld x1 r0_7))
          (total (k0_pay5 (k0_pay2 x2 x6 x3 x7 x4 x5 x0 (View.ld x1 r0_3) x8) (k0_pay3 (View.ld x1 r0_5)) (View.ld x1 r0_6) x9)
            (View.ld x10 r0_9) (View.ld x10 r0_10) (View.ld x11 r0_11) (View.ld x10 r0_12) (View.ld x10 r0_13) (View.ld x11 r0_14)
            (View.ld x10 r0_15) (View.ld x10 r0_16) (View.ld x11 r0_17) (View.ld x10 r0_18) (View.ld x10 r0_19) (View.ld x11 r0_20)
            (View.ld x10 r0_21) (View.ld x10 r0_22) (View.ld x11 r0_23) (View.ld x10 r0_24) (View.ld x10 r0_25) (View.ld x11 r0_26))))
          (broadcastTo S512x1024 x12 broadcasts_S1x1024_S512x1024)) := by
  unfold out0_13 k0_pay11 k0_pay10 k0_pay9
  rw [View.canon_cons_unit_lit _ _ _ (by decide), View.ld_unit_lit _ x2 (by decide), View.ld_unit_lit _ x6 (by decide), View.ld_unit_lit _ x3 (by decide),
    View.ld_unit_lit _ x7 (by decide), View.ld_unit_lit _ x4 (by decide), View.ld_unit_lit _ x5 (by decide), View.ld_unit_lit _ x0 (by decide),
    View.ld_unit_lit _ x8 (by decide), View.ld_unit_lit _ x9 (by decide), View.ld_unit_lit _ x12 (by decide), pay8_eq]

/-- The stored block, row by row. -/
theorem out_apply (x0 : Vec Ideal S1x512x1024 .f32) (x1 : Vec Ideal S1x9x1024 .f32) (x2 x3 : Vec Ideal S1x512x512 .bf16) (x4 x5 : Vec Ideal S1x512x1024 .bf16) (x6 x7 : Vec Ideal S512x1024 .bf16)
    (x8 : Vec Ideal S1024x1024 .bf16) (x9 : Vec Ideal S1x1024 .f32) (x10 : Vec Ideal S1024x5632 .bf16) (x11 : Vec Ideal S2816x1024 .bf16) (x12 : Vec Ideal S1x1024 .f32) (r : Fin 512) (n : Fin 1024) :
    (out0_13 x0 x1 x2 x3 x4 x5 x6 x7 x8 x9 x10 x11 x12 (ix3 (0 : Fin 1) r n) : EReal) = row (B := 1) (S := 512) x0 x1 x2 x3 x4 x5 x6 x7 x8 x9 x10 x11 x12 0 r n := by
  rw [out_eq]
  refine (close_apply (at2 (a := 1024) (b := 5632) x10) (at2 (a := 2816) (b := 1024) x11) _ _ _ _ _ _ (cols (by decide) x10 x11 2816 rfl _ _ _) (cols (by decide) x10 x11 3328 rfl _ _ _)
    (cols (by decide) x10 x11 3840 rfl _ _ _) (cols (by decide) x10 x11 4352 rfl _ _ _) (cols (by decide) x10 x11 4864 rfl _ _ _) (cols (by decide) x10 x11 5376 rfl _ _ _) r n).trans ?_
  have hX : (fun i : Fin 1024 => (k0_pay2 (F := Ideal) x2 x6 x3 x7 x4 x5 x0 (View.ld x1 r0_3) x8 (ix2 r i) : EReal))
      = resid (fun n => x0 (ix3 (0 : Fin 1) r n)) (fun n => x1 (ix3 (0 : Fin 1) (5 : Fin 9) n))
          (mix (fun d => x2 (ix3 (0 : Fin 1) r d)) (fun d => x3 (ix3 (0 : Fin 1) r d)) (fun n => x4 (ix3 (0 : Fin 1) r n)) (fun n => x5 (ix3 (0 : Fin 1) r n))
            (fun d n => x6 (ix2 d n)) (fun d n => x7 (ix2 d n))) (fun j n => x8 (ix2 j n)) := funext fun i =>
    (pay2_apply _ _ _ _ _ _ _ _ _ r i).trans (congrArg (fun g : Fin 1024 → EReal => resid _ g _ _ i) (ld_ada x1 5 5 rfl _))
  unfold row tail
  rw [hX, ld_ada x1 6 6 rfl, ld_ada x1 7 7 rfl, ld_ada x1 8 8 rfl]

variable (m : (ℓ : Loc nD τ sig) → Buf (Elt Ideal) ℓ) (c : Dev nD)

/-- The windows' block indices: the batch and the block of rows, the batch, or the whole array. -/
theorem index_rows : ∀ t : Fin cfg0.N,
    (win0_0.index t (0 : Fin 3) = (grid0.coords t 0).val ∧ win0_0.index t (1 : Fin 3) = (grid0.coords t 1).val ∧ win0_0.index t (2 : Fin 3) = 0)
    ∧ (win0_1.index t (0 : Fin 3) = (grid0.coords t 0).val ∧ win0_1.index t (1 : Fin 3) = 0 ∧ win0_1.index t (2 : Fin 3) = 0)
    ∧ (win0_2.index t (0 : Fin 3) = (grid0.coords t 0).val ∧ win0_2.index t (1 : Fin 3) = (grid0.coords t 1).val ∧ win0_2.index t (2 : Fin 3) = 0)
    ∧ (win0_3.index t (0 : Fin 3) = (grid0.coords t 0).val ∧ win0_3.index t (1 : Fin 3) = (grid0.coords t 1).val ∧ win0_3.index t (2 : Fin 3) = 0)
    ∧ (win0_4.index t (0 : Fin 3) = (grid0.coords t 0).val ∧ win0_4.index t (1 : Fin 3) = (grid0.coords t 1).val ∧ win0_4.index t (2 : Fin 3) = 0)
    ∧ (win0_5.index t (0 : Fin 3) = (grid0.coords t 0).val ∧ win0_5.index t (1 : Fin 3) = (grid0.coords t 1).val ∧ win0_5.index t (2 : Fin 3) = 0)
    ∧ (win0_13.index t (0 : Fin 3) = (grid0.coords t 0).val ∧ win0_13.index t (1 : Fin 3) = (grid0.coords t 1).val ∧ win0_13.index t (2 : Fin 3) = 0) :=
  (by decide +kernel : ∀ t : Fin grid0.N, _)
theorem index_whole : ∀ t : Fin cfg0.N,
    (win0_6.index t (0 : Fin 2) = 0 ∧ win0_6.index t (1 : Fin 2) = 0) ∧ (win0_7.index t (0 : Fin 2) = 0 ∧ win0_7.index t (1 : Fin 2) = 0)
    ∧ (win0_8.index t (0 : Fin 2) = 0 ∧ win0_8.index t (1 : Fin 2) = 0) ∧ (win0_9.index t (0 : Fin 2) = 0 ∧ win0_9.index t (1 : Fin 2) = 0)
    ∧ (win0_10.index t (0 : Fin 2) = 0 ∧ win0_10.index t (1 : Fin 2) = 0) ∧ (win0_11.index t (0 : Fin 2) = 0 ∧ win0_11.index t (1 : Fin 2) = 0)
    ∧ (win0_12.index t (0 : Fin 2) = 0 ∧ win0_12.index t (1 : Fin 2) = 0) :=
  (by decide +kernel : ∀ t : Fin grid0.N, _)

/-- A grid point's batch. -/
def batch (t : Fin cfg0.N) : Fin 8 := ⟨(grid0.coords t 0).val, (grid0.coords t 0).isLt⟩

/-- The row of the array that row `r` of a grid point's block is. -/
def line (t : Fin cfg0.N) (r : Fin 512) : Fin 4096 := lineOf ⟨(grid0.coords t 1).val, (grid0.coords t 1).isLt⟩ r

theorem blk0 (t : Fin cfg0.N) (r : Fin 512) (n : Fin 1024) : iblk m c 0 t (ix3 (0 : Fin 1) r n) = m ((c : Thread nD τ).loc main_arg0) (ix3 (batch t) (line t r) n) :=
  congrArg (m ((c : Thread nD τ).loc main_arg0)) (at_rows (batch t) ⟨(grid0.coords t 1).val, (grid0.coords t 1).isLt⟩ r n (index_rows t).1 rfl rfl rfl)
theorem blk2 (t : Fin cfg0.N) (r : Fin 512) (n : Fin 512) : iblk m c 2 t (ix3 (0 : Fin 1) r n) = m ((c : Thread nD τ).loc main_arg2) (ix3 (batch t) (line t r) n) :=
  congrArg (m ((c : Thread nD τ).loc main_arg2)) (at_rows (batch t) ⟨(grid0.coords t 1).val, (grid0.coords t 1).isLt⟩ r n (index_rows t).2.2.1 rfl rfl rfl)
theorem blk3 (t : Fin cfg0.N) (r : Fin 512) (n : Fin 512) : iblk m c 3 t (ix3 (0 : Fin 1) r n) = m ((c : Thread nD τ).loc main_arg3) (ix3 (batch t) (line t r) n) :=
  congrArg (m ((c : Thread nD τ).loc main_arg3)) (at_rows (batch t) ⟨(grid0.coords t 1).val, (grid0.coords t 1).isLt⟩ r n (index_rows t).2.2.2.1 rfl rfl rfl)
theorem blk4 (t : Fin cfg0.N) (r : Fin 512) (n : Fin 1024) : iblk m c 4 t (ix3 (0 : Fin 1) r n) = m ((c : Thread nD τ).loc main_arg4) (ix3 (batch t) (line t r) n) :=
  congrArg (m ((c : Thread nD τ).loc main_arg4)) (at_rows (batch t) ⟨(grid0.coords t 1).val, (grid0.coords t 1).isLt⟩ r n (index_rows t).2.2.2.2.1 rfl rfl rfl)
theorem blk5 (t : Fin cfg0.N) (r : Fin 512) (n : Fin 1024) : iblk m c 5 t (ix3 (0 : Fin 1) r n) = m ((c : Thread nD τ).loc main_arg5) (ix3 (batch t) (line t r) n) :=
  congrArg (m ((c : Thread nD τ).loc main_arg5)) (at_rows (batch t) ⟨(grid0.coords t 1).val, (grid0.coords t 1).isLt⟩ r n (index_rows t).2.2.2.2.2.1 rfl rfl rfl)
theorem blk1 (t : Fin cfg0.N) (k : Fin 9) (n : Fin 1024) : iblk m c 1 t (ix3 (0 : Fin 1) k n) = m ((c : Thread nD τ).loc main_arg1) (ix3 (batch t) k n) :=
  congrArg (m ((c : Thread nD τ).loc main_arg1)) (at_cond (batch t) k n (index_rows t).2.1 rfl rfl rfl)
theorem blk6 (t : Fin cfg0.N) : iblk m c 6 t = m ((c : Thread nD τ).loc main_arg6) :=
  funext fun _ => congrArg (m ((c : Thread nD τ).loc main_arg6)) (at_whole (index_whole t).1 rfl rfl)
theorem blk7 (t : Fin cfg0.N) : iblk m c 7 t = m ((c : Thread nD τ).loc main_arg7) :=
  funext fun _ => congrArg (m ((c : Thread nD τ).loc main_arg7)) (at_whole (index_whole t).2.1 rfl rfl)
theorem blk8 (t : Fin cfg0.N) : iblk m c 8 t = m ((c : Thread nD τ).loc main_arg8) :=
  funext fun _ => congrArg (m ((c : Thread nD τ).loc main_arg8)) (at_whole (index_whole t).2.2.1 rfl rfl)
theorem blk9 (t : Fin cfg0.N) : iblk m c 9 t = m ((c : Thread nD τ).loc main_arg9) :=
  funext fun _ => congrArg (m ((c : Thread nD τ).loc main_arg9)) (at_whole (index_whole t).2.2.2.1 rfl rfl)
theorem blk10 (t : Fin cfg0.N) : iblk m c 10 t = m ((c : Thread nD τ).loc main_arg10) :=
  funext fun _ => congrArg (m ((c : Thread nD τ).loc main_arg10)) (at_whole (index_whole t).2.2.2.2.1 rfl rfl)
theorem blk11 (t : Fin cfg0.N) : iblk m c 11 t = m ((c : Thread nD τ).loc main_arg11) :=
  funext fun _ => congrArg (m ((c : Thread nD τ).loc main_arg11)) (at_whole (index_whole t).2.2.2.2.2.1 rfl rfl)
theorem blk12 (t : Fin cfg0.N) : iblk m c 12 t = m ((c : Thread nD τ).loc main_arg12) :=
  funext fun _ => congrArg (m ((c : Thread nD τ).loc main_arg12)) (at_whole (index_whole t).2.2.2.2.2.2 rfl rfl)

/-- A row of a grid point's blocks is a row of the arrays. -/
theorem row_blk (t : Fin cfg0.N) (r : Fin 512) (n : Fin 1024) :
    row (B := 1) (S := 512) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) 0 r n
      = row (B := 8) (S := 4096) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (batch t) (line t r) n := by
  have e0 : (fun n : Fin 1024 => iblk m c 0 t (ix3 (0 : Fin 1) r n)) = _ := funext fun n => blk0 m c t r n
  have e1 : (fun (k : Fin 9) (n : Fin 1024) => iblk m c 1 t (ix3 (0 : Fin 1) k n)) = _ := funext fun k => funext fun n => blk1 m c t k n
  have e2 : (fun n : Fin 512 => iblk m c 2 t (ix3 (0 : Fin 1) r n)) = _ := funext fun n => blk2 m c t r n
  have e3 : (fun n : Fin 512 => iblk m c 3 t (ix3 (0 : Fin 1) r n)) = _ := funext fun n => blk3 m c t r n
  have e4 : (fun n : Fin 1024 => iblk m c 4 t (ix3 (0 : Fin 1) r n)) = _ := funext fun n => blk4 m c t r n
  have e5 : (fun n : Fin 1024 => iblk m c 5 t (ix3 (0 : Fin 1) r n)) = _ := funext fun n => blk5 m c t r n
  unfold row
  rw [blk6, blk7, blk8, blk9, blk10, blk11, blk12, e0, e1, e2, e3, e4, e5]

/-- The result array after the launch. -/
theorem final : (dats m 0 c).arrAt 13 cfg0.N = fun y : S8x4096x1024.Idx => row (B := 8) (S := 4096) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (y 0) (y 1) (y 2) := by
  refine (dats m 0 c).arrAt_eq_of_covers 13 _ (by decide +kernel) fun t hf y => ?_
  obtain ⟨r, n, rfl⟩ : ∃ (r : Fin 512) (n : Fin 1024), y = ix3 (0 : Fin 1) r n :=
    ⟨y 1, y 2, ext3 (n0 := 1) (n1 := 512) (n2 := 1024) (Nat.lt_one_iff.1 (y 0).isLt) rfl rfl⟩
  have e : ((cfg0.win 13).blk t).view.emb (ix3 (0 : Fin 1) r n) = ix3 (batch t) (line t r) n :=
    at_rows (batch t) ⟨(grid0.coords t 1).val, (grid0.coords t 1).isLt⟩ r n (index_rows t).2.2.2.2.2.2 rfl rfl rfl
  refine Eq.trans ?_ (congrArg (fun z : S8x4096x1024.Idx => row (B := 8) (S := 4096) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (z 0) (z 1) (z 2)) e.symm)
  refine Eq.trans ?_ (row_blk m c t r n)
  exact (congrFun (after0_13 m c t) _).trans (out_apply _ _ _ _ _ _ _ _ _ _ _ _ _ r n)

end Cert.Kernel2Ideal.Tail

end
-- ==== Proof.Tail.RefValue.lean ====
/-
  The reference's result for the tail at an index: the tail of that row.
-/
module

public import proofs.«01_k».proof.Proof.Tail.Row
public import proofs.«01_k».proof.Proof.Gen.Reference2Ideal.Run

@[expose] public section

set_option maxRecDepth 16384

noncomputable section

namespace Cert.Reference2Ideal.Tail

open Cert.Reference2Ideal Cert.Reference2Ideal.Gen Cert.Tail
open Cert.Reference2Ideal.Facts
open Idealize.ShloMosaic Idealize.ShloMosaic.TcCoe

/-- A row of the conditioning array for every batch. -/
def cond (k : ℕ) (h : S8x9x1024.Slices ![0, k, 0] S8x1x1024) (ada : FVec Ideal S8x9x1024 .f32) : FVec Ideal S8x1x1024 .f32 :=
  broadcastInDim S8x1x1024 ![0, 2] bcast_S8x1024_S8x1x1024_0_2 (shapeCast _ (extractStridedSlice S8x1x1024 ![0, k, 0] ada h) shapeCasts_S8x1x1024_S8x1024)

/-- One number per batch and column, for every row. -/
def every (v : FVec Ideal S8x1x1024 .f32) : FVec Ideal S8x4096x1024 .f32 :=
  broadcastInDim S8x4096x1024 ![0, 1, 2] bcast_S8x1x1024_S8x4096x1024_0_1_2 v

/-- A row of weights, for every batch and row. -/
def spread (g : FVec Ideal S1x1024 .f32) : FVec Ideal S8x4096x1024 .f32 :=
  broadcastInDim S8x4096x1024 ![0, 1, 2] bcast_S1x1x1024_S8x4096x1024_0_1_2 (broadcastInDim S1x1x1024 ![1, 2] bcast_S1x1024_S1x1x1024_1_2 g)

/-- A mixer's output through its projection and gate. -/
def gated (a : FVec Ideal S8x4096x512 .bf16) (g : FVec Ideal S8x4096x1024 .bf16) (w : FVec Ideal S512x1024 .bf16) : FVec Ideal S8x4096x1024 .f32 :=
  mulf (extf .f32 g bitsLt_bf16_f32) (Host.dotGeneral dot_S8x4096x512_S512x1024_S8x4096x1024_2_0_01_1_n_n none (extf .f32 a bitsLt_bf16_f32) (extf .f32 w bitsLt_bf16_f32))

/-- The rows after the mixers. -/
def mixed (x : FVec Ideal S8x4096x1024 .f32) (g : FVec Ideal S8x1x1024 .f32) (V : FVec Ideal S8x4096x1024 .f32) (wo : FVec Ideal S1024x1024 .bf16) : FVec Ideal S8x4096x1024 .f32 :=
  addf x (mulf (every g) (Host.dotGeneral dot_S8x4096x1024_S1024x1024_S8x4096x1024_2_0_01_1_n_n none V (extf .f32 wo bitsLt_bf16_f32)))

/-- Every row over its root mean square. -/
def normed (X : FVec Ideal S8x4096x1024 .f32) : FVec Ideal S8x4096x1024 .f32 :=
  mulf X (broadcastInDim S8x4096x1024 ![0, 1, 2] bcast_S8x4096x1_S8x4096x1024_0_1_2 (Host.rsqrt (addf (Host.divf
    (broadcastInDim S8x4096x1 ![0, 1] bcast_S8x4096_S8x4096x1_0_1 (Host.reduceAdd (mulf X X) (constant S_ .f32 0x00000000#32) reducesTo_S8x4096x1024_S8x4096_d2 h_S_))
    (broadcastInDim S8x4096x1 ![] bcast_S_S8x4096x1 (constant S_ .f32 0x44800000#32))) (broadcastInDim S8x4096x1 ![] bcast_S_S8x4096x1 (constant S_ .f32 0x358637BD#32)))))

/-- The feed-forward's input. -/
def hidden (N : FVec Ideal S8x4096x1024 .f32) (nm : FVec Ideal S1x1024 .f32) (sc sh : FVec Ideal S8x1x1024 .f32) : FVec Ideal S8x4096x1024 .f32 :=
  addf (mulf (mulf N (spread nm)) (every (addf (broadcastInDim S8x1x1024 ![] bcast_S_S8x1x1024 (constant S_ .f32 0x3F800000#32)) sc))) (every sh)

/-- The feed-forward's first product. -/
def wide (H : FVec Ideal S8x4096x1024 .f32) (wi : FVec Ideal S1024x5632 .bf16) : FVec Ideal S8x4096x5632 .f32 :=
  Host.dotGeneral dot_S8x4096x1024_S1024x5632_S8x4096x5632_2_0_01_1_n_n none H (extf .f32 wi bitsLt_bf16_f32)

/-- The feed-forward's activations. -/
def acts (Y : FVec Ideal S8x4096x5632 .f32) : FVec Ideal S8x4096x2816 .f32 :=
  mulf (mulf (extractStridedSlice S8x4096x2816 ![0, 0, 0] Y slices_S8x4096x5632_S8x4096x2816_0_0_0)
    (Host.divf (broadcastInDim S8x4096x2816 ![] bcast_S_S8x4096x2816 (constant S_ .f32 0x3F800000#32)) (addf (broadcastInDim S8x4096x2816 ![] bcast_S_S8x4096x2816 (constant S_ .f32 0x3F800000#32))
      (Host.exp (Host.negf (extractStridedSlice S8x4096x2816 ![0, 0, 0] Y slices_S8x4096x5632_S8x4096x2816_0_0_0))))))
    (extractStridedSlice S8x4096x2816 ![0, 0, 2816] Y slices_S8x4096x5632_S8x4096x2816_0_0_2816)

/-- The rows after the feed-forward. -/
def fed (X : FVec Ideal S8x4096x1024 .f32) (g : FVec Ideal S8x1x1024 .f32) (A : FVec Ideal S8x4096x2816 .f32) (wd : FVec Ideal S2816x1024 .bf16) : FVec Ideal S8x4096x1024 .f32 :=
  addf X (mulf (every (mulf (broadcastInDim S8x1x1024 ![] bcast_S_S8x1x1024 (constant S_ .f32 0x3F000000#32)) g))
    (Host.dotGeneral dot_S8x4096x2816_S2816x1024_S8x4096x1024_2_0_01_1_n_n none A (extf .f32 wd bitsLt_bf16_f32)))

/-- The feed-forward with its shift, scale and gate from rows `kh`, `ks` and `kg` of the conditioning array. -/
def step (kh ks kg : Fin 9) (h0 : S8x9x1024.Slices ![0, kh.val, 0] S8x1x1024) (h1 : S8x9x1024.Slices ![0, ks.val, 0] S8x1x1024) (h2 : S8x9x1024.Slices ![0, kg.val, 0] S8x1x1024)
    (X : FVec Ideal S8x4096x1024 .f32) (ada : FVec Ideal S8x9x1024 .f32) (nm : FVec Ideal S1x1024 .f32) (wi : FVec Ideal S1024x5632 .bf16) (wd : FVec Ideal S2816x1024 .bf16) : FVec Ideal S8x4096x1024 .f32 :=
  fed X (cond kg.val h2 ada) (acts (wide (hidden (normed X) nm (cond ks.val h1 ada) (cond kh.val h0 ada)) wi)) wd

/-- The result from the rows after the mixers. -/
def closing (X : FVec Ideal S8x4096x1024 .f32) (ada : FVec Ideal S8x9x1024 .f32) (nm : FVec Ideal S1x1024 .f32) (wi : FVec Ideal S1024x5632 .bf16) (wd : FVec Ideal S2816x1024 .bf16)
    (fn : FVec Ideal S1x1024 .f32) : FVec Ideal S8x4096x1024 .f32 :=
  mulf (normed (step 6 7 8 slices_S8x9x1024_S8x1x1024_0_6_0 slices_S8x9x1024_S8x1x1024_0_7_0 slices_S8x9x1024_S8x1x1024_0_8_0 X ada nm wi wd)) (spread fn)

theorem cond_apply (k : Fin 9) (h : S8x9x1024.Slices ![0, k.val, 0] S8x1x1024) (ada : FVec Ideal S8x9x1024 .f32) (b : Fin 8) (n : Fin 1024) :
    (cond k.val h ada (ix3 b (0 : Fin 1) n) : EReal) = ada (ix3 b k n) := by
  unfold cond
  pointwise

theorem every_apply (v : FVec Ideal S8x1x1024 .f32) (b : Fin 8) (s : Fin 4096) (n : Fin 1024) : (every v (ix3 b s n) : EReal) = v (ix3 b (0 : Fin 1) n) := by
  unfold every
  pointwise

theorem spread_apply (g : FVec Ideal S1x1024 .f32) (b : Fin 8) (s : Fin 4096) (n : Fin 1024) : (spread g (ix3 b s n) : EReal) = g (ix2 (0 : Fin 1) n) := by
  unfold spread
  pointwise

theorem gated_apply (a : FVec Ideal S8x4096x512 .bf16) (g : FVec Ideal S8x4096x1024 .bf16) (w : FVec Ideal S512x1024 .bf16) (b : Fin 8) (s : Fin 4096) (n : Fin 1024) :
    (gated a g w (ix3 b s n) : EReal) = g (ix3 b s n) * ∑ d : Fin 512, a (ix3 b s d) * w (ix2 d n) := by
  unfold gated
  pointwise

theorem mixed_apply (x : FVec Ideal S8x4096x1024 .f32) (g : FVec Ideal S8x1x1024 .f32) (V : FVec Ideal S8x4096x1024 .f32) (wo : FVec Ideal S1024x1024 .bf16) (b : Fin 8) (s : Fin 4096) (n : Fin 1024) :
    (mixed x g V wo (ix3 b s n) : EReal) = resid (fun n => x (ix3 b s n)) (fun n => g (ix3 b (0 : Fin 1) n)) (fun j => V (ix3 b s j)) (fun j n => wo (ix2 j n)) n := by
  unfold mixed resid
  pointwise
  rw [every_apply]

theorem normed_apply (X : FVec Ideal S8x4096x1024 .f32) (b : Fin 8) (s : Fin 4096) (n : Fin 1024) :
    (normed X (ix3 b s n) : EReal) = unit (fun i => X (ix3 b s i)) n := by
  unfold normed unit
  pointwise

theorem hidden_apply (X : FVec Ideal S8x4096x1024 .f32) (nm : FVec Ideal S1x1024 .f32) (sc sh : FVec Ideal S8x1x1024 .f32) (b : Fin 8) (s : Fin 4096) (n : Fin 1024) :
    (hidden (normed X) nm sc sh (ix3 b s n) : EReal)
      = hid (fun i => X (ix3 b s i)) (fun n => nm (ix2 (0 : Fin 1) n)) (fun n => sc (ix3 b (0 : Fin 1) n)) (fun n => sh (ix3 b (0 : Fin 1) n)) n := by
  unfold hidden hid
  pointwise
  rw [normed_apply, spread_apply, every_apply, every_apply, ← mul_assoc]
  pointwise

theorem wide_apply (H : FVec Ideal S8x4096x1024 .f32) (wi : FVec Ideal S1024x5632 .bf16) (b : Fin 8) (s : Fin 4096) (j : Fin 5632) :
    (wide H wi (ix3 b s j) : EReal) = ∑ k : Fin 1024, H (ix3 b s k) * at2 (a := 1024) (b := 5632) wi k.val j.val := by
  unfold wide
  pointwise
  exact Finset.sum_congr rfl fun k _ => congrArg (fun z : EReal => _ * z) (at2_idx (a := 1024) (b := 5632) wi (ix2 k j) _ _ rfl rfl).symm

theorem acts_apply (Y : FVec Ideal S8x4096x5632 .f32) (b : Fin 8) (s : Fin 4096) (j : Fin 2816) :
    (acts Y (ix3 b s j) : EReal) = Y (ix3 b s (⟨j.val, by have := j.isLt; omega⟩ : Fin 5632)) * Ideal.logistic (Y (ix3 b s (⟨j.val, by have := j.isLt; omega⟩ : Fin 5632)))
      * Y (ix3 b s (⟨2816 + j.val, by have := j.isLt; omega⟩ : Fin 5632)) := by
  unfold acts
  pointwise
  rfl

theorem fed_apply (X : FVec Ideal S8x4096x1024 .f32) (g : FVec Ideal S8x1x1024 .f32) (A : FVec Ideal S8x4096x2816 .f32) (wd : FVec Ideal S2816x1024 .bf16) (b : Fin 8) (s : Fin 4096) (n : Fin 1024) :
    (fed X g A wd (ix3 b s n) : EReal)
      = X (ix3 b s n) + (Ideal.ofBits .f32 0x3F000000#32 * g (ix3 b (0 : Fin 1) n)) * ∑ j : Fin 2816, A (ix3 b s j) * wd (ix2 j n) := by
  unfold fed
  pointwise
  rw [every_apply]
  pointwise

/-- The feed-forward, row by row. -/
theorem step_apply (kh ks kg : Fin 9) (h0 : S8x9x1024.Slices ![0, kh.val, 0] S8x1x1024) (h1 : S8x9x1024.Slices ![0, ks.val, 0] S8x1x1024) (h2 : S8x9x1024.Slices ![0, kg.val, 0] S8x1x1024)
    (X : FVec Ideal S8x4096x1024 .f32) (ada : FVec Ideal S8x9x1024 .f32) (nm : FVec Ideal S1x1024 .f32) (wi : FVec Ideal S1024x5632 .bf16) (wd : FVec Ideal S2816x1024 .bf16)
    (b : Fin 8) (s : Fin 4096) (i : Fin 1024) :
    (step kh ks kg h0 h1 h2 X ada nm wi wd (ix3 b s i) : EReal)
      = ffn (fun i => X (ix3 b s i)) (fun n => ada (ix3 b kg n)) (hid (fun i => X (ix3 b s i)) (fun n => nm (ix2 (0 : Fin 1) n)) (fun n => ada (ix3 b ks n))
          (fun n => ada (ix3 b kh n))) (at2 (a := 1024) (b := 5632) wi) (at2 (a := 2816) (b := 1024) wd) i := by
  have hh : (fun k : Fin 1024 => (hidden (normed X) nm (cond ks.val h1 ada) (cond kh.val h0 ada) (ix3 b s k) : EReal))
      = hid (fun i => X (ix3 b s i)) (fun n => nm (ix2 (0 : Fin 1) n)) (fun n => ada (ix3 b ks n)) (fun n => ada (ix3 b kh n)) :=
    funext fun k => (hidden_apply X nm _ _ b s k).trans (congrArg₂ (fun u v : Fin 1024 → EReal => hid _ _ u v k)
      (funext fun n => cond_apply ks h1 ada b n) (funext fun n => cond_apply kh h0 ada b n))
  unfold step
  generalize hidden (normed X) nm (cond ks.val h1 ada) (cond kh.val h0 ada) = H at hh ⊢
  rw [← hh, fed_apply]
  unfold ffn
  refine congrArg₂ (fun g t : EReal => X (ix3 b s i) + (Ideal.ofBits .f32 0x3F000000#32 * g) * t) (cond_apply kg h2 ada b i) (Finset.sum_congr rfl fun j _ => ?_)
  refine congrArg₂ (fun u v : EReal => u * v) ?_ (at2_idx (a := 2816) (b := 1024) wd (ix2 j i) _ _ rfl rfl).symm
  rw [acts_apply, wide_apply, wide_apply]
  rfl

/-- The result from the rows after the mixers, row by row. -/
theorem closing_apply (X : FVec Ideal S8x4096x1024 .f32) (ada : FVec Ideal S8x9x1024 .f32) (nm : FVec Ideal S1x1024 .f32) (wi : FVec Ideal S1024x5632 .bf16) (wd : FVec Ideal S2816x1024 .bf16)
    (fn : FVec Ideal S1x1024 .f32) (b : Fin 8) (s : Fin 4096) (n : Fin 1024) :
    (closing X ada nm wi wd fn (ix3 b s n) : EReal)
      = unit (ffn (fun i => X (ix3 b s i)) (fun n => ada (ix3 b (8 : Fin 9) n)) (hid (fun i => X (ix3 b s i)) (fun n => nm (ix2 (0 : Fin 1) n)) (fun n => ada (ix3 b (7 : Fin 9) n))
          (fun n => ada (ix3 b (6 : Fin 9) n))) (at2 (a := 1024) (b := 5632) wi) (at2 (a := 2816) (b := 1024) wd)) n * fn (ix2 (0 : Fin 1) n) := by
  unfold closing
  refine (congrArg₂ (fun u v : EReal => u * v) (normed_apply _ b s n) (spread_apply fn b s n)).trans ?_
  exact congrArg (fun f : Fin 1024 → EReal => unit f n * fn (ix2 (0 : Fin 1) n)) (funext fun i => step_apply 6 7 8 _ _ _ X ada nm wi wd b s i)

/-- The result's row `s` of batch `b`. -/
theorem value_apply (x : FVec Ideal S8x4096x1024 .f32) (ada : FVec Ideal S8x9x1024 .f32) (aa ab : FVec Ideal S8x4096x512 .bf16) (ga gb : FVec Ideal S8x4096x1024 .bf16)
    (wa wb : FVec Ideal S512x1024 .bf16) (wo : FVec Ideal S1024x1024 .bf16) (nm : FVec Ideal S1x1024 .f32) (wi : FVec Ideal S1024x5632 .bf16) (wd : FVec Ideal S2816x1024 .bf16)
    (fn : FVec Ideal S1x1024 .f32) (b : Fin 8) (s : Fin 4096) (n : Fin 1024) :
    (closing (mixed x (cond 5 slices_S8x9x1024_S8x1x1024_0_5_0 ada) (addf (gated aa ga wa) (gated ab gb wb)) wo) ada nm wi wd fn (ix3 b s n) : EReal)
      = row (B := 8) (S := 4096) x ada aa ab ga gb wa wb wo nm wi wd fn b s n := by
  have hX : (fun i : Fin 1024 => (mixed x (cond 5 slices_S8x9x1024_S8x1x1024_0_5_0 ada) (addf (gated aa ga wa) (gated ab gb wb)) wo (ix3 b s i) : EReal))
      = resid (fun n => x (ix3 b s n)) (fun n => ada (ix3 b (5 : Fin 9) n))
          (mix (fun d => aa (ix3 b s d)) (fun d => ab (ix3 b s d)) (fun n => ga (ix3 b s n)) (fun n => gb (ix3 b s n)) (fun d n => wa (ix2 d n)) (fun d n => wb (ix2 d n))) (fun j n => wo (ix2 j n)) :=
    funext fun i => (mixed_apply _ _ _ _ b s i).trans (congrArg₂ (fun g v : Fin 1024 → EReal => resid _ g v _ i)
      (funext fun n => cond_apply 5 slices_S8x9x1024_S8x1x1024_0_5_0 ada b n)
      (funext fun j => congrArg₂ (fun u v : EReal => u + v) (gated_apply aa ga wa b s j) (gated_apply ab gb wb b s j)))
  rw [closing_apply, hX]
  rfl

variable (m : (ℓ : Loc nD τ sig) → Buf (Elt Ideal) ℓ) (c : Dev nD)

theorem res_eq : Value.res_main_v72 m c
    = closing (mixed (m ((c.tc : Thread nD τ).loc main_arg0)) (cond 5 slices_S8x9x1024_S8x1x1024_0_5_0 (m ((c.tc : Thread nD τ).loc main_arg1)))
        (addf (gated (m ((c.tc : Thread nD τ).loc main_arg2)) (m ((c.tc : Thread nD τ).loc main_arg4)) (m ((c.tc : Thread nD τ).loc main_arg6)))
          (gated (m ((c.tc : Thread nD τ).loc main_arg3)) (m ((c.tc : Thread nD τ).loc main_arg5)) (m ((c.tc : Thread nD τ).loc main_arg7)))) (m ((c.tc : Thread nD τ).loc main_arg8)))
        (m ((c.tc : Thread nD τ).loc main_arg1)) (m ((c.tc : Thread nD τ).loc main_arg9)) (m ((c.tc : Thread nD τ).loc main_arg10)) (m ((c.tc : Thread nD τ).loc main_arg11))
        (m ((c.tc : Thread nD τ).loc main_arg12)) := rfl

end Cert.Reference2Ideal.Tail

end
-- ==== Proof.Tail.Values.lean ====
/-
  Over the extended reals the tail's kernel computes the reference.
-/
module

public import proofs.«01_k».proof.Defs
public import proofs.«01_k».proof.Proof.Tail.ArrayValue
public import proofs.«01_k».proof.Proof.Tail.RefValue

@[expose] public section

set_option maxRecDepth 16384

noncomputable section

namespace Cert.Tail

open Idealize.ShloMosaic Idealize.ShloMosaic.TcCoe Idealize.SL.Sem

/-- The ideal kernel computes the reference. -/
theorem algebraic : algebraic_Kernel2Ideal_Reference2Ideal (hKernel2Ideal := Cert.Kernel2Ideal.Gen.facts) (hReference2Ideal := Cert.Reference2Ideal.Gen.facts) := by
  intro m ρ m' ρ' _ hagree
  refine ⟨fun c => fun y : Cert.Kernel2Ideal.S8x4096x1024.Idx => row (B := 8) (S := 4096)
    (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10)) (m ((c.tc : Thread Cert.Kernel2Ideal.nD Cert.Kernel2Ideal.τ).loc Cert.Kernel2Ideal.main_arg11)) (m ((c.tc : Thread Cert.Kernel2Ideal.nD Cert.Kernel2Ideal.τ).loc Cert.Kernel2Ideal.main_arg12)) (y 0) (y 1) (y 2), ?_, ?_⟩
  · exact (θ_run _ _ _).mono (fun r h c => ⟨(h c).1.trans (Cert.Kernel2Ideal.Tail.final m c), (h c).2⟩) (Cert.Kernel2Ideal.Value.run_blocks (F := Ideal) m ρ)
  · refine (θ_run _ _ _).mono (fun r h c => ⟨(h c).1.trans ?_, (h c).2⟩) (Cert.Reference2Ideal.Value.run (F := Ideal) m' ρ')
    obtain ⟨a0, a1, a2, a3, a4, a5, a6, a7, a8, a9, a10, a11, a12⟩ := hagree c
    rw [Cert.Reference2Ideal.Tail.res_eq, a0, a1, a2, a3, a4, a5, a6, a7, a8, a9, a10, a11, a12]
    funext y
    exact (congrArg _ (eq_ix3 y)).trans (Cert.Reference2Ideal.Tail.value_apply _ _ _ _ _ _ _ _ _ _ _ _ _ (y 0) (y 1) (y 2))

end Cert.Tail

end
-- ==== Proof.Half.ArrayValue.lean ====
/-
  The first feed-forward's result array after the launch: each row is the feed-forward of that row's arguments.
  The body's computation is the tail's feed-forward, whose lemmas are used.
-/
module

public import proofs.«01_k».proof.Proof.Tail.ArrayValue
public import proofs.«01_k».proof.Proof.Gen.Kernel3Ideal.Value

@[expose] public section

set_option maxRecDepth 16384

noncomputable section

namespace Cert.Kernel3Ideal.Half

open Cert.Kernel3Ideal Cert.Kernel3Ideal.Gen Cert.Tail
open Idealize.ShloMosaic Idealize.ShloMosaic.TcCoe

/-- The stored block as the tail's feed-forward. -/
theorem out_eq (x0 : Vec Ideal S1x512x1024 .f32) (x1 : Vec Ideal S1x9x1024 .f32) (x2 : Vec Ideal S1x1024 .f32) (x3 : Vec Ideal S1024x5632 .bf16) (x4 : Vec Ideal S2816x1024 .bf16) :
    out0_5 x0 x1 x2 x3 x4 = Kernel2Ideal.Gen.k0_pay1 (Kernel2Ideal.Tail.after (k0_pay1 x0) (Kernel2Ideal.Gen.k0_pay4 (View.ld x1 r0_3))
      (Kernel2Ideal.Tail.total (Kernel2Ideal.Gen.k0_pay5 (k0_pay1 x0) (Kernel2Ideal.Gen.k0_pay3 (View.ld x1 r0_1)) (View.ld x1 r0_2) x2)
        (View.ld x3 r0_5) (View.ld x3 r0_6) (View.ld x4 r0_7) (View.ld x3 r0_8) (View.ld x3 r0_9) (View.ld x4 r0_10)
        (View.ld x3 r0_11) (View.ld x3 r0_12) (View.ld x4 r0_13) (View.ld x3 r0_14) (View.ld x3 r0_15) (View.ld x4 r0_16)
        (View.ld x3 r0_17) (View.ld x3 r0_18) (View.ld x4 r0_19) (View.ld x3 r0_20) (View.ld x3 r0_21) (View.ld x4 r0_22))) := by
  unfold out0_5 k0_pay11
  rw [View.canon_cons_unit_lit _ _ _ (by decide), View.ld_unit_lit _ x0 (by decide), View.ld_unit_lit _ x2 (by decide)]
  rfl

theorem rows_apply (v : Vec Ideal S1x512x1024 .f32) (r : Fin 512) (n : Fin 1024) : (k0_pay1 (F := Ideal) v (ix2 r n) : EReal) = v (ix3 (0 : Fin 1) r n) := by
  unfold k0_pay1
  pointwise

/-- The stored block, row by row. -/
theorem out_apply (x0 : Vec Ideal S1x512x1024 .f32) (x1 : Vec Ideal S1x9x1024 .f32) (x2 : Vec Ideal S1x1024 .f32) (x3 : Vec Ideal S1024x5632 .bf16) (x4 : Vec Ideal S2816x1024 .bf16)
    (r : Fin 512) (n : Fin 1024) : (out0_5 x0 x1 x2 x3 x4 (ix3 (0 : Fin 1) r n) : EReal) = half (B := 1) (S := 512) x0 x1 x2 x3 x4 0 r n := by
  rw [out_eq]
  refine (Kernel2Ideal.Tail.pay1_apply _ r n).trans ?_
  refine (Kernel2Ideal.Tail.fed_apply (at2 (a := 1024) (b := 5632) x3) (at2 (a := 2816) (b := 1024) x4) _ _ _ _ _ (Kernel2Ideal.Tail.cols (by decide) x3 x4 2816 rfl _ _ _)
    (Kernel2Ideal.Tail.cols (by decide) x3 x4 3328 rfl _ _ _) (Kernel2Ideal.Tail.cols (by decide) x3 x4 3840 rfl _ _ _) (Kernel2Ideal.Tail.cols (by decide) x3 x4 4352 rfl _ _ _)
    (Kernel2Ideal.Tail.cols (by decide) x3 x4 4864 rfl _ _ _) (Kernel2Ideal.Tail.cols (by decide) x3 x4 5376 rfl _ _ _) r n).trans ?_
  have hX : (fun i : Fin 1024 => (k0_pay1 (F := Ideal) x0 (ix2 r i) : EReal)) = fun i => x0 (ix3 (0 : Fin 1) r i) := funext fun i => rows_apply x0 r i
  unfold half
  rw [hX, Kernel2Ideal.Tail.ld_ada x1 0 0 rfl, Kernel2Ideal.Tail.ld_ada x1 1 1 rfl, Kernel2Ideal.Tail.ld_ada x1 2 2 rfl]

variable (m : (ℓ : Loc nD τ sig) → Buf (Elt Ideal) ℓ) (c : Dev nD)

/-- The windows' block indices: the batch and the block of rows, the batch, or the whole array. -/
theorem index : ∀ t : Fin cfg0.N,
    (win0_0.index t (0 : Fin 3) = (grid0.coords t 0).val ∧ win0_0.index t (1 : Fin 3) = (grid0.coords t 1).val ∧ win0_0.index t (2 : Fin 3) = 0)
    ∧ (win0_1.index t (0 : Fin 3) = (grid0.coords t 0).val ∧ win0_1.index t (1 : Fin 3) = 0 ∧ win0_1.index t (2 : Fin 3) = 0)
    ∧ (win0_2.index t (0 : Fin 2) = 0 ∧ win0_2.index t (1 : Fin 2) = 0) ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 3) = (grid0.coords t 0).val ∧ win0_5.index t (1 : Fin 3) = (grid0.coords t 1).val ∧ win0_5.index t (2 : Fin 3) = 0) :=
  (by decide +kernel : ∀ t : Fin grid0.N, _)

/-- A grid point's batch and its block of rows. -/
def batch (t : Fin cfg0.N) : Fin 8 := ⟨(grid0.coords t 0).val, (grid0.coords t 0).isLt⟩
def block (t : Fin cfg0.N) : Fin 8 := ⟨(grid0.coords t 1).val, (grid0.coords t 1).isLt⟩

theorem blk0 (t : Fin cfg0.N) (r : Fin 512) (n : Fin 1024) : iblk m c 0 t (ix3 (0 : Fin 1) r n) = m ((c : Thread nD τ).loc main_arg0) (ix3 (batch t) (lineOf (block t) r) n) :=
  congrArg (m ((c : Thread nD τ).loc main_arg0)) (at_rows (batch t) (block t) r n (index t).1 rfl rfl rfl)
theorem blk1 (t : Fin cfg0.N) (k : Fin 9) (n : Fin 1024) : iblk m c 1 t (ix3 (0 : Fin 1) k n) = m ((c : Thread nD τ).loc main_arg1) (ix3 (batch t) k n) :=
  congrArg (m ((c : Thread nD τ).loc main_arg1)) (at_cond (batch t) k n (index t).2.1 rfl rfl rfl)
theorem blk2 (t : Fin cfg0.N) : iblk m c 2 t = m ((c : Thread nD τ).loc main_arg2) :=
  funext fun _ => congrArg (m ((c : Thread nD τ).loc main_arg2)) (at_whole (index t).2.2.1 rfl rfl)
theorem blk3 (t : Fin cfg0.N) : iblk m c 3 t = m ((c : Thread nD τ).loc main_arg3) :=
  funext fun _ => congrArg (m ((c : Thread nD τ).loc main_arg3)) (at_whole (index t).2.2.2.1 rfl rfl)
theorem blk4 (t : Fin cfg0.N) : iblk m c 4 t = m ((c : Thread nD τ).loc main_arg4) :=
  funext fun _ => congrArg (m ((c : Thread nD τ).loc main_arg4)) (at_whole (index t).2.2.2.2.1 rfl rfl)

/-- A row of a grid point's blocks is a row of the arrays. -/
theorem half_blk (t : Fin cfg0.N) (r : Fin 512) (n : Fin 1024) :
    half (B := 1) (S := 512) (iblk m c 0 t) (iblk m c 1 t) (iblk m c 2 t) (iblk m c 3 t) (iblk m c 4 t) 0 r n
      = half (B := 8) (S := 4096) (m ((c : Thread nD τ).loc main_arg0)) (m ((c : Thread nD τ).loc main_arg1)) (m ((c : Thread nD τ).loc main_arg2)) (m ((c : Thread nD τ).loc main_arg3)) (m ((c : Thread nD τ).loc main_arg4)) (batch t) (lineOf (block t) r) n := by
  have e0 : (fun n : Fin 1024 => iblk m c 0 t (ix3 (0 : Fin 1) r n)) = _ := funext fun n => blk0 m c t r n
  have e1 : ∀ k : Fin 9, (fun n : Fin 1024 => iblk m c 1 t (ix3 (0 : Fin 1) k n)) = _ := fun k => funext fun n => blk1 m c t k n
  unfold half
  rw [blk2, blk3, blk4, e0, e1, e1, e1]

/-- The result array after the launch. -/
theorem final : (dats m 0 c).arrAt 5 cfg0.N = fun y : S8x4096x1024.Idx => half (B := 8) (S := 4096) (m ((c : Thread nD τ).loc main_arg0)) (m ((c : Thread nD τ).loc main_arg1)) (m ((c : Thread nD τ).loc main_arg2)) (m ((c : Thread nD τ).loc main_arg3)) (m ((c : Thread nD τ).loc main_arg4)) (y 0) (y 1) (y 2) := by
  refine (dats m 0 c).arrAt_eq_of_covers 5 _ (by decide +kernel) fun t hf y => ?_
  obtain ⟨r, n, rfl⟩ : ∃ (r : Fin 512) (n : Fin 1024), y = ix3 (0 : Fin 1) r n :=
    ⟨y 1, y 2, ext3 (n0 := 1) (n1 := 512) (n2 := 1024) (Nat.lt_one_iff.1 (y 0).isLt) rfl rfl⟩
  have e : ((cfg0.win 5).blk t).view.emb (ix3 (0 : Fin 1) r n) = ix3 (batch t) (lineOf (block t) r) n :=
    at_rows (batch t) (block t) r n (index t).2.2.2.2.2 rfl rfl rfl
  refine Eq.trans ?_ (congrArg (fun z : S8x4096x1024.Idx => half (B := 8) (S := 4096) (m ((c : Thread nD τ).loc main_arg0)) (m ((c : Thread nD τ).loc main_arg1)) (m ((c : Thread nD τ).loc main_arg2)) (m ((c : Thread nD τ).loc main_arg3)) (m ((c : Thread nD τ).loc main_arg4)) (z 0) (z 1) (z 2)) e.symm)
  refine Eq.trans ?_ (half_blk m c t r n)
  exact (congrFun (after0_5 m c t) _).trans (out_apply _ _ _ _ _ r n)

end Cert.Kernel3Ideal.Half

end
-- ==== Proof.Half.Values.lean ====
/-
  Over the extended reals the first feed-forward's kernel computes the reference.
-/
module

public import proofs.«01_k».proof.Defs
public import proofs.«01_k».proof.Proof.Half.ArrayValue
public import proofs.«01_k».proof.Proof.Tail.RefValue
public import proofs.«01_k».proof.Proof.Gen.Reference3Ideal.Run

@[expose] public section

set_option maxRecDepth 16384

noncomputable section

namespace Cert.Half

open Idealize.ShloMosaic Idealize.ShloMosaic.TcCoe Idealize.SL.Sem Cert.Tail

/-- The reference's result is the tail's reference's feed-forward. -/
theorem res_eq (m : (ℓ : Loc Cert.Reference3Ideal.nD Cert.Reference3Ideal.τ Cert.Reference3Ideal.sig) → Buf (Elt Ideal) ℓ) (c : Dev Cert.Reference3Ideal.nD) :
    Cert.Reference3Ideal.Value.res_out0 m c
      = Cert.Reference2Ideal.Tail.step 0 1 2 (by decide) (by decide) (by decide)
          (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) := rfl

/-- The ideal kernel computes the reference. -/
theorem algebraic : algebraic_Kernel3Ideal_Reference3Ideal (hKernel3Ideal := Cert.Kernel3Ideal.Gen.facts) (hReference3Ideal := Cert.Reference3Ideal.Gen.facts) := by
  intro m ρ m' ρ' _ hagree
  refine ⟨fun c => fun y : Cert.Kernel3Ideal.S8x4096x1024.Idx => half (B := 8) (S := 4096)
    (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (y 0) (y 1) (y 2), ?_, ?_⟩
  · exact (θ_run _ _ _).mono (fun r h c => ⟨(h c).1.trans (Cert.Kernel3Ideal.Half.final m c), (h c).2⟩) (Cert.Kernel3Ideal.Value.run_blocks (F := Ideal) m ρ)
  · refine (θ_run _ _ _).mono (fun r h c => ⟨((h c).1.trans (res_eq m' c)).trans ?_, (h c).2⟩) (Cert.Reference3Ideal.Value.run (F := Ideal) m' ρ')
    obtain ⟨a0, a1, a2, a3, a4⟩ := hagree c
    rw [a0, a1, a2, a3, a4]
    funext y
    exact (congrArg _ (eq_ix3 y)).trans (Cert.Reference2Ideal.Tail.step_apply 0 1 2 _ _ _ _ _ _ _ _ (y 0) (y 1) (y 2))

end Cert.Half

end
-- ==== Proof.Proj.Row.lean ====
/-
  One row of the input projection over the extended reals: the normed row against the weights, and what the five
  results take from the product.
-/
module

public import proofs.«01_k».proof.Proof.Tail.Row

@[expose] public section

noncomputable section

namespace Cert.Proj

open Idealize.ShloMosaic Cert.Tail

/-- The normed row against the weights of feature `e`. -/
def prod (x nm sc sh : Fin 1024 → EReal) (w : FVec Ideal ⟨2, ![4096, 1024]⟩ .bf16) (e : Fin 4096) : EReal :=
  ∑ k : Fin 1024, hid x nm sc sh k * w (ix2 e k)

/-- The product of row `s` of batch `b`, `S` being the number of rows and `B` the number of batches. -/
def feat {B S : ℕ} (x : FVec Ideal ⟨3, ![B, S, 1024]⟩ .f32) (ada : FVec Ideal ⟨3, ![B, 9, 1024]⟩ .f32) (nm : FVec Ideal ⟨2, ![1, 1024]⟩ .f32)
    (w : FVec Ideal ⟨2, ![4096, 1024]⟩ .bf16) (b : Fin B) (s : Fin S) : Fin 4096 → EReal :=
  prod (fun n => x (ix3 b s n)) (fun n => nm (ix2 (0 : Fin 1) n)) (fun n => ada (ix3 b (4 : Fin 9) n)) (fun n => ada (ix3 b (3 : Fin 9) n)) w

/-- The features of the latent keys and values, of the chunk attention's queries and keys, and of the two gates. -/
def latAt (r : Fin 128) : Fin 4096 := ⟨256 + r.val, by have := r.isLt; omega⟩
def qAt (j : Fin 512) : Fin 4096 := ⟨512 + j.val, by have := j.isLt; omega⟩
def kAt (j : Fin 512) : Fin 4096 := ⟨1024 + j.val, by have := j.isLt; omega⟩
def aAt (j : Fin 1024) : Fin 4096 := ⟨2048 + j.val, by have := j.isLt; omega⟩
def bAt (j : Fin 1024) : Fin 4096 := ⟨3072 + j.val, by have := j.isLt; omega⟩

/-- The latent over its root mean square, with its weights. -/
def lat (z : Fin 4096 → EReal) (g : FVec Ideal ⟨2, ![1, 128]⟩ .f32) (r : Fin 128) : EReal :=
  z (latAt r) * Ideal.rsqrt (Ideal.div (∑ i : Fin 128, z (latAt i) * z (latAt i)) (Ideal.ofBits .f32 0x43000000#32) + Ideal.ofBits .f32 0x358637BD#32) * g (ix2 (0 : Fin 1) r)

/-- Row `v` of the values. -/
def val (z : Fin 4096 → EReal) (g : FVec Ideal ⟨2, ![1, 128]⟩ .f32) (w : FVec Ideal ⟨2, ![1024, 128]⟩ .bf16) (o : FVec Ideal ⟨2, ![1024, 1]⟩ .f32) (v : Fin 1024) : EReal :=
  (∑ r : Fin 128, w (ix2 v r) * lat z g r) + o (ix2 v (0 : Fin 1))

/-- A query of the chunk attention, scaled. -/
def quer (z : Fin 4096 → EReal) (j : Fin 512) : EReal := z (qAt j) * Ideal.ofBits .f32 0x3E38AA3B#32

end Cert.Proj

end
-- ==== Proof.Proj.Block.lean ====
/-
  The input projection's body at an index: what it stores of 256 rows, from their product with the weights.
-/
module

public import proofs.«01_k».proof.Proof.Proj.Row
public import proofs.«01_k».proof.Proof.Gen.Kernel4Ideal.Skeleton

@[expose] public section

set_option maxRecDepth 16384

noncomputable section

namespace Cert.Kernel4Ideal.Proj

open Cert.Kernel4Ideal Cert.Kernel4Ideal.Gen Cert.Tail Cert.Proj
open Idealize.ShloMosaic

/-- Every row over its root mean square. -/
def normed (X : FVec Ideal S256x1024 .f32) : FVec Ideal S256x1024 .f32 :=
  mulf X (broadcastTo S256x1024 (rsqrt (addf (divf (shapeCast S256x1 (multiReduction .add [1] S256 (mulf X X) 0x00000000#32 reduces_S256x1024_S256 (.inl rfl) rfl) shapeCasts_S256_S256x1)
    (broadcast S256x1 (Scalar.ofBits .f32 0x44800000#32))) (broadcast S256x1 (Scalar.ofBits .f32 0x358637BD#32)))) broadcasts_S256x1_S256x1024)

theorem normed_apply (X : FVec Ideal S256x1024 .f32) (r : Fin 256) (n : Fin 1024) :
    (normed X (ix2 r n) : EReal) = unit (fun i => X (ix2 r i)) n := by
  unfold normed unit
  pointwise

/-- The rows normed, scaled and shifted. -/
theorem pay8_apply (a b : Vec Ideal S1x1x1024 .f32) (X : Vec Ideal S1x256x1024 .f32) (nm : Vec Ideal S1x1024 .f32) (r : Fin 256) (n : Fin 1024) :
    (k0_pay8 (F := Ideal) a b X nm (ix2 r n) : EReal)
      = hid (fun i => X (ix3 (0 : Fin 1) r i)) (fun n => nm (ix2 (0 : Fin 1) n)) (fun n => b (ix3 (0 : Fin 1) (0 : Fin 1) n)) (fun n => a (ix3 (0 : Fin 1) (0 : Fin 1) n)) n := by
  have e : k0_pay8 (F := Ideal) a b X nm = addf (mulf (truncf .bf16 (normed (shapeCast S256x1024 X shapeCasts_S1x256x1024_S256x1024)) bitsLt_bf16_f32) (broadcastTo S256x1024
      (truncf .bf16 (mulf nm (addf (broadcast S1x1024 (Scalar.ofBits .f32 0x3F800000#32)) (shapeCast S1x1024 b shapeCasts_S1x1x1024_S1x1024))) bitsLt_bf16_f32) broadcasts_S1x1024_S256x1024))
      (broadcastTo S256x1024 (truncf .bf16 (shapeCast S1x1024 a shapeCasts_S1x1x1024_S1x1024) bitsLt_bf16_f32) broadcasts_S1x1024_S256x1024) := rfl
  have h : (fun i : Fin 1024 => (shapeCast S256x1024 X shapeCasts_S1x256x1024_S256x1024 (ix2 r i) : EReal)) = fun i => X (ix3 (0 : Fin 1) r i) :=
    funext fun i => by pointwise
  rw [e, ← h]
  generalize shapeCast S256x1024 X shapeCasts_S1x256x1024_S256x1024 = Y
  pointwise
  rw [normed_apply]
  unfold hid
  rw [Ideal.ofBits_one_f32]

/-- The rows' product with the weights. -/
theorem pay55_apply (a b : Vec Ideal S1x1x1024 .f32) (X : Vec Ideal S1x256x1024 .f32) (nm : Vec Ideal S1x1024 .f32) (w : Vec Ideal S4096x1024 .bf16) (r : Fin 256) (e : Fin 4096) :
    (k0_pay55 (F := Ideal) (k0_pay2 a) (k0_pay3 b) X nm w (ix2 r e) : EReal)
      = prod (fun i => X (ix3 (0 : Fin 1) r i)) (fun n => nm (ix2 (0 : Fin 1) n)) (fun n => b (ix3 (0 : Fin 1) (0 : Fin 1) n)) (fun n => a (ix3 (0 : Fin 1) (0 : Fin 1) n)) w e := by
  have h : k0_pay55 (F := Ideal) (k0_pay2 a) (k0_pay3 b) X nm w
      = matmul dot_S256x1024_S4096x1024_S256x4096_1_1_0_0_n_n none (k0_pay8 a b X nm) w (constant S256x4096 .f32 0x00000000#32) := rfl
  have g : (fun n : Fin 1024 => (k0_pay8 (F := Ideal) a b X nm (ix2 r n) : EReal)) = _ := funext fun n => pay8_apply a b X nm r n
  rw [h]
  unfold prod
  refine Eq.trans ?_ (congrArg (fun f : Fin 1024 → EReal => ∑ k : Fin 1024, f k * w (ix2 e k)) g)
  generalize k0_pay8 (F := Ideal) a b X nm = H
  pointwise

variable (Z : FVec Ideal S256x4096 .f32)

/-- The latent, normed. -/
theorem pay61_apply (g : Vec Ideal S1x128 .f32) (r : Fin 256) (i : Fin 128) : (k0_pay61 (F := Ideal) Z g (ix2 r i) : EReal) = lat (fun e => Z (ix2 r e)) g i := by
  unfold k0_pay61 lat
  pointwise
  rfl

/-- The values. -/
theorem pay84_apply (L : FVec Ideal S256x128 .bf16) (w : Vec Ideal S1024x128 .bf16) (o : Vec Ideal S1024x1 .f32) (v : Fin 1024) (r : Fin 256) :
    (k0_pay84 (F := Ideal) L w o (ix3 (0 : Fin 1) v r) : EReal) = (∑ i : Fin 128, w (ix2 v i) * L (ix2 r i)) + o (ix2 v (0 : Fin 1)) := by
  unfold k0_pay84
  pointwise

theorem values_apply (g : Vec Ideal S1x128 .f32) (w : Vec Ideal S1024x128 .bf16) (o : Vec Ideal S1024x1 .f32) (v : Fin 1024) (r : Fin 256) :
    (k0_pay84 (F := Ideal) (k0_pay61 Z g) w o (ix3 (0 : Fin 1) v r) : EReal) = val (fun e => Z (ix2 r e)) g w o v := by
  rw [pay84_apply]
  exact congrArg (fun f : Fin 128 → EReal => (∑ i : Fin 128, w (ix2 v i) * f i) + o (ix2 v (0 : Fin 1))) (funext fun i => pay61_apply Z g r i)

/-- The chunk attention's queries and keys, and the two gates. -/
theorem pay40_apply (r : Fin 256) (j : Fin 512) : (k0_pay40 (F := Ideal) Z (ix3 (0 : Fin 1) r j) : EReal) = quer (fun e => Z (ix2 r e)) j := by
  unfold k0_pay40 quer
  pointwise
  rfl
theorem pay86_apply (r : Fin 256) (j : Fin 512) : (k0_pay86 (F := Ideal) (k0_pay85 Z) (ix3 (0 : Fin 1) r j) : EReal) = quer (fun e => Z (ix2 r e)) j := pay40_apply Z r j
theorem pay41_apply (r : Fin 256) (j : Fin 512) : (k0_pay41 (F := Ideal) Z (ix3 (0 : Fin 1) r j) : EReal) = Z (ix2 r (kAt j)) := by
  unfold k0_pay41
  pointwise
  rfl
theorem pay87_apply (r : Fin 256) (j : Fin 512) : (k0_pay87 (F := Ideal) Z (ix3 (0 : Fin 1) r j) : EReal) = Z (ix2 r (kAt j)) := pay41_apply Z r j
theorem pay98_apply (r : Fin 256) (j : Fin 1024) : (k0_pay98 (F := Ideal) Z (ix3 (0 : Fin 1) r j) : EReal) = Ideal.logistic (Z (ix2 r (aAt j))) := by
  unfold k0_pay98
  pointwise
  rfl
theorem pay53_apply (r : Fin 256) (j : Fin 1024) : (k0_pay53 (F := Ideal) (k0_pay52 Z) (ix3 (0 : Fin 1) r j) : EReal) = Ideal.logistic (Z (ix2 r (aAt j))) := pay98_apply Z r j
theorem pay54_apply (r : Fin 256) (j : Fin 1024) : (k0_pay54 (F := Ideal) Z (ix3 (0 : Fin 1) r j) : EReal) = Ideal.logistic (Z (ix2 r (bAt j))) := by
  unfold k0_pay54
  pointwise
  rfl
theorem pay1_apply (r : Fin 256) (j : Fin 1024) : (k0_pay1 (F := Ideal) (k0_pay99 Z) (ix3 (0 : Fin 1) r j) : EReal) = Ideal.logistic (Z (ix2 r (bAt j))) := pay54_apply Z r j

end Cert.Kernel4Ideal.Proj

end
-- ==== Proof.Proj.ArrayValue.lean ====
/-
  The input projection's five result arrays after the launch: each row's are what that row's product gives.
-/
module

public import proofs.«01_k».proof.Proof.Proj.Block
public import proofs.«01_k».proof.Proof.Tail.ArrayValue
public import proofs.«01_k».proof.Proof.Gen.Kernel4Ideal.Value

@[expose] public section

set_option maxRecDepth 16384

noncomputable section

namespace Cert.Kernel4Ideal.Proj

open Cert.Kernel4Ideal Cert.Kernel4Ideal.Gen Cert.Tail Cert.Proj
open Cert.Kernel2Ideal.Tail (ld_ada)
open Idealize.ShloMosaic Idealize.ShloMosaic.TcCoe

/-- The first and the second 256 rows of a block. -/
def lowAt (q : Fin 256) : Fin 512 := ⟨q.val, by have := q.isLt; omega⟩
def highAt (q : Fin 256) : Fin 512 := ⟨256 + q.val, by have := q.isLt; omega⟩

/-- A block stored in two halves of its rows. -/
theorem two_rows {N : ℕ} (i1 i0) (P1 P0 : Vec Ideal ⟨3, ![1, 256, N]⟩ .bf16) (f : Fin 512 → Fin N → EReal)
    (hc : ∀ y, ∃ p ∈ ([⟨Rect.unit (s := (⟨3, ![1, 512, N]⟩ : Shape)) ![0, 256, 0] (⟨3, ![1, 256, N]⟩ : Shape).size i1, P1⟩,
      ⟨Rect.unit (s := (⟨3, ![1, 512, N]⟩ : Shape)) ![0, 0, 0] (⟨3, ![1, 256, N]⟩ : Shape).size i0, P0⟩] : List (View.Piece (Elt Ideal) ⟨3, ![1, 512, N]⟩ .bf16)), y ∈ p.1.set)
    (h1 : ∀ q j, (P1 (ix3 (0 : Fin 1) q j) : EReal) = f (highAt q) j) (h0 : ∀ q j, (P0 (ix3 (0 : Fin 1) q j) : EReal) = f (lowAt q) j) (r : Fin 512) (j : Fin N) :
    (View.canon ([⟨Rect.unit (s := (⟨3, ![1, 512, N]⟩ : Shape)) ![0, 256, 0] (⟨3, ![1, 256, N]⟩ : Shape).size i1, P1⟩,
      ⟨Rect.unit (s := (⟨3, ![1, 512, N]⟩ : Shape)) ![0, 0, 0] (⟨3, ![1, 256, N]⟩ : Shape).size i0, P0⟩] : List (View.Piece (Elt Ideal) ⟨3, ![1, 512, N]⟩ .bf16)) (ix3 (0 : Fin 1) r j) : EReal) = f r j := by
  refine View.canon_eq_of_allAt _ _ _ (hc _) (View.allAt_cons_unit _ _ _ _ _ ?_ (View.allAt_cons_unit _ _ _ _ _ ?_ (View.allAt_nil _ _)))
  · intro x hx
    obtain ⟨q, k, rfl⟩ : ∃ (q : Fin 256) (k : Fin N), x = ix3 (0 : Fin 1) q k :=
      ⟨x 1, x 2, ext3 (n0 := 1) (n1 := 256) (n2 := N) (Nat.lt_one_iff.1 (x 0).isLt) rfl rfl⟩
    have e1 : r = highAt q := Fin.ext (hx 1)
    have e2 : j = k := Fin.ext ((hx 2).trans (Nat.zero_add _))
    rw [e1, e2]
    exact h1 q k
  · intro x hx
    obtain ⟨q, k, rfl⟩ : ∃ (q : Fin 256) (k : Fin N), x = ix3 (0 : Fin 1) q k :=
      ⟨x 1, x 2, ext3 (n0 := 1) (n1 := 256) (n2 := N) (Nat.lt_one_iff.1 (x 0).isLt) rfl rfl⟩
    have e1 : r = lowAt q := Fin.ext ((hx 1).trans (Nat.zero_add _))
    have e2 : j = k := Fin.ext ((hx 2).trans (Nat.zero_add _))
    rw [e1, e2]
    exact h0 q k

/-- A block stored in two halves of its columns. -/
theorem two_cols {N : ℕ} (i1 i0) (P1 P0 : Vec Ideal ⟨3, ![1, N, 256]⟩ .bf16) (f : Fin N → Fin 512 → EReal)
    (hc : ∀ y, ∃ p ∈ ([⟨Rect.unit (s := (⟨3, ![1, N, 512]⟩ : Shape)) ![0, 0, 256] (⟨3, ![1, N, 256]⟩ : Shape).size i1, P1⟩,
      ⟨Rect.unit (s := (⟨3, ![1, N, 512]⟩ : Shape)) ![0, 0, 0] (⟨3, ![1, N, 256]⟩ : Shape).size i0, P0⟩] : List (View.Piece (Elt Ideal) ⟨3, ![1, N, 512]⟩ .bf16)), y ∈ p.1.set)
    (h1 : ∀ j q, (P1 (ix3 (0 : Fin 1) j q) : EReal) = f j (highAt q)) (h0 : ∀ j q, (P0 (ix3 (0 : Fin 1) j q) : EReal) = f j (lowAt q)) (j : Fin N) (r : Fin 512) :
    (View.canon ([⟨Rect.unit (s := (⟨3, ![1, N, 512]⟩ : Shape)) ![0, 0, 256] (⟨3, ![1, N, 256]⟩ : Shape).size i1, P1⟩,
      ⟨Rect.unit (s := (⟨3, ![1, N, 512]⟩ : Shape)) ![0, 0, 0] (⟨3, ![1, N, 256]⟩ : Shape).size i0, P0⟩] : List (View.Piece (Elt Ideal) ⟨3, ![1, N, 512]⟩ .bf16)) (ix3 (0 : Fin 1) j r) : EReal) = f j r := by
  refine View.canon_eq_of_allAt _ _ _ (hc _) (View.allAt_cons_unit _ _ _ _ _ ?_ (View.allAt_cons_unit _ _ _ _ _ ?_ (View.allAt_nil _ _)))
  · intro x hx
    obtain ⟨k, q, rfl⟩ : ∃ (k : Fin N) (q : Fin 256), x = ix3 (0 : Fin 1) k q :=
      ⟨x 1, x 2, ext3 (n0 := 1) (n1 := N) (n2 := 256) (Nat.lt_one_iff.1 (x 0).isLt) rfl rfl⟩
    have e1 : r = highAt q := Fin.ext (hx 2)
    have e2 : j = k := Fin.ext ((hx 1).trans (Nat.zero_add _))
    rw [e1, e2]
    exact h1 k q
  · intro x hx
    obtain ⟨k, q, rfl⟩ : ∃ (k : Fin N) (q : Fin 256), x = ix3 (0 : Fin 1) k q :=
      ⟨x 1, x 2, ext3 (n0 := 1) (n1 := N) (n2 := 256) (Nat.lt_one_iff.1 (x 0).isLt) rfl rfl⟩
    have e1 : r = lowAt q := Fin.ext ((hx 2).trans (Nat.zero_add _))
    have e2 : j = k := Fin.ext ((hx 1).trans (Nat.zero_add _))
    rw [e1, e2]
    exact h0 k q

/-- Where a window's block of columns lies in its array, given the window's block index. -/
theorem at_cols {N : ℕ} (b i : Fin 8) (v : Fin N) (r : Fin 512) {i0 i1 i2 : ℕ} (hi : i0 = b.val ∧ i1 = 0 ∧ i2 = i.val)
    {y : (⟨3, ![8, N, 4096]⟩ : Shape).Idx} (h0 : (y 0).val = i0 * 1 + 1 * 0) (h1 : (y 1).val = i1 * N + 1 * v.val) (h2 : (y 2).val = i2 * 512 + 1 * r.val) :
    y = ix3 b v (lineOf i r) := by
  obtain ⟨e0, e1, e2⟩ := hi
  subst e0 e1 e2
  refine ext3 (h0.trans ?_) (h1.trans ?_) h2
  · show _ = b.val
    omega
  · show _ = v.val
    omega

/-- The loaded rows of a block, from row `o` on. -/
theorem ld_rows (x0 : Vec Ideal S1x512x1024 .f32) (o : ℕ) (q : Fin 256) (r : Fin 512) (hr : r.val = o + q.val) (inb : ∀ a, (![0, o, 0] : Fin 3 → ℕ) a + S1x256x1024.size a ≤ S1x512x1024.size a) :
    (fun n : Fin 1024 => View.ld x0 (Rect.unit (s := S1x512x1024) ![0, o, 0] S1x256x1024.size inb) (ix3 (0 : Fin 1) q n)) = fun n => x0 (ix3 (0 : Fin 1) r n) :=
  funext fun n => View.ld_unit_apply_of x0 _ _ _ _ _ fun a => match a with
    | ⟨0, _⟩ => rfl
    | ⟨1, _⟩ => hr
    | ⟨2, _⟩ => (Nat.zero_add _).symm

section
variable (x0 : Vec Ideal S1x512x1024 .f32) (x1 : Vec Ideal S1x9x1024 .f32) (x2 : Vec Ideal S1x1024 .f32) (x3 : Vec Ideal S1x1x1x512 .i32) (x4 : Vec Ideal S16x1 .f32) (x5 : Vec Ideal S4096x1024 .bf16)
  (x6 : Vec Ideal S1x256 .f32) (x7 : Vec Ideal S1x128 .f32) (x8 : Vec Ideal S256x1024 .bf16) (x9 : Vec Ideal S128x1024 .bf16) (x10 : Vec Ideal S1024x128 .bf16) (x11 : Vec Ideal S1024x1 .f32)

/-- The products of the two halves of the rows. -/
theorem prod_apply (o : ℕ) (q : Fin 256) (r : Fin 512) (hr : r.val = o + q.val) (inb : ∀ a, (![0, o, 0] : Fin 3 → ℕ) a + S1x256x1024.size a ≤ S1x512x1024.size a) :
    (fun e : Fin 4096 => (k0_pay55 (F := Ideal) (k0_pay2 (View.ld x1 r0_0)) (k0_pay3 (View.ld x1 r0_1)) (View.ld x0 (Rect.unit (s := S1x512x1024) ![0, o, 0] S1x256x1024.size inb)) x2 x5 (ix2 q e) : EReal))
      = feat (B := 1) (S := 512) x0 x1 x2 x5 0 r := by
  funext e
  refine (pay55_apply _ _ _ _ _ q e).trans ?_
  unfold feat
  rw [ld_rows x0 o q r hr, ld_ada x1 4 4 rfl, ld_ada x1 3 3 rfl]

theorem low_apply (q : Fin 256) : (fun e : Fin 4096 => (k0_pay106 (F := Ideal) x0 x1 x2 x3 x4 x5 x6 x7 x8 x9 x10 x11 (ix2 q e) : EReal)) = feat (B := 1) (S := 512) x0 x1 x2 x5 0 (lowAt q) := by
  have h : k0_pay106 (F := Ideal) x0 x1 x2 x3 x4 x5 x6 x7 x8 x9 x10 x11 = k0_pay55 (F := Ideal) (k0_pay2 (View.ld x1 r0_0)) (k0_pay3 (View.ld x1 r0_1)) (View.ld x0 r0_2) (View.ld x2 r0_3) (View.ld x5 r0_4) := rfl
  rw [h, View.ld_unit_lit _ x2 (by decide), View.ld_unit_lit _ x5 (by decide)]
  exact prod_apply x0 x1 x2 x5 0 q (lowAt q) (Nat.zero_add _).symm _

theorem high_apply (q : Fin 256) : (fun e : Fin 4096 => (k0_pay115 (F := Ideal) x0 x1 x2 x3 x4 x5 x6 x7 x8 x9 x10 x11 (ix2 q e) : EReal)) = feat (B := 1) (S := 512) x0 x1 x2 x5 0 (highAt q) := by
  have h : k0_pay115 (F := Ideal) x0 x1 x2 x3 x4 x5 x6 x7 x8 x9 x10 x11 = k0_pay55 (F := Ideal) (k0_pay2 (View.ld x1 r0_0)) (k0_pay3 (View.ld x1 r0_1)) (View.ld x0 r0_31) (View.ld x2 r0_3) (View.ld x5 r0_4) := rfl
  rw [h, View.ld_unit_lit _ x2 (by decide), View.ld_unit_lit _ x5 (by decide)]
  exact prod_apply x0 x1 x2 x5 256 q (highAt q) rfl _

/-- The stored blocks, row by row. -/
theorem out14_apply (v : Fin 1024) (r : Fin 512) : (out0_14 x0 x1 x2 x3 x4 x5 x6 x7 x8 x9 x10 x11 (ix3 (0 : Fin 1) v r) : EReal) = val (feat (B := 1) (S := 512) x0 x1 x2 x5 0 r) x7 x10 x11 v := by
  have h : out0_14 x0 x1 x2 x3 x4 x5 x6 x7 x8 x9 x10 x11 = View.canon [⟨r0_41, k0_pay84 (k0_pay61 (k0_pay115 x0 x1 x2 x3 x4 x5 x6 x7 x8 x9 x10 x11) (View.ld x7 r0_9)) (View.ld x10 r0_19) (View.ld x11 r0_20)⟩,
      ⟨r0_21, k0_pay84 (k0_pay61 (k0_pay106 x0 x1 x2 x3 x4 x5 x6 x7 x8 x9 x10 x11) (View.ld x7 r0_9)) (View.ld x10 r0_19) (View.ld x11 r0_20)⟩] := rfl
  rw [h, View.ld_unit_lit _ x7 (by decide), View.ld_unit_lit _ x10 (by decide), View.ld_unit_lit _ x11 (by decide)]
  exact two_cols _ _ _ _ (fun v r => val (feat (B := 1) (S := 512) x0 x1 x2 x5 0 r) x7 x10 x11 v) (cover0_14 _ _)
    (fun v q => (values_apply _ x7 x10 x11 v q).trans (congrArg (fun z => val z x7 x10 x11 v) (high_apply x0 x1 x2 x3 x4 x5 x6 x7 x8 x9 x10 x11 q)))
    (fun v q => (values_apply _ x7 x10 x11 v q).trans (congrArg (fun z => val z x7 x10 x11 v) (low_apply x0 x1 x2 x3 x4 x5 x6 x7 x8 x9 x10 x11 q))) v r
theorem out15_apply (r : Fin 512) (j : Fin 512) : (out0_15 x0 x1 x2 x3 x4 x5 x6 x7 x8 x9 x10 x11 (ix3 (0 : Fin 1) r j) : EReal) = quer (feat (B := 1) (S := 512) x0 x1 x2 x5 0 r) j :=
  two_rows _ _ _ _ (fun r j => quer (feat (B := 1) (S := 512) x0 x1 x2 x5 0 r) j) (cover0_15 _ _)
    (fun q j => (pay86_apply _ q j).trans (congrArg (fun z : Fin 4096 → EReal => quer z j) (high_apply x0 x1 x2 x3 x4 x5 x6 x7 x8 x9 x10 x11 q)))
    (fun q j => (pay40_apply _ q j).trans (congrArg (fun z : Fin 4096 → EReal => quer z j) (low_apply x0 x1 x2 x3 x4 x5 x6 x7 x8 x9 x10 x11 q))) r j
theorem out16_apply (r : Fin 512) (j : Fin 512) : (out0_16 x0 x1 x2 x3 x4 x5 x6 x7 x8 x9 x10 x11 (ix3 (0 : Fin 1) r j) : EReal) = feat (B := 1) (S := 512) x0 x1 x2 x5 0 r (kAt j) :=
  two_rows _ _ _ _ (fun r j => feat (B := 1) (S := 512) x0 x1 x2 x5 0 r (kAt j)) (cover0_16 _ _)
    (fun q j => (pay87_apply _ q j).trans (congrArg (fun z : Fin 4096 → EReal => z (kAt j)) (high_apply x0 x1 x2 x3 x4 x5 x6 x7 x8 x9 x10 x11 q)))
    (fun q j => (pay41_apply _ q j).trans (congrArg (fun z : Fin 4096 → EReal => z (kAt j)) (low_apply x0 x1 x2 x3 x4 x5 x6 x7 x8 x9 x10 x11 q))) r j
theorem out18_apply (r : Fin 512) (j : Fin 1024) : (out0_18 x0 x1 x2 x3 x4 x5 x6 x7 x8 x9 x10 x11 (ix3 (0 : Fin 1) r j) : EReal) = Ideal.logistic (feat (B := 1) (S := 512) x0 x1 x2 x5 0 r (aAt j)) :=
  two_rows _ _ _ _ (fun r j => Ideal.logistic (feat (B := 1) (S := 512) x0 x1 x2 x5 0 r (aAt j))) (cover0_18 _ _)
    (fun q j => (pay98_apply _ q j).trans (congrArg (fun z : Fin 4096 → EReal => Ideal.logistic (z (aAt j))) (high_apply x0 x1 x2 x3 x4 x5 x6 x7 x8 x9 x10 x11 q)))
    (fun q j => (pay53_apply _ q j).trans (congrArg (fun z : Fin 4096 → EReal => Ideal.logistic (z (aAt j))) (low_apply x0 x1 x2 x3 x4 x5 x6 x7 x8 x9 x10 x11 q))) r j
theorem out19_apply (r : Fin 512) (j : Fin 1024) : (out0_19 x0 x1 x2 x3 x4 x5 x6 x7 x8 x9 x10 x11 (ix3 (0 : Fin 1) r j) : EReal) = Ideal.logistic (feat (B := 1) (S := 512) x0 x1 x2 x5 0 r (bAt j)) :=
  two_rows _ _ _ _ (fun r j => Ideal.logistic (feat (B := 1) (S := 512) x0 x1 x2 x5 0 r (bAt j))) (cover0_19 _ _)
    (fun q j => (pay1_apply _ q j).trans (congrArg (fun z : Fin 4096 → EReal => Ideal.logistic (z (bAt j))) (high_apply x0 x1 x2 x3 x4 x5 x6 x7 x8 x9 x10 x11 q)))
    (fun q j => (pay54_apply _ q j).trans (congrArg (fun z : Fin 4096 → EReal => Ideal.logistic (z (bAt j))) (low_apply x0 x1 x2 x3 x4 x5 x6 x7 x8 x9 x10 x11 q))) r j

end

variable (m : (ℓ : Loc nD τ sig) → Buf (Elt Ideal) ℓ) (c : Dev nD)

/-- The windows' block indices: the batch and the block of rows, the batch, or the whole array. -/
theorem index : ∀ t : Fin cfg0.N,
    (win0_0.index t (0 : Fin 3) = (grid0.coords t 0).val ∧ win0_0.index t (1 : Fin 3) = (grid0.coords t 1).val ∧ win0_0.index t (2 : Fin 3) = 0)
    ∧ (win0_1.index t (0 : Fin 3) = (grid0.coords t 0).val ∧ win0_1.index t (1 : Fin 3) = 0 ∧ win0_1.index t (2 : Fin 3) = 0)
    ∧ (win0_2.index t (0 : Fin 2) = 0 ∧ win0_2.index t (1 : Fin 2) = 0) ∧ (win0_5.index t (0 : Fin 2) = 0 ∧ win0_5.index t (1 : Fin 2) = 0)
    ∧ (win0_7.index t (0 : Fin 2) = 0 ∧ win0_7.index t (1 : Fin 2) = 0) ∧ (win0_10.index t (0 : Fin 2) = 0 ∧ win0_10.index t (1 : Fin 2) = 0)
    ∧ (win0_11.index t (0 : Fin 2) = 0 ∧ win0_11.index t (1 : Fin 2) = 0) :=
  (by decide +kernel : ∀ t : Fin grid0.N, _)

theorem index_out : ∀ t : Fin cfg0.N,
    (win0_14.index t (0 : Fin 3) = (grid0.coords t 0).val ∧ win0_14.index t (1 : Fin 3) = 0 ∧ win0_14.index t (2 : Fin 3) = (grid0.coords t 1).val)
    ∧ (win0_15.index t (0 : Fin 3) = (grid0.coords t 0).val ∧ win0_15.index t (1 : Fin 3) = (grid0.coords t 1).val ∧ win0_15.index t (2 : Fin 3) = 0)
    ∧ (win0_16.index t (0 : Fin 3) = (grid0.coords t 0).val ∧ win0_16.index t (1 : Fin 3) = (grid0.coords t 1).val ∧ win0_16.index t (2 : Fin 3) = 0)
    ∧ (win0_18.index t (0 : Fin 3) = (grid0.coords t 0).val ∧ win0_18.index t (1 : Fin 3) = (grid0.coords t 1).val ∧ win0_18.index t (2 : Fin 3) = 0)
    ∧ (win0_19.index t (0 : Fin 3) = (grid0.coords t 0).val ∧ win0_19.index t (1 : Fin 3) = (grid0.coords t 1).val ∧ win0_19.index t (2 : Fin 3) = 0) :=
  (by decide +kernel : ∀ t : Fin grid0.N, _)

/-- A grid point's batch and its block of rows. -/
def batch (t : Fin cfg0.N) : Fin 8 := ⟨(grid0.coords t 0).val, (grid0.coords t 0).isLt⟩
def block (t : Fin cfg0.N) : Fin 8 := ⟨(grid0.coords t 1).val, (grid0.coords t 1).isLt⟩

theorem blk0 (t : Fin cfg0.N) (r : Fin 512) (n : Fin 1024) : iblk m c 0 t (ix3 (0 : Fin 1) r n) = m ((c : Thread nD τ).loc main_arg0) (ix3 (batch t) (lineOf (block t) r) n) :=
  congrArg (m ((c : Thread nD τ).loc main_arg0)) (at_rows (batch t) (block t) r n (index t).1 rfl rfl rfl)
theorem blk1 (t : Fin cfg0.N) (k : Fin 9) (n : Fin 1024) : iblk m c 1 t (ix3 (0 : Fin 1) k n) = m ((c : Thread nD τ).loc main_arg1) (ix3 (batch t) k n) :=
  congrArg (m ((c : Thread nD τ).loc main_arg1)) (at_cond (batch t) k n (index t).2.1 rfl rfl rfl)
theorem blk2 (t : Fin cfg0.N) : iblk m c 2 t = m ((c : Thread nD τ).loc main_arg2) :=
  funext fun _ => congrArg (m ((c : Thread nD τ).loc main_arg2)) (at_whole (index t).2.2.1 rfl rfl)
theorem blk5 (t : Fin cfg0.N) : iblk m c 5 t = m ((c : Thread nD τ).loc main_arg5) :=
  funext fun _ => congrArg (m ((c : Thread nD τ).loc main_arg5)) (at_whole (index t).2.2.2.1 rfl rfl)
theorem blk7 (t : Fin cfg0.N) : iblk m c 7 t = m ((c : Thread nD τ).loc main_arg7) :=
  funext fun _ => congrArg (m ((c : Thread nD τ).loc main_arg7)) (at_whole (index t).2.2.2.2.1 rfl rfl)
theorem blk10 (t : Fin cfg0.N) : iblk m c 10 t = m ((c : Thread nD τ).loc main_arg10) :=
  funext fun _ => congrArg (m ((c : Thread nD τ).loc main_arg10)) (at_whole (index t).2.2.2.2.2.1 rfl rfl)
theorem blk11 (t : Fin cfg0.N) : iblk m c 11 t = m ((c : Thread nD τ).loc main_arg11) :=
  funext fun _ => congrArg (m ((c : Thread nD τ).loc main_arg11)) (at_whole (index t).2.2.2.2.2.2 rfl rfl)

/-- The product of a row of a grid point's blocks is that of a row of the arrays. -/
theorem feat_blk (t : Fin cfg0.N) (r : Fin 512) :
    feat (B := 1) (S := 512) (iblk m c 0 t) (iblk m c 1 t) (iblk m c 2 t) (iblk m c 5 t) 0 r
      = feat (B := 8) (S := 4096) (m ((c : Thread nD τ).loc main_arg0)) (m ((c : Thread nD τ).loc main_arg1)) (m ((c : Thread nD τ).loc main_arg2)) (m ((c : Thread nD τ).loc main_arg5)) (batch t) (lineOf (block t) r) := by
  have e0 : (fun n : Fin 1024 => iblk m c 0 t (ix3 (0 : Fin 1) r n)) = _ := funext fun n => blk0 m c t r n
  have e1 : ∀ k : Fin 9, (fun n : Fin 1024 => iblk m c 1 t (ix3 (0 : Fin 1) k n)) = _ := fun k => funext fun n => blk1 m c t k n
  unfold feat
  rw [blk2, blk5, e0, e1, e1]

/-- The result arrays after the launch. -/
theorem final14 : (dats m 0 c).arrAt 14 cfg0.N = fun y : S8x1024x4096.Idx => val (feat (B := 8) (S := 4096) (m ((c : Thread nD τ).loc main_arg0)) (m ((c : Thread nD τ).loc main_arg1)) (m ((c : Thread nD τ).loc main_arg2)) (m ((c : Thread nD τ).loc main_arg5)) (y 0) (y 2)) (m ((c : Thread nD τ).loc main_arg7)) (m ((c : Thread nD τ).loc main_arg10)) (m ((c : Thread nD τ).loc main_arg11)) (y 1) := by
  refine (dats m 0 c).arrAt_eq_of_covers 14 _ (by decide +kernel) fun t hf y => ?_
  obtain ⟨v, r, rfl⟩ : ∃ (v : Fin 1024) (r : Fin 512), y = ix3 (0 : Fin 1) v r :=
    ⟨y 1, y 2, ext3 (n0 := 1) (n1 := 1024) (n2 := 512) (Nat.lt_one_iff.1 (y 0).isLt) rfl rfl⟩
  have e : ((cfg0.win 14).blk t).view.emb (ix3 (0 : Fin 1) v r) = ix3 (batch t) v (lineOf (block t) r) :=
    at_cols (batch t) (block t) v r (index_out t).1 rfl rfl rfl
  refine Eq.trans ?_ (congrArg (fun z : S8x1024x4096.Idx => val (feat (B := 8) (S := 4096) (m ((c : Thread nD τ).loc main_arg0)) (m ((c : Thread nD τ).loc main_arg1)) (m ((c : Thread nD τ).loc main_arg2)) (m ((c : Thread nD τ).loc main_arg5)) (z 0) (z 2)) (m ((c : Thread nD τ).loc main_arg7)) (m ((c : Thread nD τ).loc main_arg10)) (m ((c : Thread nD τ).loc main_arg11)) (z 1)) e.symm)
  refine ((congrFun (after0_14 m c t) _).trans (out14_apply _ _ _ _ _ _ _ _ _ _ _ _ v r)).trans ?_
  rw [feat_blk, blk7, blk10, blk11]
  rfl
theorem final15 : (dats m 0 c).arrAt 15 cfg0.N = fun y : S8x4096x512.Idx => quer (feat (B := 8) (S := 4096) (m ((c : Thread nD τ).loc main_arg0)) (m ((c : Thread nD τ).loc main_arg1)) (m ((c : Thread nD τ).loc main_arg2)) (m ((c : Thread nD τ).loc main_arg5)) (y 0) (y 1)) (y 2) := by
  refine (dats m 0 c).arrAt_eq_of_covers 15 _ (by decide +kernel) fun t hf y => ?_
  obtain ⟨r, j, rfl⟩ : ∃ (r : Fin 512) (j : Fin 512), y = ix3 (0 : Fin 1) r j :=
    ⟨y 1, y 2, ext3 (n0 := 1) (n1 := 512) (n2 := 512) (Nat.lt_one_iff.1 (y 0).isLt) rfl rfl⟩
  have e : ((cfg0.win 15).blk t).view.emb (ix3 (0 : Fin 1) r j) = ix3 (batch t) (lineOf (block t) r) j :=
    at_rows (batch t) (block t) r j (index_out t).2.1 rfl rfl rfl
  refine Eq.trans ?_ (congrArg (fun z : S8x4096x512.Idx => quer (feat (B := 8) (S := 4096) (m ((c : Thread nD τ).loc main_arg0)) (m ((c : Thread nD τ).loc main_arg1)) (m ((c : Thread nD τ).loc main_arg2)) (m ((c : Thread nD τ).loc main_arg5)) (z 0) (z 1)) (z 2)) e.symm)
  refine ((congrFun (after0_15 m c t) _).trans (out15_apply _ _ _ _ _ _ _ _ _ _ _ _ r j)).trans ?_
  rw [feat_blk]
  rfl
theorem final16 : (dats m 0 c).arrAt 16 cfg0.N = fun y : S8x4096x512.Idx => feat (B := 8) (S := 4096) (m ((c : Thread nD τ).loc main_arg0)) (m ((c : Thread nD τ).loc main_arg1)) (m ((c : Thread nD τ).loc main_arg2)) (m ((c : Thread nD τ).loc main_arg5)) (y 0) (y 1) (kAt (y 2)) := by
  refine (dats m 0 c).arrAt_eq_of_covers 16 _ (by decide +kernel) fun t hf y => ?_
  obtain ⟨r, j, rfl⟩ : ∃ (r : Fin 512) (j : Fin 512), y = ix3 (0 : Fin 1) r j :=
    ⟨y 1, y 2, ext3 (n0 := 1) (n1 := 512) (n2 := 512) (Nat.lt_one_iff.1 (y 0).isLt) rfl rfl⟩
  have e : ((cfg0.win 16).blk t).view.emb (ix3 (0 : Fin 1) r j) = ix3 (batch t) (lineOf (block t) r) j :=
    at_rows (batch t) (block t) r j (index_out t).2.2.1 rfl rfl rfl
  refine Eq.trans ?_ (congrArg (fun z : S8x4096x512.Idx => feat (B := 8) (S := 4096) (m ((c : Thread nD τ).loc main_arg0)) (m ((c : Thread nD τ).loc main_arg1)) (m ((c : Thread nD τ).loc main_arg2)) (m ((c : Thread nD τ).loc main_arg5)) (z 0) (z 1) (kAt (z 2))) e.symm)
  refine ((congrFun (after0_16 m c t) _).trans (out16_apply _ _ _ _ _ _ _ _ _ _ _ _ r j)).trans ?_
  rw [feat_blk]
  rfl
theorem final18 : (dats m 0 c).arrAt 18 cfg0.N = fun y : S8x4096x1024.Idx => Ideal.logistic (feat (B := 8) (S := 4096) (m ((c : Thread nD τ).loc main_arg0)) (m ((c : Thread nD τ).loc main_arg1)) (m ((c : Thread nD τ).loc main_arg2)) (m ((c : Thread nD τ).loc main_arg5)) (y 0) (y 1) (aAt (y 2))) := by
  refine (dats m 0 c).arrAt_eq_of_covers 18 _ (by decide +kernel) fun t hf y => ?_
  obtain ⟨r, j, rfl⟩ : ∃ (r : Fin 512) (j : Fin 1024), y = ix3 (0 : Fin 1) r j :=
    ⟨y 1, y 2, ext3 (n0 := 1) (n1 := 512) (n2 := 1024) (Nat.lt_one_iff.1 (y 0).isLt) rfl rfl⟩
  have e : ((cfg0.win 18).blk t).view.emb (ix3 (0 : Fin 1) r j) = ix3 (batch t) (lineOf (block t) r) j :=
    at_rows (batch t) (block t) r j (index_out t).2.2.2.1 rfl rfl rfl
  refine Eq.trans ?_ (congrArg (fun z : S8x4096x1024.Idx => Ideal.logistic (feat (B := 8) (S := 4096) (m ((c : Thread nD τ).loc main_arg0)) (m ((c : Thread nD τ).loc main_arg1)) (m ((c : Thread nD τ).loc main_arg2)) (m ((c : Thread nD τ).loc main_arg5)) (z 0) (z 1) (aAt (z 2)))) e.symm)
  refine ((congrFun (after0_18 m c t) _).trans (out18_apply _ _ _ _ _ _ _ _ _ _ _ _ r j)).trans ?_
  rw [feat_blk]
  rfl
theorem final19 : (dats m 0 c).arrAt 19 cfg0.N = fun y : S8x4096x1024.Idx => Ideal.logistic (feat (B := 8) (S := 4096) (m ((c : Thread nD τ).loc main_arg0)) (m ((c : Thread nD τ).loc main_arg1)) (m ((c : Thread nD τ).loc main_arg2)) (m ((c : Thread nD τ).loc main_arg5)) (y 0) (y 1) (bAt (y 2))) := by
  refine (dats m 0 c).arrAt_eq_of_covers 19 _ (by decide +kernel) fun t hf y => ?_
  obtain ⟨r, j, rfl⟩ : ∃ (r : Fin 512) (j : Fin 1024), y = ix3 (0 : Fin 1) r j :=
    ⟨y 1, y 2, ext3 (n0 := 1) (n1 := 512) (n2 := 1024) (Nat.lt_one_iff.1 (y 0).isLt) rfl rfl⟩
  have e : ((cfg0.win 19).blk t).view.emb (ix3 (0 : Fin 1) r j) = ix3 (batch t) (lineOf (block t) r) j :=
    at_rows (batch t) (block t) r j (index_out t).2.2.2.2 rfl rfl rfl
  refine Eq.trans ?_ (congrArg (fun z : S8x4096x1024.Idx => Ideal.logistic (feat (B := 8) (S := 4096) (m ((c : Thread nD τ).loc main_arg0)) (m ((c : Thread nD τ).loc main_arg1)) (m ((c : Thread nD τ).loc main_arg2)) (m ((c : Thread nD τ).loc main_arg5)) (z 0) (z 1) (bAt (z 2)))) e.symm)
  refine ((congrFun (after0_19 m c t) _).trans (out19_apply _ _ _ _ _ _ _ _ _ _ _ _ r j)).trans ?_
  rw [feat_blk]
  rfl

end Cert.Kernel4Ideal.Proj

end
-- ==== Proof.Proj.RefValue.lean ====
/-
  The reference's five results for the input projection at an index.
-/
module

public import proofs.«01_k».proof.Proof.Proj.Row
public import proofs.«01_k».proof.Proof.Tail.RefValue
public import proofs.«01_k».proof.Proof.Gen.Reference4Ideal.Run

@[expose] public section

set_option maxRecDepth 16384

noncomputable section

namespace Cert.Reference4Ideal.Proj

open Cert.Reference4Ideal Cert.Reference4Ideal.Gen Cert.Tail Cert.Proj
open Cert.Reference4Ideal.Facts
open Idealize.ShloMosaic Idealize.ShloMosaic.TcCoe

/-- The rows normed, scaled and shifted. -/
def hidden (x : FVec Ideal S8x4096x1024 .f32) (ada : FVec Ideal S8x9x1024 .f32) (nm : FVec Ideal S1x1024 .f32) : FVec Ideal S8x4096x1024 .f32 :=
  Reference2Ideal.Tail.hidden (Reference2Ideal.Tail.normed x) nm (Reference2Ideal.Tail.cond 4 (by decide) ada) (Reference2Ideal.Tail.cond 3 (by decide) ada)

/-- Their product with the weights. -/
def feats (H : FVec Ideal S8x4096x1024 .f32) (w : FVec Ideal S4096x1024 .bf16) : FVec Ideal S8x4096x4096 .f32 :=
  Host.dotGeneral dot_S8x4096x1024_S4096x1024_S8x4096x4096_2_1_01_0_n_n none H (extf .f32 w bitsLt_bf16_f32)

/-- The latent of every row. -/
def latent (Z : FVec Ideal S8x4096x4096 .f32) : FVec Ideal S8x4096x128 .f32 :=
  extractStridedSlice S8x4096x128 ![0, 0, 256] Z slices_S8x4096x4096_S8x4096x128_0_0_256

/-- The latent over its root mean square, with its weights. -/
def normed (L : FVec Ideal S8x4096x128 .f32) (g : FVec Ideal S1x128 .f32) : FVec Ideal S8x4096x128 .f32 :=
  mulf (mulf L (broadcastInDim S8x4096x128 ![0, 1, 2] bcast_S8x4096x1_S8x4096x128_0_1_2 (Host.rsqrt (addf (Host.divf
    (broadcastInDim S8x4096x1 ![0, 1] bcast_S8x4096_S8x4096x1_0_1 (Host.reduceAdd (mulf L L) (constant S_ .f32 0x00000000#32) reducesTo_S8x4096x128_S8x4096_d2 h_S_))
    (broadcastInDim S8x4096x1 ![] bcast_S_S8x4096x1 (constant S_ .f32 0x43000000#32))) (broadcastInDim S8x4096x1 ![] bcast_S_S8x4096x1 (constant S_ .f32 0x358637BD#32))))))
    (broadcastInDim S8x4096x128 ![0, 1, 2] bcast_S1x1x128_S8x4096x128_0_1_2 (broadcastInDim S1x1x128 ![1, 2] bcast_S1x128_S1x1x128_1_2 g))

/-- The values. -/
def values (N : FVec Ideal S8x4096x128 .f32) (w : FVec Ideal S1024x128 .bf16) (o : FVec Ideal S1024x1 .f32) : FVec Ideal S8x1024x4096 .bf16 :=
  truncf .bf16 (addf (transpose S8x1024x4096 [1, 0, 2] (Host.dotGeneral dot_S1024x128_S8x4096x128_S1024x8x4096_1_2_0_01_n_n none (extf .f32 w bitsLt_bf16_f32) N) transposes_S1024x8x4096_S8x1024x4096_1_0_2)
    (broadcastInDim S8x1024x4096 ![0, 1, 2] bcast_S1x1024x1_S8x1024x4096_0_1_2 (broadcastInDim S1x1024x1 ![1, 2] bcast_S1024x1_S1x1024x1_1_2 o))) bitsLt_bf16_f32

/-- The chunk attention's queries and keys, and a gate. -/
def queries (Z : FVec Ideal S8x4096x4096 .f32) : FVec Ideal S8x4096x512 .bf16 :=
  truncf .bf16 (mulf (extractStridedSlice S8x4096x512 ![0, 0, 512] Z slices_S8x4096x4096_S8x4096x512_0_0_512) (broadcastInDim S8x4096x512 ![] bcast_S_S8x4096x512 (constant S_ .f32 0x3E38AA3B#32))) bitsLt_bf16_f32
def keys (Z : FVec Ideal S8x4096x4096 .f32) : FVec Ideal S8x4096x512 .bf16 :=
  truncf .bf16 (extractStridedSlice S8x4096x512 ![0, 0, 1024] Z slices_S8x4096x4096_S8x4096x512_0_0_1024) bitsLt_bf16_f32
def gate (T : FVec Ideal S8x4096x1024 .f32) : FVec Ideal S8x4096x1024 .bf16 :=
  truncf .bf16 (Host.divf (broadcastInDim S8x4096x1024 ![] bcast_S_S8x4096x1024 (constant S_ .f32 0x3F800000#32)) (addf (broadcastInDim S8x4096x1024 ![] bcast_S_S8x4096x1024 (constant S_ .f32 0x3F800000#32))
    (Host.exp (Host.negf T)))) bitsLt_bf16_f32
def gateA (Z : FVec Ideal S8x4096x4096 .f32) : FVec Ideal S8x4096x1024 .bf16 := gate (extractStridedSlice S8x4096x1024 ![0, 0, 2048] Z slices_S8x4096x4096_S8x4096x1024_0_0_2048)
def gateB (Z : FVec Ideal S8x4096x4096 .f32) : FVec Ideal S8x4096x1024 .bf16 := gate (extractStridedSlice S8x4096x1024 ![0, 0, 3072] Z slices_S8x4096x4096_S8x4096x1024_0_0_3072)

theorem hidden_apply (x : FVec Ideal S8x4096x1024 .f32) (ada : FVec Ideal S8x9x1024 .f32) (nm : FVec Ideal S1x1024 .f32) (b : Fin 8) (s : Fin 4096) (n : Fin 1024) :
    (hidden x ada nm (ix3 b s n) : EReal) = hid (fun i => x (ix3 b s i)) (fun n => nm (ix2 (0 : Fin 1) n)) (fun n => ada (ix3 b (4 : Fin 9) n)) (fun n => ada (ix3 b (3 : Fin 9) n)) n :=
  (Reference2Ideal.Tail.hidden_apply x nm _ _ b s n).trans (congrArg₂ (fun u v : Fin 1024 → EReal => hid _ _ u v n)
    (funext fun n => Reference2Ideal.Tail.cond_apply 4 (by decide) ada b n) (funext fun n => Reference2Ideal.Tail.cond_apply 3 (by decide) ada b n))

theorem feats_apply (H : FVec Ideal S8x4096x1024 .f32) (w : FVec Ideal S4096x1024 .bf16) (b : Fin 8) (s : Fin 4096) (e : Fin 4096) :
    (feats H w (ix3 b s e) : EReal) = ∑ k : Fin 1024, H (ix3 b s k) * w (ix2 e k) := by
  unfold feats
  pointwise

theorem feat_apply (x : FVec Ideal S8x4096x1024 .f32) (ada : FVec Ideal S8x9x1024 .f32) (nm : FVec Ideal S1x1024 .f32) (w : FVec Ideal S4096x1024 .bf16) (b : Fin 8) (s : Fin 4096) :
    (fun e : Fin 4096 => (feats (hidden x ada nm) w (ix3 b s e) : EReal)) = feat (B := 8) (S := 4096) x ada nm w b s :=
  funext fun e => (feats_apply _ w b s e).trans (congrArg (fun f : Fin 1024 → EReal => ∑ k : Fin 1024, f k * w (ix2 e k)) (funext fun k => hidden_apply x ada nm b s k))

variable (Z : FVec Ideal S8x4096x4096 .f32)

theorem latent_apply (b : Fin 8) (s : Fin 4096) (r : Fin 128) : (latent Z (ix3 b s r) : EReal) = Z (ix3 b s (latAt r)) := by
  unfold latent
  pointwise
  rfl

theorem normed_apply (L : FVec Ideal S8x4096x128 .f32) (g : FVec Ideal S1x128 .f32) (b : Fin 8) (s : Fin 4096) (r : Fin 128) :
    (normed L g (ix3 b s r) : EReal)
      = L (ix3 b s r) * Ideal.rsqrt (Ideal.div (∑ i : Fin 128, L (ix3 b s i) * L (ix3 b s i)) (Ideal.ofBits .f32 0x43000000#32) + Ideal.ofBits .f32 0x358637BD#32) * g (ix2 (0 : Fin 1) r) := by
  unfold normed
  pointwise

theorem lat_apply (g : FVec Ideal S1x128 .f32) (b : Fin 8) (s : Fin 4096) (r : Fin 128) : (normed (latent Z) g (ix3 b s r) : EReal) = lat (fun e => Z (ix3 b s e)) g r := by
  rw [normed_apply]
  have h : (fun i : Fin 128 => (latent Z (ix3 b s i) : EReal)) = fun i => Z (ix3 b s (latAt i)) := funext fun i => latent_apply Z b s i
  exact congrArg (fun f : Fin 128 → EReal => f r * Ideal.rsqrt (Ideal.div (∑ i : Fin 128, f i * f i) (Ideal.ofBits .f32 0x43000000#32) + Ideal.ofBits .f32 0x358637BD#32) * g (ix2 (0 : Fin 1) r)) h

theorem values_apply (N : FVec Ideal S8x4096x128 .f32) (w : FVec Ideal S1024x128 .bf16) (o : FVec Ideal S1024x1 .f32) (b : Fin 8) (v : Fin 1024) (s : Fin 4096) :
    (values N w o (ix3 b v s) : EReal) = (∑ r : Fin 128, w (ix2 v r) * N (ix3 b s r)) + o (ix2 v (0 : Fin 1)) := by
  unfold values
  pointwise

theorem val_apply (g : FVec Ideal S1x128 .f32) (w : FVec Ideal S1024x128 .bf16) (o : FVec Ideal S1024x1 .f32) (b : Fin 8) (v : Fin 1024) (s : Fin 4096) :
    (values (normed (latent Z) g) w o (ix3 b v s) : EReal) = val (fun e => Z (ix3 b s e)) g w o v := by
  rw [values_apply]
  exact congrArg (fun f : Fin 128 → EReal => (∑ i : Fin 128, w (ix2 v i) * f i) + o (ix2 v (0 : Fin 1))) (funext fun i => lat_apply Z g b s i)

theorem queries_apply (b : Fin 8) (s : Fin 4096) (j : Fin 512) : (queries Z (ix3 b s j) : EReal) = quer (fun e => Z (ix3 b s e)) j := by
  unfold queries quer
  pointwise
  rfl
theorem keys_apply (b : Fin 8) (s : Fin 4096) (j : Fin 512) : (keys Z (ix3 b s j) : EReal) = Z (ix3 b s (kAt j)) := by
  unfold keys
  pointwise
  rfl
theorem gateA_apply (b : Fin 8) (s : Fin 4096) (j : Fin 1024) : (gateA Z (ix3 b s j) : EReal) = Ideal.logistic (Z (ix3 b s (aAt j))) := by
  unfold gateA gate
  pointwise
  rfl
theorem gateB_apply (b : Fin 8) (s : Fin 4096) (j : Fin 1024) : (gateB Z (ix3 b s j) : EReal) = Ideal.logistic (Z (ix3 b s (bAt j))) := by
  unfold gateB gate
  pointwise
  rfl

end Cert.Reference4Ideal.Proj

end
-- ==== Proof.Proj.Values.lean ====
/-
  Over the extended reals the input projection's kernel computes the reference.
-/
module

public import proofs.«01_k».proof.Defs
public import proofs.«01_k».proof.Proof.Proj.ArrayValue
public import proofs.«01_k».proof.Proof.Proj.RefValue

@[expose] public section

set_option maxRecDepth 16384

noncomputable section

namespace Cert.Reference4Ideal.Proj

open Cert.Reference4Ideal Cert.Reference4Ideal.Gen Cert.Tail Cert.Proj
open Idealize.ShloMosaic Idealize.ShloMosaic.TcCoe Idealize.SL.Sem

variable (m : (ℓ : Loc nD τ sig) → Buf (Elt Ideal) ℓ) (c : Dev nD)

/-- The product of every row with the weights. -/
def every : FVec Ideal S8x4096x4096 .f32 := feats (hidden (m ((c.tc : Thread nD τ).loc main_arg0)) (m ((c.tc : Thread nD τ).loc main_arg1)) (m ((c.tc : Thread nD τ).loc main_arg2))) (m ((c.tc : Thread nD τ).loc main_arg5))

theorem every_apply (b : Fin 8) (s : Fin 4096) :
    (fun e : Fin 4096 => (every m c (ix3 b s e) : EReal)) = feat (B := 8) (S := 4096) (m ((c.tc : Thread nD τ).loc main_arg0)) (m ((c.tc : Thread nD τ).loc main_arg1)) (m ((c.tc : Thread nD τ).loc main_arg2)) (m ((c.tc : Thread nD τ).loc main_arg5)) b s :=
  feat_apply _ _ _ _ b s

/-- The reference's results from that product. -/
theorem run (ρ : Dev nD → PrngReg) : θ_run (defs (F := Ideal)) (onTc (τ := τ) (main (F := Ideal))) ⟨m, fun _ => 0, ρ⟩ fun r => ∀ c : Dev nD,
    r.2.mem ((c.tc : Thread nD τ).loc main_v68) = values (normed (latent (every m c)) (m ((c.tc : Thread nD τ).loc main_arg7))) (m ((c.tc : Thread nD τ).loc main_arg10)) (m ((c.tc : Thread nD τ).loc main_arg11))
    ∧ r.2.mem ((c.tc : Thread nD τ).loc main_v69) = queries (every m c)
    ∧ r.2.mem ((c.tc : Thread nD τ).loc main_v70) = keys (every m c)
    ∧ r.2.mem ((c.tc : Thread nD τ).loc main_v71) = gateA (every m c)
    ∧ r.2.mem ((c.tc : Thread nD τ).loc main_v72) = gateB (every m c)
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8)
    ∧ r.2.mem ((c.tc : Thread nD τ).loc main_arg9) = m ((c.tc : Thread nD τ).loc main_arg9)
    ∧ r.2.mem ((c.tc : Thread nD τ).loc main_arg10) = m ((c.tc : Thread nD τ).loc main_arg10)
    ∧ r.2.mem ((c.tc : Thread nD τ).loc main_arg11) = m ((c.tc : Thread nD τ).loc main_arg11) :=
  Value.run (F := Ideal) m ρ

end Cert.Reference4Ideal.Proj

namespace Cert.Proj

open Idealize.ShloMosaic Idealize.ShloMosaic.TcCoe Idealize.SL.Sem

/-- The ideal kernel computes the reference. -/
theorem algebraic : algebraic_Kernel4Ideal_Reference4Ideal (hKernel4Ideal := Cert.Kernel4Ideal.Gen.facts) (hReference4Ideal := Cert.Reference4Ideal.Gen.facts) := by
  intro m ρ m' ρ' _ hagree
  refine ⟨fun c => fun y : Cert.Kernel4Ideal.S8x1024x4096.Idx => val (feat (B := 8) (S := 4096) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg5)) (y 0) (y 2)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg10)) (m ((c.tc : Thread Cert.Kernel4Ideal.nD Cert.Kernel4Ideal.τ).loc Cert.Kernel4Ideal.main_arg11)) (y 1),
    fun c => fun y : Cert.Kernel4Ideal.S8x4096x512.Idx => quer (feat (B := 8) (S := 4096) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg5)) (y 0) (y 1)) (y 2),
    fun c => fun y : Cert.Kernel4Ideal.S8x4096x512.Idx => feat (B := 8) (S := 4096) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg5)) (y 0) (y 1) (kAt (y 2)),
    fun c => fun y : Cert.Kernel4Ideal.S8x4096x1024.Idx => Ideal.logistic (feat (B := 8) (S := 4096) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg5)) (y 0) (y 1) (aAt (y 2))),
    fun c => fun y : Cert.Kernel4Ideal.S8x4096x1024.Idx => Ideal.logistic (feat (B := 8) (S := 4096) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg5)) (y 0) (y 1) (bAt (y 2))), ?_, ?_⟩
  · refine (θ_run _ _ _).mono (fun r h c => ?_) (Cert.Kernel4Ideal.Value.run_blocks (F := Ideal) m ρ)
    obtain ⟨_, _, h2, h3, h4, _, h6, h7, h8⟩ := h c
    exact ⟨h2.trans (Cert.Kernel4Ideal.Proj.final14 m c), h3.trans (Cert.Kernel4Ideal.Proj.final15 m c), h4.trans (Cert.Kernel4Ideal.Proj.final16 m c),
      h6.trans (Cert.Kernel4Ideal.Proj.final18 m c), h7.trans (Cert.Kernel4Ideal.Proj.final19 m c), h8⟩
  · refine (θ_run _ _ _).mono (fun r h c => ?_) (Cert.Reference4Ideal.Proj.run m' ρ')
    obtain ⟨a0, a1, a2, a3, a4, a5, a6, a7, a8, a9, a10, a11⟩ := hagree c
    obtain ⟨h0, h1, h2, h3, h4, h5⟩ := h c
    have hZ := fun (b : Fin 8) (s : Fin 4096) => Cert.Reference4Ideal.Proj.every_apply m' c b s
    rw [a0, a1, a2, a5] at hZ
    rw [a7, a10, a11] at h0
    refine ⟨h0.trans (funext fun y => ?_), h1.trans (funext fun y => ?_), h2.trans (funext fun y => ?_), h3.trans (funext fun y => ?_), h4.trans (funext fun y => ?_), h5⟩
    · exact (congrArg _ (eq_ix3 y)).trans ((Cert.Reference4Ideal.Proj.val_apply _ _ _ _ (y 0) (y 1) (y 2)).trans (congrArg (fun z => val z _ _ _ (y 1)) (hZ (y 0) (y 2))))
    · exact (congrArg _ (eq_ix3 y)).trans ((Cert.Reference4Ideal.Proj.queries_apply _ (y 0) (y 1) (y 2)).trans (congrArg (fun z => quer z (y 2)) (hZ (y 0) (y 1))))
    · exact (congrArg _ (eq_ix3 y)).trans ((Cert.Reference4Ideal.Proj.keys_apply _ (y 0) (y 1) (y 2)).trans (congrFun (hZ (y 0) (y 1)) (kAt (y 2))))
    · exact (congrArg _ (eq_ix3 y)).trans ((Cert.Reference4Ideal.Proj.gateA_apply _ (y 0) (y 1) (y 2)).trans (congrArg (fun z : Fin 4096 → EReal => Ideal.logistic (z (aAt (y 2)))) (hZ (y 0) (y 1))))
    · exact (congrArg _ (eq_ix3 y)).trans ((Cert.Reference4Ideal.Proj.gateB_apply _ (y 0) (y 1) (y 2)).trans (congrArg (fun z : Fin 4096 → EReal => Ideal.logistic (z (bAt (y 2)))) (hZ (y 0) (y 1))))

end Cert.Proj

end
-- ==== Proof.lean ====
/-
  The attention's claims, the tail's, the first feed-forward's and the input projection's: the kernels and the references terminate with their arguments unchanged
  and every counter at zero, the attention's ideal kernel is its kernel with the mask's constant named, and over
  the extended reals each ideal kernel computes its reference.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Value
public import proofs.«01_k».proof.Proof.Gen.Reference4Ideal
public import proofs.«01_k».proof.Proof.Gen.Reference4Ideal.Run
public import proofs.«01_k».proof.Proof.Mla.Launch
public import proofs.«01_k».proof.Proof.Mla.Values
public import proofs.«01_k».proof.Proof.MlaBits.Launch
public import proofs.«01_k».proof.Proof.Tail.Values
public import proofs.«01_k».proof.Proof.Half.Values
public import proofs.«01_k».proof.Proof.Proj.Values
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The precondition's own side conditions. -/
theorem preFacts : Cert.Pre_ones_row_and_finite.Facts := by
  constructor <;> decide

/-- The reference terminates, its arguments unchanged and every counter at zero. -/
theorem frame_ref : quiescent_ReferenceIdeal (hReferenceIdeal := Cert.ReferenceIdeal.Gen.facts) := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- The tail's reference terminates, its arguments unchanged and every counter at zero. -/
theorem frame_ref2 : quiescent_Reference2Ideal (hReference2Ideal := Cert.Reference2Ideal.Gen.facts) := fun m ρ _ =>
  (θ_run Cert.Reference2Ideal.defs _ _).mono
    (fun r h => ⟨fun c => (h c).2, Idealize.ShloMosaic.sem_eq_zero_of_no_sems (by decide) r.2⟩)
    (Cert.Reference2Ideal.Value.run (F := Ideal) m ρ)

/-- The first feed-forward's reference terminates, its arguments unchanged and every counter at zero. -/
theorem frame_ref3 : quiescent_Reference3Ideal (hReference3Ideal := Cert.Reference3Ideal.Gen.facts) := fun m ρ _ =>
  (θ_run Cert.Reference3Ideal.defs _ _).mono
    (fun r h => ⟨fun c => (h c).2, Idealize.ShloMosaic.sem_eq_zero_of_no_sems (by decide) r.2⟩)
    (Cert.Reference3Ideal.Value.run (F := Ideal) m ρ)

/-- The input projection's reference terminates, its arguments unchanged and every counter at zero. -/
theorem frame_ref4 : quiescent_Reference4Ideal (hReference4Ideal := Cert.Reference4Ideal.Gen.facts) := fun m ρ _ =>
  (θ_run Cert.Reference4Ideal.defs _ _).mono
    (fun r h => ⟨fun c => (h c).2.2.2.2.2, Idealize.ShloMosaic.sem_eq_zero_of_no_sems (by decide) r.2⟩)
    (Cert.Reference4Ideal.Value.run (F := Ideal) m ρ)

theorem claim : Cert.Claim :=
  ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, preFacts,
    fun m ρ _ => Cert.Kernel.Mla.frame m ρ,
    fun m ρ _ => Cert.KernelIdeal.Mla.frame m ρ,
    fun m ρ _ => Cert.KernelIdeal.Mla.frame m ρ,
    frame_ref,
    fun m ρ _ => frame_ref m ρ trivial,
    fun m ρ _ => Cert.Kernel2.Gen.frame m ρ,
    fun m ρ _ => Cert.Kernel2Ideal.Gen.frame m ρ,
    frame_ref2,
    fun m ρ _ => Cert.Kernel3.Gen.frame m ρ,
    fun m ρ _ => Cert.Kernel3Ideal.Gen.frame m ρ,
    frame_ref3,
    fun m ρ _ => Cert.Kernel4.Gen.frame m ρ,
    fun m ρ _ => Cert.Kernel4Ideal.Gen.frame m ρ,
    frame_ref4,
    IdealRules.named_const.statement Cert.KernelIdeal.κ "mask" .f32 0xF149F2CA#32 ⊥ rfl,
    Cert.Values.algebraic (hPre := preFacts),
    trivial,
    Cert.Tail.algebraic,
    trivial,
    Cert.Half.algebraic,
    trivial,
    Cert.Proj.algebraic⟩

end Cert.Proof

end
